-- ==== Defs.lean ====
def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite [hPre_finite : Cert.Pre_finite.Facts] (m : (ℓ : Loc Cert.PoolIdeal.nD Cert.PoolIdeal.τ Cert.PoolIdeal.sig) → Buf (Elt Ideal) ℓ) : Prop :=
  ∀ c : Dev Cert.PoolIdeal.nD,
    (Cert.Pre_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite [hPre_finite : Cert.Pre_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnPre (m : (ℓ : Loc Cert.FfnPre.nD Cert.FfnPre.τ Cert.FfnPre.sig) → Buf (Elt Bits) ℓ) : Prop :=
  True

def Pre_FfnPreIdeal (m : (ℓ : Loc Cert.FfnPreIdeal.nD Cert.FfnPreIdeal.τ Cert.FfnPreIdeal.sig) → Buf (Elt Ideal) ℓ) : Prop :=
  True

def Pre_FfnPreRefIdeal (m : (ℓ : Loc Cert.FfnPreRefIdeal.nD Cert.FfnPreRefIdeal.τ Cert.FfnPreRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0)

def quiescent_PoolIdeal_pre_finite [hPoolIdeal : Cert.PoolIdeal.Facts] [hPre_finite : Cert.Pre_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6))
      ∧ r.2.sem = fun _ => 0)

def quiescent_PoolRefIdeal_pre_finite [hPoolRefIdeal : Cert.PoolRefIdeal.Facts] [hPre_finite : Cert.Pre_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnPre [hFfnPre : Cert.FfnPre.Facts] : Prop :=
  ∀ (m : (ℓ : Loc Cert.FfnPre.nD Cert.FfnPre.τ Cert.FfnPre.sig) → Buf (Elt Bits) ℓ) (g : Dev Cert.FfnPre.nD → PrngReg), Pre_FfnPre m →
    θ_run (Cert.FfnPre.defs (F := Bits)) (onTc (τ := Cert.FfnPre.τ) (Cert.FfnPre.main (F := Bits))) ⟨m, fun _ => 0, g⟩ (fun r => (∀ c : Dev Cert.FfnPre.nD,
      r.2.mem ((c.tc : Thread Cert.FfnPre.nD Cert.FfnPre.τ).loc Cert.FfnPre.main_arg0) = m ((c.tc : Thread Cert.FfnPre.nD Cert.FfnPre.τ).loc Cert.FfnPre.main_arg0)
      ∧ r.2.mem ((c.tc : Thread Cert.FfnPre.nD Cert.FfnPre.τ).loc Cert.FfnPre.main_arg1) = m ((c.tc : Thread Cert.FfnPre.nD Cert.FfnPre.τ).loc Cert.FfnPre.main_arg1)
      ∧ r.2.mem ((c.tc : Thread Cert.FfnPre.nD Cert.FfnPre.τ).loc Cert.FfnPre.main_arg2) = m ((c.tc : Thread Cert.FfnPre.nD Cert.FfnPre.τ).loc Cert.FfnPre.main_arg2)
      ∧ r.2.mem ((c.tc : Thread Cert.FfnPre.nD Cert.FfnPre.τ).loc Cert.FfnPre.main_arg3) = m ((c.tc : Thread Cert.FfnPre.nD Cert.FfnPre.τ).loc Cert.FfnPre.main_arg3)
      ∧ r.2.mem ((c.tc : Thread Cert.FfnPre.nD Cert.FfnPre.τ).loc Cert.FfnPre.main_arg4) = m ((c.tc : Thread Cert.FfnPre.nD Cert.FfnPre.τ).loc Cert.FfnPre.main_arg4)
      ∧ r.2.mem ((c.tc : Thread Cert.FfnPre.nD Cert.FfnPre.τ).loc Cert.FfnPre.main_arg5) = m ((c.tc : Thread Cert.FfnPre.nD Cert.FfnPre.τ).loc Cert.FfnPre.main_arg5)
      ∧ r.2.mem ((c.tc : Thread Cert.FfnPre.nD Cert.FfnPre.τ).loc Cert.FfnPre.main_arg6) = m ((c.tc : Thread Cert.FfnPre.nD Cert.FfnPre.τ).loc Cert.FfnPre.main_arg6)
      ∧ r.2.mem ((c.tc : Thread Cert.FfnPre.nD Cert.FfnPre.τ).loc Cert.FfnPre.main_arg7) = m ((c.tc : Thread Cert.FfnPre.nD Cert.FfnPre.τ).loc Cert.FfnPre.main_arg7)
      ∧ r.2.mem ((c.tc : Thread Cert.FfnPre.nD Cert.FfnPre.τ).loc Cert.FfnPre.main_arg8) = m ((c.tc : Thread Cert.FfnPre.nD Cert.FfnPre.τ).loc Cert.FfnPre.main_arg8))
      ∧ r.2.sem = fun _ => 0)

def quiescent_FfnPreIdeal [hFfnPreIdeal : Cert.FfnPreIdeal.Facts] : Prop :=
  ∀ (m : (ℓ : Loc Cert.FfnPreIdeal.nD Cert.FfnPreIdeal.τ Cert.FfnPreIdeal.sig) → Buf (Elt Ideal) ℓ) (g : Dev Cert.FfnPreIdeal.nD → PrngReg), Pre_FfnPreIdeal m →
    θ_run (Cert.FfnPreIdeal.defs (F := Ideal)) (onTc (τ := Cert.FfnPreIdeal.τ) (Cert.FfnPreIdeal.main (F := Ideal))) ⟨m, fun _ => 0, g⟩ (fun r => (∀ c : Dev Cert.FfnPreIdeal.nD,
      r.2.mem ((c.tc : Thread Cert.FfnPreIdeal.nD Cert.FfnPreIdeal.τ).loc Cert.FfnPreIdeal.main_arg0) = m ((c.tc : Thread Cert.FfnPreIdeal.nD Cert.FfnPreIdeal.τ).loc Cert.FfnPreIdeal.main_arg0)
      ∧ r.2.mem ((c.tc : Thread Cert.FfnPreIdeal.nD Cert.FfnPreIdeal.τ).loc Cert.FfnPreIdeal.main_arg1) = m ((c.tc : Thread Cert.FfnPreIdeal.nD Cert.FfnPreIdeal.τ).loc Cert.FfnPreIdeal.main_arg1)
      ∧ r.2.mem ((c.tc : Thread Cert.FfnPreIdeal.nD Cert.FfnPreIdeal.τ).loc Cert.FfnPreIdeal.main_arg2) = m ((c.tc : Thread Cert.FfnPreIdeal.nD Cert.FfnPreIdeal.τ).loc Cert.FfnPreIdeal.main_arg2)
      ∧ r.2.mem ((c.tc : Thread Cert.FfnPreIdeal.nD Cert.FfnPreIdeal.τ).loc Cert.FfnPreIdeal.main_arg3) = m ((c.tc : Thread Cert.FfnPreIdeal.nD Cert.FfnPreIdeal.τ).loc Cert.FfnPreIdeal.main_arg3)
      ∧ r.2.mem ((c.tc : Thread Cert.FfnPreIdeal.nD Cert.FfnPreIdeal.τ).loc Cert.FfnPreIdeal.main_arg4) = m ((c.tc : Thread Cert.FfnPreIdeal.nD Cert.FfnPreIdeal.τ).loc Cert.FfnPreIdeal.main_arg4)
      ∧ r.2.mem ((c.tc : Thread Cert.FfnPreIdeal.nD Cert.FfnPreIdeal.τ).loc Cert.FfnPreIdeal.main_arg5) = m ((c.tc : Thread Cert.FfnPreIdeal.nD Cert.FfnPreIdeal.τ).loc Cert.FfnPreIdeal.main_arg5)
      ∧ r.2.mem ((c.tc : Thread Cert.FfnPreIdeal.nD Cert.FfnPreIdeal.τ).loc Cert.FfnPreIdeal.main_arg6) = m ((c.tc : Thread Cert.FfnPreIdeal.nD Cert.FfnPreIdeal.τ).loc Cert.FfnPreIdeal.main_arg6)
      ∧ r.2.mem ((c.tc : Thread Cert.FfnPreIdeal.nD Cert.FfnPreIdeal.τ).loc Cert.FfnPreIdeal.main_arg7) = m ((c.tc : Thread Cert.FfnPreIdeal.nD Cert.FfnPreIdeal.τ).loc Cert.FfnPreIdeal.main_arg7)
      ∧ r.2.mem ((c.tc : Thread Cert.FfnPreIdeal.nD Cert.FfnPreIdeal.τ).loc Cert.FfnPreIdeal.main_arg8) = m ((c.tc : Thread Cert.FfnPreIdeal.nD Cert.FfnPreIdeal.τ).loc Cert.FfnPreIdeal.main_arg8))
      ∧ r.2.sem = fun _ => 0)

def quiescent_FfnPreRefIdeal [hFfnPreRefIdeal : Cert.FfnPreRefIdeal.Facts] : Prop :=
  ∀ (m : (ℓ : Loc Cert.FfnPreRefIdeal.nD Cert.FfnPreRefIdeal.τ Cert.FfnPreRefIdeal.sig) → Buf (Elt Ideal) ℓ) (g : Dev Cert.FfnPreRefIdeal.nD → PrngReg), Pre_FfnPreRefIdeal m →
    θ_run (Cert.FfnPreRefIdeal.defs (F := Ideal)) (onTc (τ := Cert.FfnPreRefIdeal.τ) (Cert.FfnPreRefIdeal.main (F := Ideal))) ⟨m, fun _ => 0, g⟩ (fun r => (∀ c : Dev Cert.FfnPreRefIdeal.nD,
      r.2.mem ((c.tc : Thread Cert.FfnPreRefIdeal.nD Cert.FfnPreRefIdeal.τ).loc Cert.FfnPreRefIdeal.main_arg0) = m ((c.tc : Thread Cert.FfnPreRefIdeal.nD Cert.FfnPreRefIdeal.τ).loc Cert.FfnPreRefIdeal.main_arg0)
      ∧ r.2.mem ((c.tc : Thread Cert.FfnPreRefIdeal.nD Cert.FfnPreRefIdeal.τ).loc Cert.FfnPreRefIdeal.main_arg1) = m ((c.tc : Thread Cert.FfnPreRefIdeal.nD Cert.FfnPreRefIdeal.τ).loc Cert.FfnPreRefIdeal.main_arg1)
      ∧ r.2.mem ((c.tc : Thread Cert.FfnPreRefIdeal.nD Cert.FfnPreRefIdeal.τ).loc Cert.FfnPreRefIdeal.main_arg2) = m ((c.tc : Thread Cert.FfnPreRefIdeal.nD Cert.FfnPreRefIdeal.τ).loc Cert.FfnPreRefIdeal.main_arg2)
      ∧ r.2.mem ((c.tc : Thread Cert.FfnPreRefIdeal.nD Cert.FfnPreRefIdeal.τ).loc Cert.FfnPreRefIdeal.main_arg3) = m ((c.tc : Thread Cert.FfnPreRefIdeal.nD Cert.FfnPreRefIdeal.τ).loc Cert.FfnPreRefIdeal.main_arg3)
      ∧ r.2.mem ((c.tc : Thread Cert.FfnPreRefIdeal.nD Cert.FfnPreRefIdeal.τ).loc Cert.FfnPreRefIdeal.main_arg4) = m ((c.tc : Thread Cert.FfnPreRefIdeal.nD Cert.FfnPreRefIdeal.τ).loc Cert.FfnPreRefIdeal.main_arg4)
      ∧ r.2.mem ((c.tc : Thread Cert.FfnPreRefIdeal.nD Cert.FfnPreRefIdeal.τ).loc Cert.FfnPreRefIdeal.main_arg5) = m ((c.tc : Thread Cert.FfnPreRefIdeal.nD Cert.FfnPreRefIdeal.τ).loc Cert.FfnPreRefIdeal.main_arg5)
      ∧ r.2.mem ((c.tc : Thread Cert.FfnPreRefIdeal.nD Cert.FfnPreRefIdeal.τ).loc Cert.FfnPreRefIdeal.main_arg6) = m ((c.tc : Thread Cert.FfnPreRefIdeal.nD Cert.FfnPreRefIdeal.τ).loc Cert.FfnPreRefIdeal.main_arg6)
      ∧ r.2.mem ((c.tc : Thread Cert.FfnPreRefIdeal.nD Cert.FfnPreRefIdeal.τ).loc Cert.FfnPreRefIdeal.main_arg7) = m ((c.tc : Thread Cert.FfnPreRefIdeal.nD Cert.FfnPreRefIdeal.τ).loc Cert.FfnPreRefIdeal.main_arg7)
      ∧ r.2.mem ((c.tc : Thread Cert.FfnPreRefIdeal.nD Cert.FfnPreRefIdeal.τ).loc Cert.FfnPreRefIdeal.main_arg8) = m ((c.tc : Thread Cert.FfnPreRefIdeal.nD Cert.FfnPreRefIdeal.τ).loc Cert.FfnPreRefIdeal.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def preserves_Pool_PoolIdeal : Prop :=
  True

def algebraic_PoolIdeal_PoolRefIdeal_pre_finite [hPoolIdeal : Cert.PoolIdeal.Facts] [hPoolRefIdeal : Cert.PoolRefIdeal.Facts] [hPre_finite : Cert.Pre_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)) →
    ∃ (v0 : (c : Dev Cert.PoolIdeal.nD) → Buf (Elt Ideal) ((c.tc : Thread Cert.PoolIdeal.nD Cert.PoolIdeal.τ).loc Cert.PoolIdeal.main_v6)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v6) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v92) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnPre_FfnPreIdeal : Prop :=
  True

def algebraic_FfnPreIdeal_FfnPreRefIdeal [hFfnPreIdeal : Cert.FfnPreIdeal.Facts] [hFfnPreRefIdeal : Cert.FfnPreRefIdeal.Facts] : Prop :=
  ∀ (m : (ℓ : Loc Cert.FfnPreIdeal.nD Cert.FfnPreIdeal.τ Cert.FfnPreIdeal.sig) → Buf (Elt Ideal) ℓ) (g : Dev Cert.FfnPreIdeal.nD → PrngReg)
    (m' : (ℓ : Loc Cert.FfnPreRefIdeal.nD Cert.FfnPreRefIdeal.τ Cert.FfnPreRefIdeal.sig) → Buf (Elt Ideal) ℓ) (g' : Dev Cert.FfnPreRefIdeal.nD → PrngReg), Pre_FfnPreIdeal m →
    (∀ c : Dev Cert.FfnPreIdeal.nD,
      m' ((c.tc : Thread Cert.FfnPreRefIdeal.nD Cert.FfnPreRefIdeal.τ).loc Cert.FfnPreRefIdeal.main_arg0) = m ((c.tc : Thread Cert.FfnPreIdeal.nD Cert.FfnPreIdeal.τ).loc Cert.FfnPreIdeal.main_arg0)
      ∧ m' ((c.tc : Thread Cert.FfnPreRefIdeal.nD Cert.FfnPreRefIdeal.τ).loc Cert.FfnPreRefIdeal.main_arg1) = m ((c.tc : Thread Cert.FfnPreIdeal.nD Cert.FfnPreIdeal.τ).loc Cert.FfnPreIdeal.main_arg1)
      ∧ m' ((c.tc : Thread Cert.FfnPreRefIdeal.nD Cert.FfnPreRefIdeal.τ).loc Cert.FfnPreRefIdeal.main_arg2) = m ((c.tc : Thread Cert.FfnPreIdeal.nD Cert.FfnPreIdeal.τ).loc Cert.FfnPreIdeal.main_arg2)
      ∧ m' ((c.tc : Thread Cert.FfnPreRefIdeal.nD Cert.FfnPreRefIdeal.τ).loc Cert.FfnPreRefIdeal.main_arg3) = m ((c.tc : Thread Cert.FfnPreIdeal.nD Cert.FfnPreIdeal.τ).loc Cert.FfnPreIdeal.main_arg3)
      ∧ m' ((c.tc : Thread Cert.FfnPreRefIdeal.nD Cert.FfnPreRefIdeal.τ).loc Cert.FfnPreRefIdeal.main_arg4) = m ((c.tc : Thread Cert.FfnPreIdeal.nD Cert.FfnPreIdeal.τ).loc Cert.FfnPreIdeal.main_arg4)
      ∧ m' ((c.tc : Thread Cert.FfnPreRefIdeal.nD Cert.FfnPreRefIdeal.τ).loc Cert.FfnPreRefIdeal.main_arg5) = m ((c.tc : Thread Cert.FfnPreIdeal.nD Cert.FfnPreIdeal.τ).loc Cert.FfnPreIdeal.main_arg5)
      ∧ m' ((c.tc : Thread Cert.FfnPreRefIdeal.nD Cert.FfnPreRefIdeal.τ).loc Cert.FfnPreRefIdeal.main_arg6) = m ((c.tc : Thread Cert.FfnPreIdeal.nD Cert.FfnPreIdeal.τ).loc Cert.FfnPreIdeal.main_arg6)
      ∧ m' ((c.tc : Thread Cert.FfnPreRefIdeal.nD Cert.FfnPreRefIdeal.τ).loc Cert.FfnPreRefIdeal.main_arg7) = m ((c.tc : Thread Cert.FfnPreIdeal.nD Cert.FfnPreIdeal.τ).loc Cert.FfnPreIdeal.main_arg7)
      ∧ m' ((c.tc : Thread Cert.FfnPreRefIdeal.nD Cert.FfnPreRefIdeal.τ).loc Cert.FfnPreRefIdeal.main_arg8) = m ((c.tc : Thread Cert.FfnPreIdeal.nD Cert.FfnPreIdeal.τ).loc Cert.FfnPreIdeal.main_arg8)) →
    ∃ (v0 : (c : Dev Cert.FfnPreIdeal.nD) → Buf (Elt Ideal) ((c.tc : Thread Cert.FfnPreIdeal.nD Cert.FfnPreIdeal.τ).loc Cert.FfnPreIdeal.main_v5)),
      θ_run (Cert.FfnPreIdeal.defs (F := Ideal)) (onTc (τ := Cert.FfnPreIdeal.τ) (Cert.FfnPreIdeal.main (F := Ideal))) ⟨m, fun _ => 0, g⟩ (fun r => ∀ c : Dev Cert.FfnPreIdeal.nD,
          r.2.mem ((c.tc : Thread Cert.FfnPreIdeal.nD Cert.FfnPreIdeal.τ).loc Cert.FfnPreIdeal.main_v5) = v0 c
          ∧ r.2.mem ((c.tc : Thread Cert.FfnPreIdeal.nD Cert.FfnPreIdeal.τ).loc Cert.FfnPreIdeal.main_arg0) = m ((c.tc : Thread Cert.FfnPreIdeal.nD Cert.FfnPreIdeal.τ).loc Cert.FfnPreIdeal.main_arg0)
          ∧ r.2.mem ((c.tc : Thread Cert.FfnPreIdeal.nD Cert.FfnPreIdeal.τ).loc Cert.FfnPreIdeal.main_arg1) = m ((c.tc : Thread Cert.FfnPreIdeal.nD Cert.FfnPreIdeal.τ).loc Cert.FfnPreIdeal.main_arg1)
          ∧ r.2.mem ((c.tc : Thread Cert.FfnPreIdeal.nD Cert.FfnPreIdeal.τ).loc Cert.FfnPreIdeal.main_arg2) = m ((c.tc : Thread Cert.FfnPreIdeal.nD Cert.FfnPreIdeal.τ).loc Cert.FfnPreIdeal.main_arg2)
          ∧ r.2.mem ((c.tc : Thread Cert.FfnPreIdeal.nD Cert.FfnPreIdeal.τ).loc Cert.FfnPreIdeal.main_arg3) = m ((c.tc : Thread Cert.FfnPreIdeal.nD Cert.FfnPreIdeal.τ).loc Cert.FfnPreIdeal.main_arg3)
          ∧ r.2.mem ((c.tc : Thread Cert.FfnPreIdeal.nD Cert.FfnPreIdeal.τ).loc Cert.FfnPreIdeal.main_arg4) = m ((c.tc : Thread Cert.FfnPreIdeal.nD Cert.FfnPreIdeal.τ).loc Cert.FfnPreIdeal.main_arg4)
          ∧ r.2.mem ((c.tc : Thread Cert.FfnPreIdeal.nD Cert.FfnPreIdeal.τ).loc Cert.FfnPreIdeal.main_arg5) = m ((c.tc : Thread Cert.FfnPreIdeal.nD Cert.FfnPreIdeal.τ).loc Cert.FfnPreIdeal.main_arg5)
          ∧ r.2.mem ((c.tc : Thread Cert.FfnPreIdeal.nD Cert.FfnPreIdeal.τ).loc Cert.FfnPreIdeal.main_arg6) = m ((c.tc : Thread Cert.FfnPreIdeal.nD Cert.FfnPreIdeal.τ).loc Cert.FfnPreIdeal.main_arg6)
          ∧ r.2.mem ((c.tc : Thread Cert.FfnPreIdeal.nD Cert.FfnPreIdeal.τ).loc Cert.FfnPreIdeal.main_arg7) = m ((c.tc : Thread Cert.FfnPreIdeal.nD Cert.FfnPreIdeal.τ).loc Cert.FfnPreIdeal.main_arg7)
          ∧ r.2.mem ((c.tc : Thread Cert.FfnPreIdeal.nD Cert.FfnPreIdeal.τ).loc Cert.FfnPreIdeal.main_arg8) = m ((c.tc : Thread Cert.FfnPreIdeal.nD Cert.FfnPreIdeal.τ).loc Cert.FfnPreIdeal.main_arg8))
      ∧ θ_run (Cert.FfnPreRefIdeal.defs (F := Ideal)) (onTc (τ := Cert.FfnPreRefIdeal.τ) (Cert.FfnPreRefIdeal.main (F := Ideal))) ⟨m', fun _ => 0, g'⟩ (fun r => ∀ c : Dev Cert.FfnPreRefIdeal.nD,
          r.2.mem ((c.tc : Thread Cert.FfnPreRefIdeal.nD Cert.FfnPreRefIdeal.τ).loc Cert.FfnPreRefIdeal.main_v67) = v0 c
          ∧ r.2.mem ((c.tc : Thread Cert.FfnPreRefIdeal.nD Cert.FfnPreRefIdeal.τ).loc Cert.FfnPreRefIdeal.main_arg0) = m' ((c.tc : Thread Cert.FfnPreRefIdeal.nD Cert.FfnPreRefIdeal.τ).loc Cert.FfnPreRefIdeal.main_arg0)
          ∧ r.2.mem ((c.tc : Thread Cert.FfnPreRefIdeal.nD Cert.FfnPreRefIdeal.τ).loc Cert.FfnPreRefIdeal.main_arg1) = m' ((c.tc : Thread Cert.FfnPreRefIdeal.nD Cert.FfnPreRefIdeal.τ).loc Cert.FfnPreRefIdeal.main_arg1)
          ∧ r.2.mem ((c.tc : Thread Cert.FfnPreRefIdeal.nD Cert.FfnPreRefIdeal.τ).loc Cert.FfnPreRefIdeal.main_arg2) = m' ((c.tc : Thread Cert.FfnPreRefIdeal.nD Cert.FfnPreRefIdeal.τ).loc Cert.FfnPreRefIdeal.main_arg2)
          ∧ r.2.mem ((c.tc : Thread Cert.FfnPreRefIdeal.nD Cert.FfnPreRefIdeal.τ).loc Cert.FfnPreRefIdeal.main_arg3) = m' ((c.tc : Thread Cert.FfnPreRefIdeal.nD Cert.FfnPreRefIdeal.τ).loc Cert.FfnPreRefIdeal.main_arg3)
          ∧ r.2.mem ((c.tc : Thread Cert.FfnPreRefIdeal.nD Cert.FfnPreRefIdeal.τ).loc Cert.FfnPreRefIdeal.main_arg4) = m' ((c.tc : Thread Cert.FfnPreRefIdeal.nD Cert.FfnPreRefIdeal.τ).loc Cert.FfnPreRefIdeal.main_arg4)
          ∧ r.2.mem ((c.tc : Thread Cert.FfnPreRefIdeal.nD Cert.FfnPreRefIdeal.τ).loc Cert.FfnPreRefIdeal.main_arg5) = m' ((c.tc : Thread Cert.FfnPreRefIdeal.nD Cert.FfnPreRefIdeal.τ).loc Cert.FfnPreRefIdeal.main_arg5)
          ∧ r.2.mem ((c.tc : Thread Cert.FfnPreRefIdeal.nD Cert.FfnPreRefIdeal.τ).loc Cert.FfnPreRefIdeal.main_arg6) = m' ((c.tc : Thread Cert.FfnPreRefIdeal.nD Cert.FfnPreRefIdeal.τ).loc Cert.FfnPreRefIdeal.main_arg6)
          ∧ r.2.mem ((c.tc : Thread Cert.FfnPreRefIdeal.nD Cert.FfnPreRefIdeal.τ).loc Cert.FfnPreRefIdeal.main_arg7) = m' ((c.tc : Thread Cert.FfnPreRefIdeal.nD Cert.FfnPreRefIdeal.τ).loc Cert.FfnPreRefIdeal.main_arg7)
          ∧ r.2.mem ((c.tc : Thread Cert.FfnPreRefIdeal.nD Cert.FfnPreRefIdeal.τ).loc Cert.FfnPreRefIdeal.main_arg8) = m' ((c.tc : Thread Cert.FfnPreRefIdeal.nD Cert.FfnPreRefIdeal.τ).loc Cert.FfnPreRefIdeal.main_arg8))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v9_0)) (v1 : (c : Dev Cert.QkvIdeal.nD) → Buf (Elt Ideal) ((c.tc : Thread Cert.QkvIdeal.nD Cert.QkvIdeal.τ).loc Cert.QkvIdeal.main_v9_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v9_0) = v0 c
          ∧ r.2.mem ((c.tc : Thread Cert.QkvIdeal.nD Cert.QkvIdeal.τ).loc Cert.QkvIdeal.main_v9_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v11) = v0 c
          ∧ r.2.mem ((c.tc : Thread Cert.QkvRefIdeal.nD Cert.QkvRefIdeal.τ).loc Cert.QkvRefIdeal.main_v13) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def Claim : Prop :=
  ∃ (hPool : Cert.Pool.Facts) (hPoolIdeal : Cert.PoolIdeal.Facts) (hPoolRefIdeal : Cert.PoolRefIdeal.Facts) (hFfn : Cert.Ffn.Facts) (hFfnIdeal : Cert.FfnIdeal.Facts) (hFfnRefIdeal : Cert.FfnRefIdeal.Facts) (hFfnPre : Cert.FfnPre.Facts) (hFfnPreIdeal : Cert.FfnPreIdeal.Facts) (hFfnPreRefIdeal : Cert.FfnPreRefIdeal.Facts) (hQkv : Cert.Qkv.Facts) (hQkvIdeal : Cert.QkvIdeal.Facts) (hQkvRefIdeal : Cert.QkvRefIdeal.Facts) (hPre_finite : Cert.Pre_finite.Facts),
    quiescent_Pool (hPool := hPool)
    ∧ quiescent_PoolIdeal (hPoolIdeal := hPoolIdeal)
    ∧ quiescent_PoolIdeal_pre_finite (hPoolIdeal := hPoolIdeal) (hPre_finite := hPre_finite)
    ∧ quiescent_PoolRefIdeal (hPoolRefIdeal := hPoolRefIdeal)
    ∧ quiescent_PoolRefIdeal_pre_finite (hPoolRefIdeal := hPoolRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_FfnPre (hFfnPre := hFfnPre)
    ∧ quiescent_FfnPreIdeal (hFfnPreIdeal := hFfnPreIdeal)
    ∧ quiescent_FfnPreRefIdeal (hFfnPreRefIdeal := hFfnPreRefIdeal)
    ∧ quiescent_Qkv (hQkv := hQkv)
    ∧ quiescent_QkvIdeal (hQkvIdeal := hQkvIdeal)
    ∧ quiescent_QkvRefIdeal (hQkvRefIdeal := hQkvRefIdeal)
    ∧ preserves_Pool_PoolIdeal
    ∧ algebraic_PoolIdeal_PoolRefIdeal_pre_finite (hPoolIdeal := hPoolIdeal) (hPoolRefIdeal := hPoolRefIdeal) (hPre_finite := hPre_finite)
    ∧ preserves_Ffn_FfnIdeal
    ∧ algebraic_FfnIdeal_FfnRefIdeal (hFfnIdeal := hFfnIdeal) (hFfnRefIdeal := hFfnRefIdeal)
    ∧ preserves_FfnPre_FfnPreIdeal
    ∧ algebraic_FfnPreIdeal_FfnPreRefIdeal (hFfnPreIdeal := hFfnPreIdeal) (hFfnPreRefIdeal := hFfnPreRefIdeal)
    ∧ preserves_Qkv_QkvIdeal
    ∧ algebraic_QkvIdeal_QkvRefIdeal (hQkvIdeal := hQkvIdeal) (hQkvRefIdeal := hQkvRefIdeal)
-- ==== Pre_finite.lean ====
abbrev S16384x1024 : Shape := ⟨2, ![16384, 1024]⟩
abbrev S1024x1024 : Shape := ⟨2, ![1024, 1024]⟩
abbrev S4x256x256 : Shape := ⟨3, ![4, 256, 256]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : FVec F S1024x1024 .f32) (main_arg2 : FVec F S4x256x256 .f32) (main_arg3 : FVec F S1024 .f32) (main_arg4 : FVec F S1024x1024 .f32) (main_arg5 : FVec F S1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Pool.lean ====
abbrev S16384x1024 : Shape := ⟨2, ![16384, 1024]⟩
abbrev S1024x1024 : Shape := ⟨2, ![1024, 1024]⟩
abbrev S4x256x256 : Shape := ⟨3, ![4, 256, 256]⟩
abbrev S1024 : Shape := ⟨1, ![1024]⟩
abbrev S1x1024 : Shape := ⟨2, ![1, 1024]⟩
abbrev S16x1024 : Shape := ⟨2, ![16, 1024]⟩
abbrev S1040x1024 : Shape := ⟨2, ![1040, 1024]⟩
abbrev S1024x256 : Shape := ⟨2, ![1024, 256]⟩
abbrev S1040x256 : Shape := ⟨2, ![1040, 256]⟩
abbrev S1x256x256 : Shape := ⟨3, ![1, 256, 256]⟩
abbrev S256x256 : Shape := ⟨2, ![256, 256]⟩
abbrev S1x256 : Shape := ⟨2, ![1, 256]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S4x256x256, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S4x256x256, .bf16⟩
  | .hbm, ⟨9, _⟩ => ⟨S1x1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .bf16⟩
  | .local _ .vmem, ⟨5, _⟩ => ⟨S4x256x256, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1040x1024, .f32⟩
  | .local _ .vmem, ⟨13, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PoolRefIdeal.lean ====
abbrev S16384x1024 : Shape := ⟨2, ![16384, 1024]⟩
abbrev S1024x1024 : Shape := ⟨2, ![1024, 1024]⟩
abbrev S4x256x256 : Shape := ⟨3, ![4, 256, 256]⟩
abbrev S1024 : Shape := ⟨1, ![1024]⟩
abbrev S4x4096x1024 : Shape := ⟨3, ![4, 4096, 1024]⟩
abbrev S4096 : Shape := ⟨1, ![4096]⟩
abbrev S_ : Shape := ⟨0, ![]⟩
abbrev S4x4096x256 : Shape := ⟨3, ![4, 4096, 256]⟩
abbrev S4x4098x256 : Shape := ⟨3, ![4, 4098, 256]⟩
abbrev S4096x1 : Shape := ⟨2, ![4096, 1]⟩
abbrev S1x4096x1 : Shape := ⟨3, ![1, 4096, 1]⟩
abbrev S4x4100x256 : Shape := ⟨3, ![4, 4100, 256]⟩
abbrev S4x4104x256 : Shape := ⟨3, ![4, 4104, 256]⟩
abbrev S4x4112x256 : Shape := ⟨3, ![4, 4112, 256]⟩
abbrev S4x4096x1x256 : Shape := ⟨4, ![4, 4096, 1, 256]⟩
abbrev S4x4096x4x256 : Shape := ⟨4, ![4, 4096, 4, 256]⟩
abbrev S4x256x4x4096 : Shape := ⟨4, ![4, 256, 4, 4096]⟩
abbrev S1x1x1024 : Shape := ⟨3, ![1, 1, 1024]⟩
abbrev S4x4096 : Shape := ⟨2, ![4, 4096]⟩
abbrev S4x4096x1 : Shape := ⟨3, ![4, 4096, 1]⟩

abbrev nBuf : Space → Nat
  | .hbm => 127
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S4x256x256, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S4x4096x1024, .f32⟩
  | .hbm, ⟨8, _⟩ => ⟨S4x4096x1024, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4x4096x256, .f32⟩
  | .hbm, ⟨14, _⟩ => ⟨S_, .f32⟩
  | .hbm, ⟨15, _⟩ => ⟨S_, .f32⟩
  | .hbm, ⟨16, _⟩ => ⟨S4x4096x256, .f32⟩
  | .hbm, ⟨17, _⟩ => ⟨S_, .i32⟩
  | .hbm, ⟨18, _⟩ => ⟨S_, .f32⟩
  | .hbm, ⟨19, _⟩ => ⟨S4x4098x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1, .f32⟩
  | .hbm, ⟨26, _⟩ => ⟨S1x4096x1, .f32⟩
  | .hbm, ⟨27, _⟩ => ⟨S4x4096x256, .f32⟩
  | .hbm, ⟨28, _⟩ => ⟨S4x4096x256, .f32⟩
  | .hbm, ⟨29, _⟩ => ⟨S4x4096x256, .f32⟩
  | .hbm, ⟨30, _⟩ => ⟨S4x4096x256, .f32⟩
  | .hbm, ⟨31, _⟩ => ⟨S_, .f32⟩
  | .hbm, ⟨32, _⟩ => ⟨S_, .f32⟩
  | .hbm, ⟨33, _⟩ => ⟨S4x4096x256, .f32⟩
  | .hbm, ⟨34, _⟩ => ⟨S_, .i32⟩
  | .hbm, ⟨35, _⟩ => ⟨S_, .f32⟩
  | .hbm, ⟨36, _⟩ => ⟨S4x4100x256, .f32⟩
  | .hbm, ⟨37, _⟩ => ⟨S4x4096x256, .f32⟩
  | .hbm, ⟨38, _⟩ => ⟨S4x4096x256, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S1x4096x1, .f32⟩
  | .hbm, ⟨44, _⟩ => ⟨S4x4096x256, .f32⟩
  | .hbm, ⟨45, _⟩ => ⟨S4x4096x256, .f32⟩
  | .hbm, ⟨46, _⟩ => ⟨S4x4096x256, .f32⟩
  | .hbm, ⟨47, _⟩ => ⟨S4x4096x256, .f32⟩
  | .hbm, ⟨48, _⟩ => ⟨S_, .f32⟩
  | .hbm, ⟨49, _⟩ => ⟨S_, .f32⟩
  | .hbm, ⟨50, _⟩ => ⟨S4x4096x256, .f32⟩
  | .hbm, ⟨51, _⟩ => ⟨S_, .i32⟩
  | .hbm, ⟨52, _⟩ => ⟨S_, .f32⟩
  | .hbm, ⟨53, _⟩ => ⟨S4x4104x256, .f32⟩
  | .hbm, ⟨54, _⟩ => ⟨S4x4096x256, .f32⟩
  | .hbm, ⟨55, _⟩ => ⟨S4x4096x256, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1, .f32⟩
  | .hbm, ⟨60, _⟩ => ⟨S1x4096x1, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S4x4096x256, .f32⟩
  | .hbm, ⟨65, _⟩ => ⟨S_, .f32⟩
  | .hbm, ⟨66, _⟩ => ⟨S_, .f32⟩
  | .hbm, ⟨67, _⟩ => ⟨S4x4096x256, .f32⟩
  | .hbm, ⟨68, _⟩ => ⟨S_, .i32⟩
  | .hbm, ⟨69, _⟩ => ⟨S_, .f32⟩
  | .hbm, ⟨70, _⟩ => ⟨S4x4112x256, .f32⟩
  | .hbm, ⟨71, _⟩ => ⟨S4x4096x256, .f32⟩
  | .hbm, ⟨72, _⟩ => ⟨S4x4096x256, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S4096x1, .f32⟩
  | .hbm, ⟨77, _⟩ => ⟨S1x4096x1, .f32⟩
  | .hbm, ⟨78, _⟩ => ⟨S4x4096x256, .f32⟩
  | .hbm, ⟨79, _⟩ => ⟨S4x4096x256, .f32⟩
  | .hbm, ⟨80, _⟩ => ⟨S4x4096x256, .f32⟩
  | .hbm, ⟨81, _⟩ => ⟨S4x4096x1x256, .f32⟩
  | .hbm, ⟨82, _⟩ => ⟨S4x4096x1x256, .f32⟩
  | .hbm, ⟨83, _⟩ => ⟨S4x4096x1x256, .f32⟩
  | .hbm, ⟨84, _⟩ => ⟨S4x4096x1x256, .f32⟩
  | .hbm, ⟨85, _⟩ => ⟨S4x4096x4x256, .f32⟩
  | .hbm, ⟨86, _⟩ => ⟨S4x256x4x4096, .f32⟩
  | .hbm, ⟨87, _⟩ => ⟨S4x4096x4x256, .f32⟩
  | .hbm, ⟨88, _⟩ => ⟨S4x4096x1024, .f32⟩
  | .hbm, ⟨89, _⟩ => ⟨S1x1x1024, .f32⟩
  | .hbm, ⟨90, _⟩ => ⟨S4x4096x1024, .f32⟩
  | .hbm, ⟨91, _⟩ => ⟨S4x4096x1024, .f32⟩
  | .hbm, ⟨92, _⟩ => ⟨S4x4096x1024, .f32⟩
  | .hbm, ⟨93, _⟩ => ⟨S_, .f32⟩
  | .hbm, ⟨94, _⟩ => ⟨S4x4096x1024, .f32⟩
  | .hbm, ⟨95, _⟩ => ⟨S4x4096x1024, .f32⟩
  | .hbm, ⟨96, _⟩ => ⟨S4x4096x1024, .f32⟩
  | .hbm, ⟨97, _⟩ => ⟨S_, .f32⟩
  | .hbm, ⟨98, _⟩ => ⟨S4x4096, .f32⟩
  | .hbm, ⟨99, _⟩ => ⟨S4x4096x1, .f32⟩
  | .hbm, ⟨100, _⟩ => ⟨S_, .f32⟩
  | .hbm, ⟨101, _⟩ => ⟨S4x4096x1, .f32⟩
  | .hbm, ⟨102, _⟩ => ⟨S4x4096x1, .f32⟩
  | .hbm, ⟨103, _⟩ => ⟨S4x4096x1024, .f32⟩
  | .hbm, ⟨104, _⟩ => ⟨S4x4096x1024, .f32⟩
  | .hbm, ⟨105, _⟩ => ⟨S4x4096x1024, .f32⟩
  | .hbm, ⟨106, _⟩ => ⟨S_, .f32⟩
  | .hbm, ⟨107, _⟩ => ⟨S4x4096, .f32⟩
  | .hbm, ⟨108, _⟩ => ⟨S4x4096x1, .f32⟩
  | .hbm, ⟨109, _⟩ => ⟨S_, .f32⟩
  | .hbm, ⟨110, _⟩ => ⟨S4x4096x1, .f32⟩
  | .hbm, ⟨111, _⟩ => ⟨S4x4096x1, .f32⟩
  | .hbm, ⟨112, _⟩ => ⟨S4x4096x1024, .f32⟩
  | .hbm, ⟨113, _⟩ => ⟨S4x4096x1024, .f32⟩
  | .hbm, ⟨114, _⟩ => ⟨S_, .f32⟩
  | .hbm, ⟨115, _⟩ => ⟨S4x4096x1, .f32⟩
  | .hbm, ⟨116, _⟩ => ⟨S4x4096x1, .f32⟩
  | .hbm, ⟨117, _⟩ => ⟨S4x4096x1, .f32⟩
  | .hbm, ⟨118, _⟩ => ⟨S4x4096x1024, .f32⟩
  | .hbm, ⟨119, _⟩ => ⟨S4x4096x1024, .f32⟩
  | .hbm, ⟨120, _⟩ => ⟨S1x1x1024, .f32⟩
  | .hbm, ⟨121, _⟩ => ⟨S4x4096x1024, .f32⟩
  | .hbm, ⟨122, _⟩ => ⟨S4x4096x1024, .f32⟩
  | .hbm, ⟨123, _⟩ => ⟨S1x1x1024, .f32⟩
  | .hbm, ⟨124, _⟩ => ⟨S4x4096x1024, .f32⟩
  | .hbm, ⟨125, _⟩ => ⟨S4x4096x1024, .f32⟩
  | .hbm, ⟨126, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_call0_cst : Ref sig .tc := ⟨.hbm, 14, rfl⟩
abbrev main_call0_call0_v0 : Ref sig .tc := ⟨.hbm, 15, rfl⟩
abbrev main_v6 : Ref sig .tc := ⟨.hbm, 16, rfl⟩
abbrev main_c : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call2_call0_cst : Ref sig .tc := ⟨.hbm, 31, rfl⟩
abbrev main_call2_call0_v0 : Ref sig .tc := ⟨.hbm, 32, rfl⟩
abbrev main_v18 : Ref sig .tc := ⟨.hbm, 33, rfl⟩
abbrev main_c_1 : Ref sig .tc := ⟨.hbm, 34, rfl⟩
abbrev main_call3_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call4_call0_cst : Ref sig .tc := ⟨.hbm, 48, rfl⟩
abbrev main_call4_call0_v0 : Ref sig .tc := ⟨.hbm, 49, rfl⟩
abbrev main_v30 : Ref sig .tc := ⟨.hbm, 50, rfl⟩
abbrev main_c_3 : Ref sig .tc := ⟨.hbm, 51, rfl⟩
abbrev main_call5_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call6_call0_cst : Ref sig .tc := ⟨.hbm, 65, rfl⟩
abbrev main_call6_call0_v0 : Ref sig .tc := ⟨.hbm, 66, rfl⟩
abbrev main_v42 : Ref sig .tc := ⟨.hbm, 67, rfl⟩
abbrev main_c_5 : Ref sig .tc := ⟨.hbm, 68, rfl⟩
abbrev main_call7_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_7 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_8 : Ref sig .tc := ⟨.hbm, 97, rfl⟩
abbrev main_v68 : Ref sig .tc := ⟨.hbm, 98, rfl⟩
abbrev main_v69 : Ref sig .tc := ⟨.hbm, 99, rfl⟩
abbrev main_cst_9 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_10 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_12 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]
-- ==== Ffn.lean ====
abbrev S16384x1024 : Shape := ⟨2, ![16384, 1024]⟩
abbrev S4x2x1024x5632 : Shape := ⟨4, ![4, 2, 1024, 5632]⟩
abbrev S4x2x2816x1024 : Shape := ⟨4, ![4, 2, 2816, 1024]⟩
abbrev S1024 : Shape := ⟨1, ![1024]⟩
abbrev S1x1024 : Shape := ⟨2, ![1, 1024]⟩
abbrev S1024x1024 : Shape := ⟨2, ![1024, 1024]⟩
abbrev S2x256x1024 : Shape := ⟨3, ![2, 256, 1024]⟩
abbrev S2x256x2816 : Shape := ⟨3, ![2, 256, 2816]⟩
abbrev S1024x5632 : Shape := ⟨2, ![1024, 5632]⟩
abbrev S2816x1024 : Shape := ⟨2, ![2816, 1024]⟩
abbrev S4x1024x256 : Shape := ⟨3, ![4, 1024, 256]⟩
abbrev S4x128x1024 : Shape := ⟨3, ![4, 128, 1024]⟩
abbrev S4 : Shape := ⟨1, ![4]⟩
abbrev S1 : Shape := ⟨1, ![1]⟩
abbrev S_ : Shape := ⟨0, ![]⟩
abbrev S1x1024x256 : Shape := ⟨3, ![1, 1024, 256]⟩
abbrev S1024x256 : Shape := ⟨2, ![1024, 256]⟩
abbrev S1x1x1024x5632 : Shape := ⟨4, ![1, 1, 1024, 5632]⟩
abbrev S1x128x1024 : Shape := ⟨3, ![1, 128, 1024]⟩
abbrev S128x1024 : Shape := ⟨2, ![128, 1024]⟩
abbrev S1x1x2816x1024 : Shape := ⟨4, ![1, 1, 2816, 1024]⟩
abbrev S256x1024 : Shape := ⟨2, ![256, 1024]⟩
abbrev S1x256x1024 : Shape := ⟨3, ![1, 256, 1024]⟩
abbrev S256x256 : Shape := ⟨2, ![256, 256]⟩
abbrev S1x256x256 : Shape := ⟨3, ![1, 256, 256]⟩
abbrev S1x256x2816 : Shape := ⟨3, ![1, 256, 2816]⟩
abbrev S256x2816 : Shape := ⟨2, ![256, 2816]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S4x2x1024x5632, .f32⟩
  | .hbm, ⟨2, _⟩ => ⟨S4x2x2816x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S2x256x1024, .bf16⟩
  | .local _ .vmem, ⟨7, _⟩ => ⟨S2x256x2816, .bf16⟩
  | .local _ .vmem, ⟨8, _⟩ => ⟨S1024x5632, .bf16⟩
  | .local _ .vmem, ⟨9, _⟩ => ⟨S2816x1024, .bf16⟩
  | .local _ .vmem, ⟨10, _⟩ => ⟨S4x1024x256, .f32⟩
  | .local _ .vmem, ⟨11, _⟩ => ⟨S4x128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnRefIdeal.lean ====
abbrev S16384x1024 : Shape := ⟨2, ![16384, 1024]⟩
abbrev S4x2x1024x5632 : Shape := ⟨4, ![4, 2, 1024, 5632]⟩
abbrev S4x2x2816x1024 : Shape := ⟨4, ![4, 2, 2816, 1024]⟩
abbrev S1024 : Shape := ⟨1, ![1024]⟩
abbrev S_ : Shape := ⟨0, ![]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x2x1024x5632, .f32⟩
  | .hbm, ⟨2, _⟩ => ⟨S4x2x2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1x1x1024x5632, .f32⟩
  | .hbm, ⟨9, _⟩ => ⟨S1024x5632, .f32⟩
  | .hbm, ⟨10, _⟩ => ⟨S1x1x2816x1024, .f32⟩
  | .hbm, ⟨11, _⟩ => ⟨S2816x1024, .f32⟩
  | .hbm, ⟨12, _⟩ => ⟨S16384x5632, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== FfnPre.lean ====
abbrev S16384x1024 : Shape := ⟨2, ![16384, 1024]⟩
abbrev S1024x1024 : Shape := ⟨2, ![1024, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S1x1024 : Shape := ⟨2, ![1, 1024]⟩
abbrev S2x256x1024 : Shape := ⟨3, ![2, 256, 1024]⟩
abbrev S2x256x2816 : Shape := ⟨3, ![2, 256, 2816]⟩
abbrev S1024x5632 : Shape := ⟨2, ![1024, 5632]⟩
abbrev S2816x1024 : Shape := ⟨2, ![2816, 1024]⟩
abbrev S4x1024x256 : Shape := ⟨3, ![4, 1024, 256]⟩
abbrev S4x128x1024 : Shape := ⟨3, ![4, 128, 1024]⟩
abbrev S4 : Shape := ⟨1, ![4]⟩
abbrev S1 : Shape := ⟨1, ![1]⟩
abbrev S_ : Shape := ⟨0, ![]⟩
abbrev S1x1024x256 : Shape := ⟨3, ![1, 1024, 256]⟩
abbrev S1024x256 : Shape := ⟨2, ![1024, 256]⟩
abbrev S1x1x1024x5632 : Shape := ⟨4, ![1, 1, 1024, 5632]⟩
abbrev S1x128x1024 : Shape := ⟨3, ![1, 128, 1024]⟩
abbrev S128x1024 : Shape := ⟨2, ![128, 1024]⟩
abbrev S1x1x2816x1024 : Shape := ⟨4, ![1, 1, 2816, 1024]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S256x256 : Shape := ⟨2, ![256, 256]⟩
abbrev S1x256x256 : Shape := ⟨3, ![1, 256, 256]⟩
abbrev S1x256x2816 : Shape := ⟨3, ![1, 256, 2816]⟩
abbrev S256x2816 : Shape := ⟨2, ![256, 2816]⟩

abbrev nBuf : Space → Nat
  | .hbm => 15
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4x2x1024x5632, .f32⟩
  | .hbm, ⟨6, _⟩ => ⟨S4x2x2816x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S2x256x1024, .bf16⟩
  | .local _ .vmem, ⟨12, _⟩ => ⟨S2x256x2816, .bf16⟩
  | .local _ .vmem, ⟨13, _⟩ => ⟨S1024x5632, .bf16⟩
  | .local _ .vmem, ⟨14, _⟩ => ⟨S2816x1024, .bf16⟩
  | .local _ .vmem, ⟨15, _⟩ => ⟨S4x1024x256, .f32⟩
  | .local _ .vmem, ⟨16, _⟩ => ⟨S4x128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnPreRefIdeal.lean ====
abbrev S16384x1024 : Shape := ⟨2, ![16384, 1024]⟩
abbrev S1024x1024 : Shape := ⟨2, ![1024, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4x2x1024x5632, .f32⟩
  | .hbm, ⟨6, _⟩ => ⟨S4x2x2816x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S1x1x1024x5632, .f32⟩
  | .hbm, ⟨48, _⟩ => ⟨S1024x5632, .f32⟩
  | .hbm, ⟨49, _⟩ => ⟨S1x1x2816x1024, .f32⟩
  | .hbm, ⟨50, _⟩ => ⟨S2816x1024, .f32⟩
  | .hbm, ⟨51, _⟩ => ⟨S16384x5632, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S16384x2816, .f32⟩
  | .hbm, ⟨58, _⟩ => ⟨S16384x2816, .f32⟩
  | .hbm, ⟨59, _⟩ => ⟨S_, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1, .f32⟩
  | .hbm, ⟨90, _⟩ => ⟨S16384x1024, .f32⟩
  | .hbm, ⟨91, _⟩ => ⟨S16384x1024, .f32⟩
  | .hbm, ⟨92, _⟩ => ⟨S1x1024, .f32⟩
  | .hbm, ⟨93, _⟩ => ⟨S16384x1024, .f32⟩
  | .hbm, ⟨94, _⟩ => ⟨S16384x1024, .f32⟩
  | .hbm, ⟨95, _⟩ => ⟨S1x1024, .f32⟩
  | .hbm, ⟨96, _⟩ => ⟨S16384x1024, .f32⟩
  | .hbm, ⟨97, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Qkv.lean ====
abbrev S16384x1024 : Shape := ⟨2, ![16384, 1024]⟩
abbrev S1024x3072 : Shape := ⟨2, ![1024, 3072]⟩
abbrev S1024x1024 : Shape := ⟨2, ![1024, 1024]⟩
abbrev S_ : Shape := ⟨0, ![]⟩
abbrev S1024x2048 : Shape := ⟨2, ![1024, 2048]⟩
abbrev S16384x2048 : Shape := ⟨2, ![16384, 2048]⟩
abbrev S4x1152x4096 : Shape := ⟨3, ![4, 1152, 4096]⟩
abbrev S1x1152x1024 : Shape := ⟨3, ![1, 1152, 1024]⟩
abbrev S128x1024 : Shape := ⟨2, ![128, 1024]⟩
abbrev S1x128x1024 : Shape := ⟨3, ![1, 128, 1024]⟩
abbrev S16x1024 : Shape := ⟨2, ![16, 1024]⟩
abbrev S1x16x1024 : Shape := ⟨3, ![1, 16, 1024]⟩

abbrev nBuf : Space → Nat
  | .hbm => 14
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x2048, .f32⟩
  | .hbm, ⟨8, _⟩ => ⟨S1024x2048, .bf16⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S16384x2048, .bf16⟩
  | .hbm, ⟨13, _⟩ => ⟨S4x1152x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x1152x1024, .bf16⟩
  | .local _ .vmem, ⟨7, _⟩ => ⟨S1x1152x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1152x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvRefIdeal.lean ====
abbrev S16384x1024 : Shape := ⟨2, ![16384, 1024]⟩
abbrev S1024x3072 : Shape := ⟨2, ![1024, 3072]⟩
abbrev S16384x3072 : Shape := ⟨2, ![16384, 3072]⟩
abbrev S_ : Shape := ⟨0, ![]⟩
abbrev S16384x2048 : Shape := ⟨2, ![16384, 2048]⟩
abbrev S4x4096x8x128 : Shape := ⟨4, ![4, 4096, 8, 128]⟩
abbrev S4x8x128x4096 : Shape := ⟨4, ![4, 8, 128, 4096]⟩
abbrev S4x8x16x4096 : Shape := ⟨4, ![4, 8, 16, 4096]⟩
abbrev S4x8x144x4096 : Shape := ⟨4, ![4, 8, 144, 4096]⟩
abbrev S4x1152x4096 : Shape := ⟨3, ![4, 1152, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S4x4096x8x128, .f32⟩
  | .hbm, ⟨11, _⟩ => ⟨S4x8x128x4096, .f32⟩
  | .hbm, ⟨12, _⟩ => ⟨S_, .f32⟩
  | .hbm, ⟨13, _⟩ => ⟨S4x8x16x4096, .f32⟩
  | .hbm, ⟨14, _⟩ => ⟨S4x8x144x4096, .f32⟩
  | .hbm, ⟨15, _⟩ => ⟨S16384x2048, .bf16⟩
  | .hbm, ⟨16, _⟩ => ⟨S4x1152x4096, .f32⟩
  | .hbm, ⟨17, _⟩ => ⟨S4x1152x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.PoolSpec.lean ====
module

public import proofs.«01_k».proof.Proof.Gen.PoolIdeal.Value
public import Idealize.ShloMosaic.Lib.Pipeline.ValueKit
public import Idealize.ShloMosaic.Lib.Pointwise
public import Idealize.ShloMosaic.Lib.Claim

@[expose] public section

set_option maxRecDepth 16384

noncomputable section

namespace Cert.PoolIdeal.Hand

open Idealize.ShloMosaic Idealize.SL.Sem Idealize.ShloMosaic.Pipeline
open Cert.PoolIdeal Cert.PoolIdeal.Gen

/-- A padded column block plus itself rotated by one row. -/
def acc1 (A : Vec Ideal S1040x256 .f32) : FVec Ideal S1040x256 .f32 := addf A (dynamicRotate 0 1#32 none A rotates_S1040x256_d0)
/-- The same after the second doubling. -/
def acc2 (A : Vec Ideal S1040x256 .f32) : FVec Ideal S1040x256 .f32 := addf (acc1 A) (dynamicRotate 0 2#32 none (acc1 A) rotates_S1040x256_d0)
/-- The same after the third doubling. -/
def acc4 (A : Vec Ideal S1040x256 .f32) : FVec Ideal S1040x256 .f32 := addf (acc2 A) (dynamicRotate 0 4#32 none (acc2 A) rotates_S1040x256_d0)
/-- The same after the fourth doubling. -/
def acc8 (A : Vec Ideal S1040x256 .f32) : FVec Ideal S1040x256 .f32 := addf (acc4 A) (dynamicRotate 0 8#32 none (acc4 A) rotates_S1040x256_d0)

/-- What one group's code makes of the window sums: divide by the count, subtract the token, multiply by the group's weights, scale. -/
def groupTail (w : BitVec 32) (v32 : IVec S1024x256 32) (u : Vec Ideal S1024x256 .f32) (acc : FVec Ideal S1040x256 .f32)
    (wg : Vec Ideal S1x256x256 .bf16) (sc : Vec Ideal S1x256 .f32) : FVec Ideal S1024x256 .bf16 :=
  shapeCast S1024x256 (truncf .bf16 (mulf
    (matmul (φ₂ := .bf16) dot_S1024x256_S256x256_S1024x256_1_0_0_1_n_n none
      (truncf .bf16 (subf (divf (extractStridedSlice S1024x256 ![16, 0] acc slices_S1040x256_o16_0_S1024x256)
        (sitofp .f32 (minsi (addi v32 (broadcast S1024x256 1#32)) (broadcast S1024x256 w)))) u) bitsLt_bf16_f32)
      (shapeCast S256x256 wg shapeCasts_S1x256x256_S256x256)
      (constant S1024x256 .f32 0x00000000#32))
    (broadcastTo S1024x256 (shapeCast S1x256 sc shapeCasts_S1x256_S1x256) broadcasts_S1x256_S1024x256)) bitsLt_bf16_f32) shapeCasts_S1024x256_S1024x256

theorem pay5_eq (v32 : IVec S1024x256 32) (u : Vec Ideal S1024x256 .f32) (A : Vec Ideal S1040x256 .f32) (wg : Vec Ideal S1x256x256 .bf16) (sc : Vec Ideal S1x256 .f32) :
    k0_pay5 (F := Ideal) v32 u A wg sc = groupTail 2#32 v32 u (acc1 A) wg sc := rfl
theorem pay7_eq (v32 : IVec S1024x256 32) (u : Vec Ideal S1024x256 .f32) (A : Vec Ideal S1040x256 .f32) (wg : Vec Ideal S1x256x256 .bf16) (sc : Vec Ideal S1x256 .f32) :
    k0_pay7 (F := Ideal) u (k0_pay6 v32 A) wg sc = groupTail 4#32 v32 u (acc2 A) wg sc := rfl
theorem pay10_eq (v32 : IVec S1024x256 32) (u : Vec Ideal S1024x256 .f32) (A : Vec Ideal S1040x256 .f32) (wg : Vec Ideal S1x256x256 .bf16) (sc : Vec Ideal S1x256 .f32) :
    k0_pay10 (F := Ideal) (k0_pay8 v32 u A wg) (k0_pay9 sc) = groupTail 8#32 v32 u (acc4 A) wg sc := rfl
theorem pay11_eq (v32 : IVec S1024x256 32) (u : Vec Ideal S1024x256 .f32) (A : Vec Ideal S1040x256 .f32) (wg : Vec Ideal S1x256x256 .bf16) (sc : Vec Ideal S1x256 .f32) :
    k0_pay11 (F := Ideal) v32 u A wg sc = groupTail 16#32 v32 u (acc8 A) wg sc := rfl

/-! ## The mathematics of one token's row -/

/-- The layer norm of a row `z`, at lane `k`. -/
def lnRow (z : Fin 1024 → EReal) (g b : EReal) (k : Fin 1024) : EReal :=
  (z k - Ideal.div (∑ x, z x) (Ideal.ofBits FTy.f32 1149239296#32))
    * Ideal.rsqrt (Ideal.div (∑ x, (z x - Ideal.div (∑ x, z x) (Ideal.ofBits FTy.f32 1149239296#32))
        * (z x - Ideal.div (∑ x, z x) (Ideal.ofBits FTy.f32 1149239296#32))) (Ideal.ofBits FTy.f32 1149239296#32) + Ideal.ofBits FTy.f32 925353388#32) * g + b

/-- The trailing window of `w` entries of the sequence `f` at position `s`, cut at the sequence's start: its sum over its length, minus the entry itself. -/
def poolW (f : ℕ → EReal) (w s : ℕ) : EReal :=
  Ideal.div (∑ i ∈ Finset.range w, if i ≤ s then f (s - i) else 0) (((min (s + 1) w : ℕ) : ℝ) : EReal) - f s

/-- Lane `K` of the mixer's row before the output projection: the lane's group of 256 pooled channels times the group's matrix, scaled. -/
def yAt (f : Fin 1024 → ℕ → EReal) (wg : S4x256x256.Idx → EReal) (sc : Fin 1024 → EReal) (s : ℕ) (K : Fin 1024) : EReal :=
  (∑ x : Fin 256, poolW (f ⟨K.val / 256 * 256 + x.val, by omega⟩) (2 ^ (K.val / 256 + 1)) s * wg (ix3 ⟨K.val / 256, by omega⟩ x ⟨K.val % 256, by omega⟩)) * sc K

/-! ## The window sums by doubling -/

theorem double_sum (e : ℕ → EReal) (B : Fin 1040 → EReal) (d : ℕ) (hd : 0 < d) (hB : ∀ r : Fin 1040, d - 1 ≤ r.val → B r = ∑ i ∈ Finset.range d, e (r.val - i))
    (r : Fin 1040) (hr : d + d - 1 ≤ r.val) (r' : Fin 1040) (hr' : r'.val = (r.val + 1040 - d) % 1040) :
    B r + B r' = ∑ i ∈ Finset.range (d + d), e (r.val - i) := by
  have h1 : r'.val = r.val - d := by omega
  rw [hB r (by omega), hB r' (by omega), Finset.sum_range_add, h1]
  congr 1
  refine Finset.sum_congr rfl fun i _ => ?_
  rw [Nat.sub_sub]

theorem acc1_at (A : Vec Ideal S1040x256 .f32) (e : Fin 256 → ℕ → EReal) (hA : ∀ r k, A (ix2 r k) = e k r.val) (r : Fin 1040) (k : Fin 256) (hr : 1 ≤ r.val) :
    acc1 A (ix2 r k) = ∑ i ∈ Finset.range 2, e k (r.val - i) := by
  pointwise [acc1]
  exact double_sum (e k) (fun r => A (ix2 r k)) 1 (by omega) (fun r _ => by simp [hA]) r (by omega) _ rfl

theorem acc2_at (A : Vec Ideal S1040x256 .f32) (e : Fin 256 → ℕ → EReal) (hA : ∀ r k, A (ix2 r k) = e k r.val) (r : Fin 1040) (k : Fin 256) (hr : 3 ≤ r.val) :
    acc2 A (ix2 r k) = ∑ i ∈ Finset.range 4, e k (r.val - i) := by
  pointwise [acc2]
  exact double_sum (e k) (fun r => acc1 A (ix2 r k)) 2 (by omega) (fun r h => acc1_at A e hA r k (by omega)) r (by omega) _ rfl

theorem acc4_at (A : Vec Ideal S1040x256 .f32) (e : Fin 256 → ℕ → EReal) (hA : ∀ r k, A (ix2 r k) = e k r.val) (r : Fin 1040) (k : Fin 256) (hr : 7 ≤ r.val) :
    acc4 A (ix2 r k) = ∑ i ∈ Finset.range 8, e k (r.val - i) := by
  pointwise [acc4]
  exact double_sum (e k) (fun r => acc2 A (ix2 r k)) 4 (by omega) (fun r h => acc2_at A e hA r k (by omega)) r (by omega) _ rfl

theorem acc8_at (A : Vec Ideal S1040x256 .f32) (e : Fin 256 → ℕ → EReal) (hA : ∀ r k, A (ix2 r k) = e k r.val) (r : Fin 1040) (k : Fin 256) (hr : 15 ≤ r.val) :
    acc8 A (ix2 r k) = ∑ i ∈ Finset.range 16, e k (r.val - i) := by
  pointwise [acc8]
  exact double_sum (e k) (fun r => acc4 A (ix2 r k)) 8 (by omega) (fun r h => acc4_at A e hA r k (by omega)) r (by omega) _ rfl

/-! ## The payloads at an index -/

theorem count_at (n w : ℕ) (hn : n < 5120) (hw : w ≤ 16) :
    FloatOps.sitofp (F := Ideal) FTy.f32 (IntOp.minsi (IntOp.addi (BitVec.ofNat 32 n) 1#32) (BitVec.ofNat 32 w)) = (((min (n + 1) w : ℕ) : ℝ) : EReal) := by
  have h : (IntOp.minsi (IntOp.addi (BitVec.ofNat 32 n) 1#32) (BitVec.ofNat 32 w)).toInt = ((min (n + 1) w : ℕ) : ℤ) := by
    have e1 : IntOp.addi (BitVec.ofNat 32 n) 1#32 = BitVec.ofNat 32 (n + 1) := (BitVec.ofNat_add n 1).symm
    have t : ∀ q : ℕ, q < 6000 → (BitVec.ofNat 32 q).toInt = (q : ℤ) := by
      intro q hq
      rw [BitVec.toInt_ofNat']
      rw [Int.bmod_def]
      omega
    rw [e1]
    unfold IntOp.minsi
    split
    · next hs =>
      rw [t _ (by omega)]
      simp only [BitVec.sle, BitVec.slt, t _ (show n + 1 < 6000 by omega), t _ (show w < 6000 by omega), decide_eq_true_eq] at hs
      omega
    · next hs =>
      rw [t _ (by omega)]
      simp only [BitVec.sle, BitVec.slt, t _ (show n + 1 < 6000 by omega), t _ (show w < 6000 by omega), decide_eq_true_eq] at hs
      omega
  show (((IntOp.minsi (IntOp.addi (BitVec.ofNat 32 n) 1#32) (BitVec.ofNat 32 w)).toInt : ℝ) : EReal) = _
  rw [h]
  simp

theorem tail_at (w : ℕ) (hw : w ≤ 16) (s0 : ℕ) (hs0 : s0 < 4096) (v32 : IVec S1024x256 32) (u : Vec Ideal S1024x256 .f32) (A : FVec Ideal S1040x256 .f32)
    (wg : Vec Ideal S1x256x256 .bf16) (sc : Vec Ideal S1x256 .f32) (f : Fin 256 → ℕ → EReal)
    (hv : ∀ r k, v32 (ix2 r k) = BitVec.ofNat 32 (s0 + r.val))
    (hu : ∀ r k, u (ix2 r k) = f k (s0 + r.val))
    (hA : ∀ (r : Fin 1040) k, 16 ≤ r.val → A (ix2 r k) = ∑ i ∈ Finset.range w, (fun n => if 16 ≤ s0 + n then f k (s0 + n - 16) else 0) (r.val - i))
    (r : Fin 1024) (k : Fin 256) :
    groupTail (BitVec.ofNat 32 w) v32 u A wg sc (ix2 r k) = (∑ x : Fin 256, poolW (f x) w (s0 + r.val) * wg (ix3 0 x k)) * sc (ix2 0 k) := by
  pointwise [groupTail]
  congr 1
  refine Finset.sum_congr rfl fun x _ => ?_
  congr 1
  rw [hu, hA _ _ (by show 16 ≤ 16 + r.val; omega), hv]
  unfold poolW
  congr 1
  congr 1
  · refine Finset.sum_congr rfl fun i hi => ?_
    have := Finset.mem_range.1 hi
    show (if 16 ≤ s0 + (16 + r.val - i) then f x (s0 + (16 + r.val - i) - 16) else 0) = _
    by_cases h : i ≤ s0 + r.val
    · rw [if_pos h, if_pos (by omega)]; congr 1; omega
    · rw [if_neg h, if_neg (by omega)]
  · exact count_at _ w (by omega) hw

theorem word_at (a : Fin 16) :
    (Scalar.select
          (Scalar.andi
            (Scalar.xori
              (Scalar.cmpi CmpIPredicate.slt
                (Scalar.remsi (BitVec.ofNat 32 a.val)
                  (Scalar.select (Scalar.cmpi CmpIPredicate.eq 4#32 0#32) 1#32 4#32))
                0#32)
              (Scalar.cmpi CmpIPredicate.slt (Scalar.select (Scalar.cmpi CmpIPredicate.eq 4#32 0#32) 1#32 4#32) 0#32))
            (Scalar.cmpi CmpIPredicate.ne
              (Scalar.remsi (BitVec.ofNat 32 a.val) (Scalar.select (Scalar.cmpi CmpIPredicate.eq 4#32 0#32) 1#32 4#32))
              0#32))
          (Scalar.addi
            (Scalar.remsi (BitVec.ofNat 32 a.val) (Scalar.select (Scalar.cmpi CmpIPredicate.eq 4#32 0#32) 1#32 4#32))
            (Scalar.select (Scalar.cmpi CmpIPredicate.eq 4#32 0#32) 1#32 4#32))
          (Scalar.remsi (BitVec.ofNat 32 a.val) (Scalar.select (Scalar.cmpi CmpIPredicate.eq 4#32 0#32) 1#32 4#32))) = BitVec.ofNat 32 (a.val % 4) := by
  revert a
  decide +kernel

theorem pay4_at (i : grid0.Coords) (r : Fin 1024) (k : Fin 256) : k0_pay4 i (ix2 r k) = BitVec.ofNat 32 ((i 0).val % 4 * 1024 + r.val) := by
  pointwise [k0_pay4]
  rw [word_at (i 0)]
  simp [Scalar.muli, IntOp.muli, IntOp.addi, BitVec.ofNat_add, BitVec.ofNat_mul]

theorem pay2_at (i : grid0.Coords) (h : Vec Ideal S16x1024 .f32) (w : Vec Ideal S1024x1024 .bf16) (r : Fin 16) (k : Fin 1024) :
    k0_pay2 (F := Ideal) i h w (ix2 r k) = if (i 0).val % 4 = 0 then 0 else ∑ j : Fin 1024, h (ix2 r j) * w (ix2 j k) := by
  pointwise [k0_pay2]
  rw [word_at (i 0)]
  have hb : Scalar.cmpi CmpIPredicate.eq (BitVec.ofNat 32 ((i 0).val % 4)) 0#32 = BitVec.ofBool (decide ((i 0).val % 4 = 0)) := by
    have : ∀ a : Fin 4, Scalar.cmpi CmpIPredicate.eq (BitVec.ofNat 32 a.val) 0#32 = BitVec.ofBool (decide (a.val = 0)) := by decide +kernel
    exact this ⟨(i 0).val % 4, by omega⟩
  rw [hb]
  by_cases h0 : (i 0).val % 4 = 0
  · simp [h0, Scalar.select]
  · simp [h0, Scalar.select]

theorem pay3_at (h : Vec Ideal S1024x1024 .f32) (w : Vec Ideal S1024x1024 .bf16) (r : Fin 1024) (k : Fin 1024) :
    k0_pay3 (F := Ideal) h w (ix2 r k) = ∑ j : Fin 1024, h (ix2 r j) * w (ix2 j k) := by
  pointwise [k0_pay3]

theorem pay1_at (X : Vec Ideal S1024x1024 .f32) (Y : Vec Ideal S1024x1024 .bf16) (W : Vec Ideal S1024x1024 .bf16)
    (g : Vec Ideal S1x1024 .f32) (b : Vec Ideal S1x1024 .f32) (r k : Fin 1024) :
    k0_pay1 (F := Ideal) X Y W g b (ix2 r k)
      = lnRow (fun x => Ideal.ofBits FTy.f32 1071072509#32 * X (ix2 r x) + ∑ K : Fin 1024, Y (ix2 r K) * W (ix2 K x)) (g (ix2 0 k)) (b (ix2 0 k)) k := by
  pointwise [k0_pay1]
  rfl

theorem canon_two (a : Vec Ideal S1024x1024 .f32) (b : Vec Ideal S16x1024 .f32) (r : Fin 1040) (k : Fin 1024) :
    View.canon (s := S1040x1024) (e := .f32) (Val := Elt Ideal) [⟨Rect.unit ![16, 0] ![1024, 1024] inb_S1040x1024_S1024x1024_16_0, a⟩, ⟨Rect.unit ![0, 0] ![16, 1024] inb_S1040x1024_S16x1024_0_0, b⟩] (ix2 r k)
      = if h : 16 ≤ r.val then a (ix2 ⟨r.val - 16, by omega⟩ k) else b (ix2 ⟨r.val, by omega⟩ k) := by
  have hcover : ∃ p ∈ ([⟨Rect.unit ![16, 0] ![1024, 1024] inb_S1040x1024_S1024x1024_16_0, a⟩, ⟨Rect.unit ![0, 0] ![16, 1024] inb_S1040x1024_S16x1024_0_0, b⟩] : List (View.Piece (Elt Ideal) S1040x1024 .f32)), ix2 r k ∈ p.1.set := by
    by_cases hy : 16 ≤ r.val
    · refine ⟨_, List.mem_cons_self .., ?_⟩
      mem_blk
      intro a
      fin_cases a
      · show 16 ≤ r.val ∧ r.val < 16 + 1024; omega
      · show 0 ≤ k.val ∧ k.val < 0 + 1024; omega
    · refine ⟨_, List.mem_cons_of_mem _ (List.mem_cons_self ..), ?_⟩
      mem_blk
      intro a
      fin_cases a
      · show 0 ≤ r.val ∧ r.val < 0 + 16; omega
      · show 0 ≤ k.val ∧ k.val < 0 + 1024; omega
  canon_tiles x h using hcover
  · change r.val = 16 + (x 0).val at h0
    change k.val = (x 1).val at h1
    rw [dif_pos (by omega)]
    blk_ext
  · change r.val = (x 0).val at h0
    change k.val = (x 1).val at h1
    rw [dif_neg (by omega)]
    blk_ext

theorem yAt_eq (f : Fin 1024 → ℕ → EReal) (wg : S4x256x256.Idx → EReal) (sc : Fin 1024 → EReal) (s : ℕ) (g : Fin 4) (k : Fin 256) (K : Fin 1024)
    (hK : K.val = g.val * 256 + k.val) :
    yAt f wg sc s K = (∑ x : Fin 256, poolW (f ⟨g.val * 256 + x.val, by omega⟩) (2 ^ (g.val + 1)) s * wg (ix3 g x k)) * sc K := by
  have h1 : K.val / 256 = g.val := by omega
  have h2 : K.val % 256 = k.val := by omega
  unfold yAt
  congr 1
  refine Finset.sum_congr rfl fun x _ => ?_
  simp only [h1, h2]

/-- The mixer's rows as the four groups' code writes them, from the padded projected tokens. -/
def ybufOf (i : grid0.Coords) (ub : S1040x1024.Idx → EReal) (wg : Vec Ideal S4x256x256 .bf16) (sc : Vec Ideal S1x1024 .f32) : Vec Ideal S1024x1024 .bf16 :=
    View.canon (s := S1024x1024) (e := .bf16) (Val := Elt Ideal)
      [⟨Rect.unit ![0, 768] ![1024, 256] inb_S1024x1024_S1024x256_0_768,
          k0_pay11 (F := Ideal) (k0_pay4 i)
            (fun j => ub ((Rect.unit (s := S1040x1024) ![16, 768] ![1024, 256] inb_S1040x1024_S1024x256_16_768).toLoadRect.idx j))
            (fun j => ub ((Rect.unit (s := S1040x1024) ![0, 768] ![1040, 256] inb_S1040x1024_S1040x256_0_768).toLoadRect.idx j))
            (View.ld wg (Rect.unit ![3, 0, 0] ![1, 256, 256] inb_S4x256x256_S1x256x256_3_0_0))
            (View.ld sc (Rect.unit ![0, 768] ![1, 256] inb_S1x1024_S1x256_0_768))⟩,
        ⟨Rect.unit ![0, 512] ![1024, 256] inb_S1024x1024_S1024x256_0_512,
          k0_pay10 (F := Ideal)
            (k0_pay8 (k0_pay4 i)
              (fun j => ub ((Rect.unit (s := S1040x1024) ![16, 512] ![1024, 256] inb_S1040x1024_S1024x256_16_512).toLoadRect.idx j))
              (fun j => ub ((Rect.unit (s := S1040x1024) ![0, 512] ![1040, 256] inb_S1040x1024_S1040x256_0_512).toLoadRect.idx j))
              (View.ld wg (Rect.unit ![2, 0, 0] ![1, 256, 256] inb_S4x256x256_S1x256x256_2_0_0)))
            (k0_pay9 (View.ld sc (Rect.unit ![0, 512] ![1, 256] inb_S1x1024_S1x256_0_512)))⟩,
        ⟨Rect.unit ![0, 256] ![1024, 256] inb_S1024x1024_S1024x256_0_256,
          k0_pay7 (F := Ideal)
            (fun j => ub ((Rect.unit (s := S1040x1024) ![16, 256] ![1024, 256] inb_S1040x1024_S1024x256_16_256).toLoadRect.idx j))
            (k0_pay6 (k0_pay4 i)
              (fun j => ub ((Rect.unit (s := S1040x1024) ![0, 256] ![1040, 256] inb_S1040x1024_S1040x256_0_256).toLoadRect.idx j)))
            (View.ld wg (Rect.unit ![1, 0, 0] ![1, 256, 256] inb_S4x256x256_S1x256x256_1_0_0))
            (View.ld sc (Rect.unit ![0, 256] ![1, 256] inb_S1x1024_S1x256_0_256))⟩,
        ⟨Rect.unit ![0, 0] ![1024, 256] inb_S1024x1024_S1024x256_0_0,
          k0_pay5 (F := Ideal) (k0_pay4 i)
            (fun j => ub ((Rect.unit (s := S1040x1024) ![16, 0] ![1024, 256] inb_S1040x1024_S1024x256_16_0).toLoadRect.idx j))
            (fun j => ub ((Rect.unit (s := S1040x1024) ![0, 0] ![1040, 256] inb_S1040x1024_S1040x256_0_0).toLoadRect.idx j))
            (View.ld wg (Rect.unit ![0, 0, 0] ![1, 256, 256] inb_S4x256x256_S1x256x256_0_0_0))
            (View.ld sc (Rect.unit ![0, 0] ![1, 256] inb_S1x1024_S1x256_0_0))⟩]

theorem ybuf_at (i : grid0.Coords) (ub : S1040x1024.Idx → EReal) (f : Fin 1024 → ℕ → EReal) (wg : Vec Ideal S4x256x256 .bf16) (sc : Vec Ideal S1x1024 .f32)
    (hub : ∀ r k, ub (ix2 r k) = if 16 ≤ (i 0).val % 4 * 1024 + r.val then f k ((i 0).val % 4 * 1024 + r.val - 16) else 0) (r K : Fin 1024) :
    ybufOf i ub wg sc (ix2 r K)
      = yAt f wg (fun K => sc (ix2 0 K)) ((i 0).val % 4 * 1024 + r.val) K := by
  unfold ybufOf
  canon_tiles x h
  case piece0 =>
    idx_vars x
    change r.val = x0.val at h0
    change K.val = 768 + x1.val at h1
    obtain rfl : r = x0 := Fin.ext h0
    rw [pay11_eq, yAt_eq f wg _ _ 3 x1 K (by show K.val = 3 * 256 + x1.val; omega)]
    refine (tail_at 16 (by omega) ((i 0).val % 4 * 1024) (by omega) _ _ _ _ _ (fun k p => f ⟨768 + k.val, by omega⟩ p) (fun r k => pay4_at i r k) (fun r k => ?_)
      (fun r k hr => acc8_at _ (fun k n => if 16 ≤ (i 0).val % 4 * 1024 + n then f ⟨768 + k.val, by omega⟩ ((i 0).val % 4 * 1024 + n - 16) else 0) (fun r k => ?_) r k (by omega)) r x1).trans ?_
    · pointwise
      rw [hub, if_pos (by show 16 ≤ (i 0).val % 4 * 1024 + (16 + r.val); omega)]
      congr 1
      show (i 0).val % 4 * 1024 + (16 + r.val) - 16 = _
      omega
    · pointwise
      rw [hub]
    · pointwise
      have hK : K = ⟨768 + x1.val, by omega⟩ := Fin.ext h1
      rw [hK]
      rfl
  case piece1 =>
    idx_vars x
    change r.val = x0.val at h0
    change K.val = 512 + x1.val at h1
    obtain rfl : r = x0 := Fin.ext h0
    rw [pay10_eq, yAt_eq f wg _ _ 2 x1 K (by show K.val = 2 * 256 + x1.val; omega)]
    refine (tail_at 8 (by omega) ((i 0).val % 4 * 1024) (by omega) _ _ _ _ _ (fun k p => f ⟨512 + k.val, by omega⟩ p) (fun r k => pay4_at i r k) (fun r k => ?_)
      (fun r k hr => acc4_at _ (fun k n => if 16 ≤ (i 0).val % 4 * 1024 + n then f ⟨512 + k.val, by omega⟩ ((i 0).val % 4 * 1024 + n - 16) else 0) (fun r k => ?_) r k (by omega)) r x1).trans ?_
    · pointwise
      rw [hub, if_pos (by show 16 ≤ (i 0).val % 4 * 1024 + (16 + r.val); omega)]
      congr 1
      show (i 0).val % 4 * 1024 + (16 + r.val) - 16 = _
      omega
    · pointwise
      rw [hub]
    · pointwise
      have hK : K = ⟨512 + x1.val, by omega⟩ := Fin.ext h1
      rw [hK]
      rfl
  case piece2 =>
    idx_vars x
    change r.val = x0.val at h0
    change K.val = 256 + x1.val at h1
    obtain rfl : r = x0 := Fin.ext h0
    rw [pay7_eq, yAt_eq f wg _ _ 1 x1 K (by show K.val = 1 * 256 + x1.val; omega)]
    refine (tail_at 4 (by omega) ((i 0).val % 4 * 1024) (by omega) _ _ _ _ _ (fun k p => f ⟨256 + k.val, by omega⟩ p) (fun r k => pay4_at i r k) (fun r k => ?_)
      (fun r k hr => acc2_at _ (fun k n => if 16 ≤ (i 0).val % 4 * 1024 + n then f ⟨256 + k.val, by omega⟩ ((i 0).val % 4 * 1024 + n - 16) else 0) (fun r k => ?_) r k (by omega)) r x1).trans ?_
    · pointwise
      rw [hub, if_pos (by show 16 ≤ (i 0).val % 4 * 1024 + (16 + r.val); omega)]
      congr 1
      show (i 0).val % 4 * 1024 + (16 + r.val) - 16 = _
      omega
    · pointwise
      rw [hub]
    · pointwise
      have hK : K = ⟨256 + x1.val, by omega⟩ := Fin.ext h1
      rw [hK]
      rfl
  case piece3 =>
    idx_vars x
    change r.val = x0.val at h0
    change K.val = x1.val at h1
    obtain rfl : r = x0 := Fin.ext h0
    rw [pay5_eq, yAt_eq f wg _ _ 0 x1 K (by show K.val = 0 * 256 + x1.val; omega)]
    refine (tail_at 2 (by omega) ((i 0).val % 4 * 1024) (by omega) _ _ _ _ _ (fun k p => f ⟨0 + k.val, by omega⟩ p) (fun r k => pay4_at i r k) (fun r k => ?_)
      (fun r k hr => acc1_at _ (fun k n => if 16 ≤ (i 0).val % 4 * 1024 + n then f ⟨0 + k.val, by omega⟩ ((i 0).val % 4 * 1024 + n - 16) else 0) (fun r k => ?_) r k (by omega)) r x1).trans ?_
    · pointwise
      rw [hub, if_pos (by show 16 ≤ (i 0).val % 4 * 1024 + (16 + r.val); omega)]
      congr 1
      show (i 0).val % 4 * 1024 + (16 + r.val) - 16 = _
      omega
    · pointwise
      rw [hub]
    · pointwise
      have hK : K = x1.castLE (by omega) := Fin.ext h1
      rw [hK]
      rfl

/-- The padded projected tokens as the code writes them: the halo's rows, then the tile's. -/
def ubufOf (i : grid0.Coords) (X0 : Vec Ideal S1024x1024 .f32) (X1 : Vec Ideal S16x1024 .f32) (X2 : Vec Ideal S1024x1024 .bf16) : Vec Ideal S1040x1024 .f32 :=
  View.canon (s := S1040x1024) (e := .f32) (Val := Elt Ideal)
    [⟨Rect.unit ![16, 0] ![1024, 1024] inb_S1040x1024_S1024x1024_16_0, k0_pay3 (F := Ideal) X0 X2⟩,
      ⟨Rect.unit ![0, 0] ![16, 1024] inb_S1040x1024_S16x1024_0_0, k0_pay2 (F := Ideal) i X1 X2⟩]

end Cert.PoolIdeal.Hand
-- ==== Proof.PoolFinal.lean ====
module

public import proofs.«01_k».proof.Proof.PoolSpec

@[expose] public section

set_option maxRecDepth 16384

noncomputable section

namespace Cert.PoolIdeal.Hand

open Idealize.ShloMosaic Idealize.SL.Sem Idealize.ShloMosaic.Pipeline
open Cert.PoolIdeal Cert.PoolIdeal.Gen

/-- Channel `q` of the projected sequence `b`, by position. -/
def uSeq (x : S16384x1024.Idx → EReal) (w : S1024x1024.Idx → EReal) (b : ℕ) (q : Fin 1024) (p : ℕ) : EReal :=
  if h : b < 4 ∧ p < 4096 then ∑ j : Fin 1024, x (ix2 ⟨b * 4096 + p, by omega⟩ j) * w (ix2 j q) else 0

/-- The pool layer: the residual sum's layer norm, row by row. -/
def poolOut (x : S16384x1024.Idx → EReal) (w : S1024x1024.Idx → EReal) (wg : S4x256x256.Idx → EReal) (sc : S1024.Idx → EReal)
    (wo : S1024x1024.Idx → EReal) (g b : S1024.Idx → EReal) (R : Fin 16384) (k : Fin 1024) : EReal :=
  lnRow (fun q => Ideal.ofBits FTy.f32 1071072509#32 * x (ix2 R q)
      + ∑ K : Fin 1024, yAt (uSeq x w (R.val / 4096)) wg (fun K => sc (ix1 K)) (R.val % 4096) K * wo (ix2 K q)) (g (ix1 k)) (b (ix1 k)) k

theorem idx : ∀ t : Fin cfg0.N, win0_0.index t = ![t.val, 0] ∧ win0_1.index t = ![t.val * 64 - 1, 0] ∧ win0_2.index t = ![0, 0]
    ∧ win0_3.index t = ![0, 0, 0] ∧ win0_4.index t = ![0, 0] ∧ win0_5.index t = ![0, 0] ∧ win0_6.index t = ![0, 0] ∧ win0_7.index t = ![0, 0]
    ∧ win0_8.index t = ![t.val, 0] ∧ ((grid0.coords t) 0).val = t.val := by decide +kernel

theorem core (i : grid0.Coords) (t : ℕ) (ht : t < 16) (hi : (i 0).val = t) (X0 : Vec Ideal S1024x1024 .f32) (X1 : Vec Ideal S16x1024 .f32) (X2 : Vec Ideal S1024x1024 .bf16)
    (X3 : Vec Ideal S4x256x256 .bf16) (X4 : Vec Ideal S1x1024 .f32) (X5 : Vec Ideal S1024x1024 .bf16) (X6 X7 : Vec Ideal S1x1024 .f32)
    (x : S16384x1024.Idx → EReal) (w : S1024x1024.Idx → EReal) (wg : S4x256x256.Idx → EReal) (sc : S1024.Idx → EReal)
    (wo : S1024x1024.Idx → EReal) (g b : S1024.Idx → EReal)
    (h0 : ∀ (r : Fin 1024) (j : Fin 1024), X0 (ix2 r j) = x (ix2 ⟨t * 1024 + r.val, by omega⟩ j))
    (h1 : ∀ (r : Fin 16) (j : Fin 1024), X1 (ix2 r j) = x (ix2 ⟨(t * 64 - 1) * 16 + r.val, by omega⟩ j))
    (h2 : ∀ (r : Fin 1024) (j : Fin 1024), X2 (ix2 r j) = w (ix2 r j))
    (h3 : ∀ (a : Fin 4) (r : Fin 256) (j : Fin 256), X3 (ix3 a r j) = wg (ix3 a r j))
    (h4 : ∀ (r : Fin 1) (j : Fin 1024), X4 (ix2 r j) = sc (ix1 j))
    (h5 : ∀ (r : Fin 1024) (j : Fin 1024), X5 (ix2 r j) = wo (ix2 r j))
    (h6 : ∀ (r : Fin 1) (j : Fin 1024), X6 (ix2 r j) = g (ix1 j))
    (h7 : ∀ (r : Fin 1) (j : Fin 1024), X7 (ix2 r j) = b (ix1 j)) (y0 y1 : Fin 1024) :
    k0_pay1 (F := Ideal) X0 (fun j => ybufOf i (ubufOf i X0 X1 X2) X3 X4 ((Rect.unit (s := S1024x1024) ![0, 0] ![1024, 1024] inb_S1024x1024_S1024x1024_0_0).toLoadRect.idx j))
      X5 X6 X7 (ix2 y0 y1) = poolOut x w wg sc wo g b ⟨t * 1024 + y0.val, by omega⟩ y1 := by
  have hub : ∀ (r : Fin 1040) (k : Fin 1024), ubufOf i X0 X1 X2 (ix2 r k) = if 16 ≤ (i 0).val % 4 * 1024 + r.val
      then uSeq x w (t / 4) k ((i 0).val % 4 * 1024 + r.val - 16) else 0 := by
    intro r k
    unfold ubufOf
    rw [canon_two, hi]
    unfold uSeq
    by_cases h : 16 ≤ r.val
    · rw [dif_pos h, if_pos (by omega), dif_pos (by omega), pay3_at]
      refine Finset.sum_congr rfl fun j _ => ?_
      rw [h0, h2]
      congr 3
      exact Fin.ext (by show t * 1024 + (r.val - 16) = t / 4 * 4096 + (t % 4 * 1024 + r.val - 16); omega)
    · rw [dif_neg h, pay2_at, hi]
      by_cases h4 : t % 4 = 0
      · rw [if_pos h4, if_neg (by omega)]
      · rw [if_neg h4, if_pos (by omega), dif_pos (by omega)]
        refine Finset.sum_congr rfl fun j _ => ?_
        rw [h1, h2]
        congr 3
        exact Fin.ext (by show (t * 64 - 1) * 16 + r.val = t / 4 * 4096 + (t % 4 * 1024 + r.val - 16); omega)
  have hj : ∀ K : Fin 1024, (Rect.unit (s := S1024x1024) ![0, 0] ![1024, 1024] inb_S1024x1024_S1024x1024_0_0).toLoadRect.idx (ix2 y0 K) = ix2 y0 K := by
    intro K
    pointwise
  rw [pay1_at, h6, h7]
  unfold poolOut
  refine congrArg (fun z => lnRow z (g (ix1 y1)) (b (ix1 y1)) y1) (funext fun q => ?_)
  rw [h0]
  refine congrArg (Ideal.ofBits FTy.f32 1071072509#32 * x (ix2 ⟨t * 1024 + y0.val, by omega⟩ q) + ·) (Finset.sum_congr rfl fun K _ => ?_)
  rw [h5, hj, ybuf_at i (ubufOf i X0 X1 X2) (uSeq x w (t / 4)) X3 X4 hub y0 K, hi]
  refine congrArg (· * wo (ix2 K q)) ?_
  have e1 : (t * 1024 + y0.val) / 4096 = t / 4 := by omega
  have e2 : (t * 1024 + y0.val) % 4096 = t % 4 * 1024 + y0.val := by omega
  simp only [e1, e2]
  unfold yAt
  simp only [h3, h4]

variable (m : (ℓ : Loc nD τ sig) → Buf (Elt Ideal) ℓ) (c : Dev nD)

theorem blk0 (t : Fin cfg0.N) (r : Fin 1024) (j : Fin 1024) :
    iblk m c 0 t (ix2 r j) = m ((c.tc : Thread nD τ).loc main_arg0) (ix2 ⟨t.val * 1024 + r.val, by have : t.val < 16 := t.isLt; omega⟩ j) := by
  blk_point [iblk, V, idx t]
theorem blk1 (t : Fin cfg0.N) (r : Fin 16) (j : Fin 1024) :
    iblk m c 1 t (ix2 r j) = m ((c.tc : Thread nD τ).loc main_arg0) (ix2 ⟨(t.val * 64 - 1) * 16 + r.val, by have : t.val < 16 := t.isLt; omega⟩ j) := by
  blk_point [iblk, V, idx t]
theorem blk2 (t : Fin cfg0.N) (r : Fin 1024) (j : Fin 1024) : iblk m c 2 t (ix2 r j) = m ((c.tc : Thread nD τ).loc main_arg1) (ix2 r j) := by
  blk_point [iblk, V, idx t]
theorem blk3 (t : Fin cfg0.N) (a : Fin 4) (r : Fin 256) (j : Fin 256) : iblk m c 3 t (ix3 a r j) = m ((c.tc : Thread nD τ).loc main_arg2) (ix3 a r j) := by
  blk_point [iblk, V, idx t]
theorem blk4 (t : Fin cfg0.N) (r : Fin 1) (j : Fin 1024) : iblk m c 4 t (ix2 r j) = m ((c.tc : Thread nD τ).loc main_arg3) (ix1 j) := by
  blk_point [iblk, V, idx t]
theorem blk5 (t : Fin cfg0.N) (r : Fin 1024) (j : Fin 1024) : iblk m c 5 t (ix2 r j) = m ((c.tc : Thread nD τ).loc main_arg4) (ix2 r j) := by
  blk_point [iblk, V, idx t]
theorem blk6 (t : Fin cfg0.N) (r : Fin 1) (j : Fin 1024) : iblk m c 6 t (ix2 r j) = m ((c.tc : Thread nD τ).loc main_arg5) (ix1 j) := by
  blk_point [iblk, V, idx t]
theorem blk7 (t : Fin cfg0.N) (r : Fin 1) (j : Fin 1024) : iblk m c 7 t (ix2 r j) = m ((c.tc : Thread nD τ).loc main_arg6) (ix1 j) := by
  blk_point [iblk, V, idx t]

theorem final : (dats m 0 c).arrAt 8 (cfgs 0).N = fun i : S16384x1024.Idx =>
    poolOut (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (i 0) (i 1) := by
  refine (dats m 0 c).arrAt_eq_of_covers 8 _ (by decide +kernel) fun t _ y => ?_
  blk_simp
  rw [after0_8]
  unfold outsAt0
  frame_out
  simp only [View.readCov_eq_canon']
  change S1024x1024.Idx at y
  idx_vars y
  have hrow : (((View.whole main_v6).slice (win0_8.rect t)).emb (ix2 y0 y1) : S16384x1024.Idx) = ix2 ⟨t.val * 1024 + y0.val, by have : t.val < 16 := t.isLt; omega⟩ y1 := by
    blk_ext [idx t]
  rw [hrow]
  exact core (grid0.coords t) t.val t.isLt (idx t).2.2.2.2.2.2.2.2.2 (iblk m c 0 t) (iblk m c 1 t) (iblk m c 2 t) (iblk m c 3 t) (iblk m c 4 t) (iblk m c 5 t) (iblk m c 6 t) (iblk m c 7 t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (blk0 m c t) (blk1 m c t) (blk2 m c t) (blk3 m c t) (blk4 m c t) (blk5 m c t) (blk6 m c t) (blk7 m c t) y0 y1

end Cert.PoolIdeal.Hand
-- ==== Proof.PoolRef.lean ====
module

public import proofs.«01_k».proof.Proof.PoolFinal
public import proofs.«01_k».proof.Proof.Gen.PoolRefIdeal.Run
public import proofs.«01_k».proof.Proof.Gen.Pre_finite
public import Idealize.ShloMosaic.Lib.Routing.Ops
public import Idealize.ShloMosaic.Lib.ReduceAll

@[expose] public section

set_option maxRecDepth 16384

noncomputable section

namespace Cert.PoolRefIdeal.Hand

open Idealize.ShloMosaic Idealize.SL.Sem
open Cert.PoolRefIdeal Cert.PoolRefIdeal.Facts Cert.PoolRefIdeal.Gen

/-- The projected tokens, by sequence. -/
def refU (x : FVec Ideal S16384x1024 .f32) (w : FVec Ideal S1024x1024 .f32) : FVec Ideal S4x4096x1024 .f32 :=
  Host.dotGeneral dot_S4x4096x1024_S1024x1024_S4x4096x1024_2_0_01_1_n_n none (shapeCast _ x shapeCasts_S16384x1024_S4x4096x1024) w

/-- The running sums along the sequence. -/
def refCs (v : FVec Ideal S4x4096x256 .f32) : FVec Ideal S4x4096x256 .f32 :=
  Host.reduceWindowAdd ![1, 4096, 1] ![1, 1, 1] ![0, 4095, 0] ![0, 0, 0] v (broadcastInDim S_ ![] bcast_S_S_ (constant S_ .f32 0x00000000#32)) reduceWindows_S4x4096x256_S4x4096x256_w1s1p0_0_w4096s1p4095_0_w1s1p0_0 h_S_

/-- The windows' lengths: the position's count of tokens so far, at most the bound `w`. -/
def refCnt (w : BitVec 32) : FVec Ideal S4x4096x256 .f32 :=
  broadcastInDim S4x4096x256 ![0, 1, 2] bcast_S1x4096x1_S4x4096x256_0_1_2 (broadcastInDim S1x4096x1 ![1, 2] bcast_S4096x1_S1x4096x1_1_2 (broadcastInDim S4096x1 ![0] bcast_S4096_S4096x1_0 (minimumf (addf (broadcastInDim S4096 ![] bcast_S_S4096 (constant S_ .f32 0x3F800000#32)) (sitofp .f32 (iotaInDim S4096 32 0))) (broadcastInDim S4096 ![] bcast_S_S4096 (constant S_ .f32 w)))))

/-- The running sums, 2 positions later. -/
def refLag2 (s : FVec Ideal S4x4096x256 .f32) : FVec Ideal S4x4096x256 .f32 :=
  extractStridedSlice S4x4096x256 ![0, 0, 0] (pad S4x4098x256 ![0, 2, 0] ![0, 0, 0] ![0, 0, 0] s (sitofp .f32 (constantI S_ 32 0#32)) pads_S4x4096x256_S4x4098x256_000_200_000 h_S_) slices_S4x4098x256_S4x4096x256_0_0_0
/-- Group 0's channels of the projected tokens. -/
def refV2 (u : FVec Ideal S4x4096x1024 .f32) : FVec Ideal S4x4096x256 .f32 :=
  extractStridedSlice S4x4096x256 ![0, 0, 0] u slices_S4x4096x1024_S4x4096x256_0_0_0
/-- Group 0's pooled channels. -/
def refP2 (v : FVec Ideal S4x4096x256 .f32) : FVec Ideal S4x4096x1x256 .f32 :=
  broadcastInDim S4x4096x1x256 ![0, 1, 3] bcast_S4x4096x256_S4x4096x1x256_0_1_3 (subf (Host.divf (subf (refCs v) (refLag2 (refCs v))) (refCnt 0x40000000#32)) v)

/-- The running sums, 4 positions later. -/
def refLag4 (s : FVec Ideal S4x4096x256 .f32) : FVec Ideal S4x4096x256 .f32 :=
  extractStridedSlice S4x4096x256 ![0, 0, 0] (pad S4x4100x256 ![0, 4, 0] ![0, 0, 0] ![0, 0, 0] s (sitofp .f32 (constantI S_ 32 0#32)) pads_S4x4096x256_S4x4100x256_000_400_000 h_S_) slices_S4x4100x256_S4x4096x256_0_0_0
/-- Group 1's channels of the projected tokens. -/
def refV4 (u : FVec Ideal S4x4096x1024 .f32) : FVec Ideal S4x4096x256 .f32 :=
  extractStridedSlice S4x4096x256 ![0, 0, 256] u slices_S4x4096x1024_S4x4096x256_0_0_256
/-- Group 1's pooled channels. -/
def refP4 (v : FVec Ideal S4x4096x256 .f32) : FVec Ideal S4x4096x1x256 .f32 :=
  broadcastInDim S4x4096x1x256 ![0, 1, 3] bcast_S4x4096x256_S4x4096x1x256_0_1_3 (subf (Host.divf (subf (refCs v) (refLag4 (refCs v))) (refCnt 0x40800000#32)) v)

/-- The running sums, 8 positions later. -/
def refLag8 (s : FVec Ideal S4x4096x256 .f32) : FVec Ideal S4x4096x256 .f32 :=
  extractStridedSlice S4x4096x256 ![0, 0, 0] (pad S4x4104x256 ![0, 8, 0] ![0, 0, 0] ![0, 0, 0] s (sitofp .f32 (constantI S_ 32 0#32)) pads_S4x4096x256_S4x4104x256_000_800_000 h_S_) slices_S4x4104x256_S4x4096x256_0_0_0
/-- Group 2's channels of the projected tokens. -/
def refV8 (u : FVec Ideal S4x4096x1024 .f32) : FVec Ideal S4x4096x256 .f32 :=
  extractStridedSlice S4x4096x256 ![0, 0, 512] u slices_S4x4096x1024_S4x4096x256_0_0_512
/-- Group 2's pooled channels. -/
def refP8 (v : FVec Ideal S4x4096x256 .f32) : FVec Ideal S4x4096x1x256 .f32 :=
  broadcastInDim S4x4096x1x256 ![0, 1, 3] bcast_S4x4096x256_S4x4096x1x256_0_1_3 (subf (Host.divf (subf (refCs v) (refLag8 (refCs v))) (refCnt 0x41000000#32)) v)

/-- The running sums, 16 positions later. -/
def refLag16 (s : FVec Ideal S4x4096x256 .f32) : FVec Ideal S4x4096x256 .f32 :=
  extractStridedSlice S4x4096x256 ![0, 0, 0] (pad S4x4112x256 ![0, 16, 0] ![0, 0, 0] ![0, 0, 0] s (sitofp .f32 (constantI S_ 32 0#32)) pads_S4x4096x256_S4x4112x256_000_1600_000 h_S_) slices_S4x4112x256_S4x4096x256_0_0_0
/-- Group 3's channels of the projected tokens. -/
def refV16 (u : FVec Ideal S4x4096x1024 .f32) : FVec Ideal S4x4096x256 .f32 :=
  extractStridedSlice S4x4096x256 ![0, 0, 768] u slices_S4x4096x1024_S4x4096x256_0_0_768
/-- Group 3's pooled channels. -/
def refP16 (v : FVec Ideal S4x4096x256 .f32) : FVec Ideal S4x4096x1x256 .f32 :=
  broadcastInDim S4x4096x1x256 ![0, 1, 3] bcast_S4x4096x256_S4x4096x1x256_0_1_3 (subf (Host.divf (subf (refCs v) (refLag16 (refCs v))) (refCnt 0x41800000#32)) v)

/-- The scaled group products, of the groups' pooled channels. -/
def refY (p2 p4 p8 p16 : FVec Ideal S4x4096x1x256 .f32) (wg : FVec Ideal S4x256x256 .f32) (sc : FVec Ideal S1024 .f32) : FVec Ideal S4x4096x1024 .f32 :=
  mulf (shapeCast _ (transpose S4x4096x4x256 [2, 3, 0, 1] (Host.dotGeneral dot_S4x256x256_S4x4096x4x256_S4x256x4x4096_1_3_2_01_0_2 none wg
    (concatenate S4x4096x4x256 2 [⟨S4x4096x1x256, p2⟩, ⟨S4x4096x1x256, p4⟩, ⟨S4x4096x1x256, p8⟩, ⟨S4x4096x1x256, p16⟩] concatenates_S4x4096x1x256_S4x4096x1x256_S4x4096x1x256_S4x4096x1x256_S4x4096x4x256_d2))
    transposes_S4x256x4x4096_S4x4096x4x256_2_3_0_1) shapeCasts_S4x4096x4x256_S4x4096x1024) (broadcastInDim S4x4096x1024 ![0, 1, 2] bcast_S1x1x1024_S4x4096x1024_0_1_2 (broadcastInDim S1x1x1024 ![2] bcast_S1024_S1x1x1024_2 sc))

/-- The residual sum. -/
def refZ (x : FVec Ideal S16384x1024 .f32) (y : FVec Ideal S4x4096x1024 .f32) (wo : FVec Ideal S1024x1024 .f32) : FVec Ideal S4x4096x1024 .f32 :=
  addf (mulf (broadcastInDim S4x4096x1024 ![] bcast_S_S4x4096x1024 (constant S_ .f32 0x3FD744FD#32)) (shapeCast _ x shapeCasts_S16384x1024_S4x4096x1024)) (Host.dotGeneral dot_S4x4096x1024_S1024x1024_S4x4096x1024_2_0_01_1_n_n none y wo)

/-- The layer norm, as rows of the flat array. -/
def refLN (z : FVec Ideal S4x4096x1024 .f32) (g b : FVec Ideal S1024 .f32) : FVec Ideal S16384x1024 .f32 :=

  shapeCast _ (addf (mulf (mulf (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32))))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32))))) (subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32)))))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S1x1x1024_S4x4096x1024_0_1_2 (broadcastInDim S1x1x1024 ![2] bcast_S1024_S1x1x1024_2 b))) shapeCasts_S4x4096x1024_S16384x1024

/-- The reference as one composition. -/
def refOut (x : FVec Ideal S16384x1024 .f32) (w : FVec Ideal S1024x1024 .f32) (wg : FVec Ideal S4x256x256 .f32) (sc : FVec Ideal S1024 .f32) (wo : FVec Ideal S1024x1024 .f32) (g b : FVec Ideal S1024 .f32) : FVec Ideal S16384x1024 .f32 :=
  refLN (refZ x (refY (refP2 (refV2 (refU x w))) (refP4 (refV4 (refU x w))) (refP8 (refV8 (refU x w))) (refP16 (refV16 (refU x w))) wg sc) wo) g b

theorem res_eq (m : (ℓ : Loc nD τ sig) → Buf (Elt Ideal) ℓ) (c : Dev nD) :
    Cert.PoolRefIdeal.Value.res_main_v92 (F := Ideal) m c = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.PoolRefIdeal.Value.res_main_v92
  rfl

theorem refU_at (x : FVec Ideal S16384x1024 .f32) (w : FVec Ideal S1024x1024 .f32) (b : Fin 4) (s : Fin 4096) (q : Fin 1024) :
    refU x w (ix3 b s q) = ∑ j : Fin 1024, x (ix2 ⟨b.val * 4096 + s.val, by omega⟩ j) * w (ix2 j q) := by
  pointwise [refU]

/-! ## Running sums -/

theorem foldl_add {ι : Type} (g : ι → EReal) (l : List ι) (v : EReal) : l.foldl (fun r n => r + g n) v = v + (l.map g).sum := by
  induction l generalizing v with
  | nil => simp
  | cons n l ih => rw [List.foldl_cons, ih, List.map_cons, List.sum_cons, add_assoc]

/-- The padded window's sum at `s` is the sum of the entries up to `s`. -/
theorem sum_padded (G : ℕ → EReal) (N M s : ℕ) (hN : N = M + 1) (hs : s < N) :
    (∑ k ∈ Finset.range N, if M ≤ s + k then G (s + k - M) else 0) = ∑ i ∈ Finset.range (s + 1), G i := by
  obtain ⟨d, rfl⟩ : ∃ d, M = d + s := ⟨M - s, by omega⟩
  subst hN
  rw [show d + s + 1 = d + (s + 1) by omega, Finset.sum_range_add, Finset.sum_eq_zero, zero_add]
  · refine Finset.sum_congr rfl fun i _ => ?_
    rw [if_pos (by omega)]
    congr 1
    omega
  · intro k hk
    have := Finset.mem_range.1 hk
    rw [if_neg (by omega)]

theorem numel_mid (N : ℕ) : (⟨3, ![1, N, 1]⟩ : Shape).numel = N := by
  show ∏ a : Fin 3, (![1, N, 1] : Fin 3 → ℕ) a = N
  rw [Fin.prod_univ_three]
  show 1 * N * 1 = N
  omega

theorem symm_mid {N : ℕ} (n : Fin (⟨3, ![1, N, 1]⟩ : Shape).numel) :
    (⟨3, ![1, N, 1]⟩ : Shape).rowMajor.symm n = ix3 (0 : Fin 1) (n.cast (numel_mid N)) (0 : Fin 1) :=
  ((⟨3, ![1, N, 1]⟩ : Shape).rowMajor.symm_apply_eq).2 (Fin.ext (by
    rw [Shape.rowMajor_val_three]
    show n.val = (0 * N + n.val) * 1 + 0
    omega))

/-- A window sum along the middle axis, of the axis' length and padded low by one less, is a running sum. -/
theorem window_mid {B N C M : ℕ} (hN : N = M + 1) (x : (⟨3, ![B, N, C]⟩ : Shape).Idx → EReal) {u : Shape} (init : u.Idx → EReal) (hu : 0 < u.numel)
    (hinit : init (Shape.Idx.first hu) = 0)
    (h : (⟨3, ![B, N, C]⟩ : Shape).ReduceWindows (![1, N, 1] : Fin 3 → ℕ) ![1, 1, 1] ![0, M, 0] ![0, 0, 0] ⟨3, ![B, N, C]⟩)
    (b : Fin B) (s : Fin N) (q : Fin C) :
    Host.reduceWindow (· + ·) ![1, N, 1] ![1, 1, 1] ![0, M, 0] ![0, 0, 0] x init h hu (ix3 b s q)
      = ∑ i ∈ Finset.range (s.val + 1), if h : i < N then x (ix3 b ⟨i, h⟩ q) else 0 := by
  rw [← sum_padded (fun i => if h : i < N then x (ix3 b ⟨i, h⟩ q) else 0) N M s.val hN s.isLt]
  unfold Host.reduceWindow
  dsimp only
  refine (foldl_add _ _ _).trans ?_
  rw [hinit, zero_add, ← Fin.sum_univ_def]
  refine Eq.trans (Finset.sum_congr rfl fun n _ => ?_) ((Finset.sum_range fun n => if M ≤ s.val + n then
    (if h : s.val + n - M < N then x (ix3 b ⟨s.val + n - M, h⟩ q) else 0) else 0).symm.trans (by rw [numel_mid]))
  have hn : n.val < N := (n.cast (numel_mid N)).isLt
  have w0 : ((⟨3, ![1, N, 1]⟩ : Shape).rowMajor.symm n 0).val = 0 := by rw [symm_mid]; rfl
  have w1 : ((⟨3, ![1, N, 1]⟩ : Shape).rowMajor.symm n 1).val = n.val := by rw [symm_mid]; rfl
  have w2 : ((⟨3, ![1, N, 1]⟩ : Shape).rowMajor.symm n 2).val = 0 := by rw [symm_mid]; rfl
  have hb := b.isLt
  have hs := s.isLt
  have hq := q.isLt
  split
  · next hin =>
    have h1 := hin 1
    change M ≤ s.val * 1 + ((⟨3, ![1, N, 1]⟩ : Shape).rowMajor.symm n 1).val
      ∧ s.val * 1 + ((⟨3, ![1, N, 1]⟩ : Shape).rowMajor.symm n 1).val - M < N at h1
    rw [w1] at h1
    rw [if_pos (by omega), dif_pos (by omega)]
    refine congrArg x (funext fun a => Fin.ext ?_)
    match a with
    | ⟨0, _⟩ =>
      show b.val * 1 + ((⟨3, ![1, N, 1]⟩ : Shape).rowMajor.symm n 0).val - 0 = b.val
      rw [w0]; omega
    | ⟨1, _⟩ =>
      show s.val * 1 + ((⟨3, ![1, N, 1]⟩ : Shape).rowMajor.symm n 1).val - M = s.val + n.val - M
      rw [w1, Nat.mul_one]
    | ⟨2, _⟩ =>
      show q.val * 1 + ((⟨3, ![1, N, 1]⟩ : Shape).rowMajor.symm n 2).val - 0 = q.val
      rw [w2]; omega
  · next hin =>
    rw [if_neg fun hle => hin fun a => by
      match a with
      | ⟨0, _⟩ =>
        show 0 ≤ b.val * 1 + ((⟨3, ![1, N, 1]⟩ : Shape).rowMajor.symm n 0).val ∧ b.val * 1 + ((⟨3, ![1, N, 1]⟩ : Shape).rowMajor.symm n 0).val - 0 < B
        rw [w0]; omega
      | ⟨1, _⟩ =>
        show M ≤ s.val * 1 + ((⟨3, ![1, N, 1]⟩ : Shape).rowMajor.symm n 1).val ∧ s.val * 1 + ((⟨3, ![1, N, 1]⟩ : Shape).rowMajor.symm n 1).val - M < N
        rw [w1]; omega
      | ⟨2, _⟩ =>
        show 0 ≤ q.val * 1 + ((⟨3, ![1, N, 1]⟩ : Shape).rowMajor.symm n 2).val ∧ q.val * 1 + ((⟨3, ![1, N, 1]⟩ : Shape).rowMajor.symm n 2).val - 0 < C
        rw [w2]; omega]

theorem refCs_window (v : FVec Ideal S4x4096x256 .f32) :
    refCs v = Host.reduceWindow (· + ·) ![1, 4096, 1] ![1, 1, 1] ![0, 4095, 0] ![0, 0, 0] v
      (fun _ : (⟨0, ![]⟩ : Shape).Idx => broadcastInDim S_ ![] bcast_S_S_ (constant (F := Ideal) S_ .f32 0x00000000#32) (Shape.Idx.first h_S_))
      reduceWindows_S4x4096x256_S4x4096x256_w1s1p0_0_w4096s1p4095_0_w1s1p0_0 Nat.one_pos := by
  unfold refCs Host.reduceWindowAdd
  rw [Ideal.hostReduceWindowAdd_def]
  unfold Ideal.hostReduceWindowAdd
  rfl

theorem refCs_at (v : FVec Ideal S4x4096x256 .f32) (b : Fin 4) (s : Fin 4096) (q : Fin 256) :
    refCs v (ix3 b s q) = ∑ i ∈ Finset.range (s.val + 1), if h : i < 4096 then v (ix3 b ⟨i, h⟩ q) else 0 := by
  rw [refCs_window]
  have h0 : (broadcastInDim S_ ![] bcast_S_S_ (constant (F := Ideal) S_ .f32 0x00000000#32)) (Shape.Idx.first h_S_) = 0 := by
    pointwise
  exact window_mid (B := 4) (N := 4096) (C := 256) (M := 4095) (by omega) v
    _ _
    h0 reduceWindows_S4x4096x256_S4x4096x256_w1s1p0_0_w4096s1p4095_0_w1s1p0_0 b s q

/-! ## Finite values -/

/-- An extended real that is a real. -/
def Fin' (e : EReal) : Prop := ∃ r : ℝ, e = (r : EReal)

theorem Fin'.mul {a b : EReal} (ha : Fin' a) (hb : Fin' b) : Fin' (a * b) := by
  obtain ⟨r, rfl⟩ := ha
  obtain ⟨t, rfl⟩ := hb
  exact ⟨r * t, (EReal.coe_mul r t).symm⟩

theorem Fin'.sum {ι : Type} (s : Finset ι) (f : ι → EReal) (h : ∀ i ∈ s, Fin' (f i)) : Fin' (∑ i ∈ s, f i) := by
  classical
  refine Finset.sum_induction f Fin' (fun a b ha hb => ?_) ⟨0, rfl⟩ h
  obtain ⟨r, rfl⟩ := ha
  obtain ⟨t, rfl⟩ := hb
  exact ⟨r + t, (EReal.coe_add r t).symm⟩

theorem coe_sum (s : Finset ℕ) (f : ℕ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals a difference of running sums is a sum over the last `w` entries, cut at the start. -/
theorem prefix_sub (g : ℕ → ℝ) (w s : ℕ) (hw : 0 < w) :
    (∑ i ∈ Finset.range (s + 1), g i) - (if w ≤ s then ∑ i ∈ Finset.range (s - w + 1), g i else 0)
      = ∑ i ∈ Finset.range w, if i ≤ s then g (s - i) else 0 := by
  by_cases h : w ≤ s
  · rw [if_pos h, show s + 1 = (s - w + 1) + w by omega, Finset.sum_range_add, add_sub_cancel_left, ← Finset.sum_range_reflect]
    refine Finset.sum_congr rfl fun i hi => ?_
    have := Finset.mem_range.1 hi
    rw [if_pos (by omega)]
    congr 1
    omega
  · obtain ⟨d, rfl⟩ : ∃ d, w = (s + 1) + d := ⟨w - (s + 1), by omega⟩
    rw [if_neg h, sub_zero, Finset.sum_range_add _ (s + 1) d, ← Finset.sum_range_reflect]
    rw [Finset.sum_eq_zero (s := Finset.range d), add_zero]
    · refine Finset.sum_congr rfl fun i hi => ?_
      have := Finset.mem_range.1 hi
      rw [if_pos (by omega)]
      congr 1
    · intro i hi
      rw [if_neg (by omega)]

theorem prefix_sub_ereal (G : ℕ → EReal) (hG : ∀ i, Fin' (G i)) (w s : ℕ) (hw : 0 < w) :
    (∑ i ∈ Finset.range (s + 1), G i) - (if w ≤ s then ∑ i ∈ Finset.range (s - w + 1), G i else 0)
      = ∑ i ∈ Finset.range w, if i ≤ s then G (s - i) else 0 := by
  choose g hg using hG
  obtain rfl : G = fun i => (g i : EReal) := funext hg
  have h := congrArg (fun r : ℝ => (r : EReal)) (prefix_sub g w s hw)
  rw [EReal.coe_sub, coe_sum, coe_sum] at h
  refine Eq.trans ?_ (h.trans ?_)
  · split
    · rw [coe_sum]
    · rfl
  · refine Finset.sum_congr rfl fun i _ => ?_
    split <;> rfl

theorem fin_of_pre (x : FVec Ideal S16384x1024 .f32) (w : FVec Ideal S1024x1024 .f32) (a2 : FVec Ideal S4x256x256 .f32) (a3 : FVec Ideal S1024 .f32) (a4 : FVec Ideal S1024x1024 .f32) (a5 a6 : FVec Ideal S1024 .f32)
    (h : haveI := Cert.Pre_finite.Gen.facts; Cert.Pre_finite.fn (F := Ideal) x w a2 a3 a4 a5 a6 = fun _ => 1#1) : (∀ i, Fin' (x i)) ∧ ∀ i, Fin' (w i) := by
  have h0 := congrFun h ix0
  unfold Cert.Pre_finite.fn at h0
  dsimp only at h0
  obtain ⟨h1, h2⟩ := IntOp.andi_eq_one.1 h0
  have ht : Ideal.ofBits FTy.f32 0x7F800000#32 = ⊤ := by simp [Ideal.ofBits, Ideal.ieee]
  have key : ∀ e : EReal, BitVec.ofBool (decide (FloatOps.absf (F := Ideal) (φ := .f32) e < Ideal.ofBits FTy.f32 0x7F800000#32)) = 1#1 → Fin' e := by
    intro e he
    rw [ht, Idealize.ShloMosaic.WordCmp.ofBool_eq_one_iff, decide_eq_true_iff] at he
    change max e (-e) < ⊤ at he
    induction e using EReal.rec with
    | bot => simp at he
    | top => simp at he
    | coe r => exact ⟨r, rfl⟩
  constructor
  · intro i
    have := Host.reduce_andi_eq_one _ _ _ _ _ h1 i (Subsingleton.elim _ _)
    pointwise at this
    exact key _ this
  · intro i
    have := Host.reduce_andi_eq_one _ _ _ _ _ h2 i (Subsingleton.elim _ _)
    pointwise at this
    exact key _ this

theorem refCnt_at (w : BitVec 32) (b : Fin 4) (s : Fin 4096) (q : Fin 256) :
    refCnt w (ix3 b s q) = min (((s.val + 1 : ℕ) : ℝ) : EReal) (Ideal.ofBits FTy.f32 w) := by
  pointwise [refCnt]
  congr 1
  show 1 + (((BitVec.ofNat 32 s.val).toInt : ℝ) : EReal) = _
  have : (BitVec.ofNat 32 s.val).toInt = (s.val : ℤ) := by
    rw [BitVec.toInt_ofNat', Int.bmod_def]
    omega
  rw [this, Nat.cast_add, EReal.coe_add, add_comm]
  simp

theorem lit2 : Ideal.ofBits FTy.f32 0x40000000#32 = (((2 : ℕ) : ℝ) : EReal) := by
  simp [Ideal.ofBits, Ideal.ieee, -EReal.coe_mul]; try norm_num
theorem lit4 : Ideal.ofBits FTy.f32 0x40800000#32 = (((4 : ℕ) : ℝ) : EReal) := by
  simp [Ideal.ofBits, Ideal.ieee, -EReal.coe_mul]; try norm_num
theorem lit8 : Ideal.ofBits FTy.f32 0x41000000#32 = (((8 : ℕ) : ℝ) : EReal) := by
  simp [Ideal.ofBits, Ideal.ieee, -EReal.coe_mul]; try norm_num
theorem lit16 : Ideal.ofBits FTy.f32 0x41800000#32 = (((16 : ℕ) : ℝ) : EReal) := by
  simp [Ideal.ofBits, Ideal.ieee, -EReal.coe_mul]; try norm_num

theorem min_cast (a w : ℕ) : min (((a : ℕ) : ℝ) : EReal) (((w : ℕ) : ℝ) : EReal) = (((min a w : ℕ) : ℝ) : EReal) := by
  rcases le_total a w with h | h
  · rw [min_eq_left h, min_eq_left]
    exact EReal.coe_le_coe_iff.2 (Nat.cast_le.2 h)
  · rw [min_eq_right h, min_eq_right]
    exact EReal.coe_le_coe_iff.2 (Nat.cast_le.2 h)

theorem zero_word : (FloatOps.sitofp (F := Ideal) FTy.f32 0#32 : EReal) = 0 := by
  show (((0#32 : BitVec 32).toInt : ℝ) : EReal) = 0
  simp

/-- A channel along a sequence, with zeros after its end. -/
def seq (v : FVec Ideal S4x4096x256 .f32) (b : Fin 4) (q : Fin 256) (i : ℕ) : EReal := if h : i < 4096 then v (ix3 b ⟨i, h⟩ q) else 0

theorem seq_at (v : FVec Ideal S4x4096x256 .f32) (b : Fin 4) (s : Fin 4096) (q : Fin 256) : seq v b q s.val = v (ix3 b s q) := dif_pos s.isLt

theorem lag_at (v : FVec Ideal S4x4096x256 .f32) (hv : ∀ i, Fin' (v i)) (b : Fin 4) (s : Fin 4096) (q : Fin 256) (w : ℕ) (hw : 0 < w) :
    (refCs v (ix3 b s q) - if h : w ≤ s.val ∧ s.val - w < 4096 then refCs v (ix3 b ⟨s.val - w, h.2⟩ q) else 0)
      = ∑ i ∈ Finset.range w, if i ≤ s.val then seq v b q (s.val - i) else 0 := by
  have hG : ∀ i, Fin' (seq v b q i) := by
    intro i
    unfold seq
    split
    · exact hv _
    · exact ⟨0, rfl⟩
  rw [← prefix_sub_ereal (seq v b q) hG w s.val hw]
  refine congrArg₂ (· - ·) (refCs_at v b s q) ?_
  by_cases h : w ≤ s.val
  · rw [if_pos h, dif_pos ⟨h, by omega⟩]
    exact refCs_at v b _ q
  · rw [if_neg h, dif_neg (fun h' => h h'.1)]

theorem refP2_at (v : FVec Ideal S4x4096x256 .f32) (hv : ∀ i, Fin' (v i)) (b : Fin 4) (s : Fin 4096) (z : Fin 1) (q : Fin 256) :
    refP2 v (ix4 b s z q) = Cert.PoolIdeal.Hand.poolW (seq v b q) 2 s.val := by
  obtain rfl : z = 0 := Subsingleton.elim _ _
  have hc := refCnt_at 0x40000000#32 b s q
  rw [lit2, min_cast] at hc
  have h0 : (FloatOps.sitofp (F := Ideal) FTy.f32 0#32 : EReal) = 0 := zero_word
  pointwise [refP2, refLag2]
  rw [hc, h0, lag_at v hv b s q 2 (by omega)]
  unfold Cert.PoolIdeal.Hand.poolW
  rw [seq_at]

theorem refP4_at (v : FVec Ideal S4x4096x256 .f32) (hv : ∀ i, Fin' (v i)) (b : Fin 4) (s : Fin 4096) (z : Fin 1) (q : Fin 256) :
    refP4 v (ix4 b s z q) = Cert.PoolIdeal.Hand.poolW (seq v b q) 4 s.val := by
  obtain rfl : z = 0 := Subsingleton.elim _ _
  have hc := refCnt_at 0x40800000#32 b s q
  rw [lit4, min_cast] at hc
  have h0 : (FloatOps.sitofp (F := Ideal) FTy.f32 0#32 : EReal) = 0 := zero_word
  pointwise [refP4, refLag4]
  rw [hc, h0, lag_at v hv b s q 4 (by omega)]
  unfold Cert.PoolIdeal.Hand.poolW
  rw [seq_at]

theorem refP8_at (v : FVec Ideal S4x4096x256 .f32) (hv : ∀ i, Fin' (v i)) (b : Fin 4) (s : Fin 4096) (z : Fin 1) (q : Fin 256) :
    refP8 v (ix4 b s z q) = Cert.PoolIdeal.Hand.poolW (seq v b q) 8 s.val := by
  obtain rfl : z = 0 := Subsingleton.elim _ _
  have hc := refCnt_at 0x41000000#32 b s q
  rw [lit8, min_cast] at hc
  have h0 : (FloatOps.sitofp (F := Ideal) FTy.f32 0#32 : EReal) = 0 := zero_word
  pointwise [refP8, refLag8]
  rw [hc, h0, lag_at v hv b s q 8 (by omega)]
  unfold Cert.PoolIdeal.Hand.poolW
  rw [seq_at]

theorem refP16_at (v : FVec Ideal S4x4096x256 .f32) (hv : ∀ i, Fin' (v i)) (b : Fin 4) (s : Fin 4096) (z : Fin 1) (q : Fin 256) :
    refP16 v (ix4 b s z q) = Cert.PoolIdeal.Hand.poolW (seq v b q) 16 s.val := by
  obtain rfl : z = 0 := Subsingleton.elim _ _
  have hc := refCnt_at 0x41800000#32 b s q
  rw [lit16, min_cast] at hc
  have h0 : (FloatOps.sitofp (F := Ideal) FTy.f32 0#32 : EReal) = 0 := zero_word
  pointwise [refP16, refLag16]
  rw [hc, h0, lag_at v hv b s q 16 (by omega)]
  unfold Cert.PoolIdeal.Hand.poolW
  rw [seq_at]

theorem grp (f : Fin 1024 → ℕ → EReal) (s K n : ℕ) (x : Fin 256) (hK : K < 1024) (hn : K / 256 = n) :
    Cert.PoolIdeal.Hand.poolW (f ⟨n * 256 + x.val, by omega⟩) (2 ^ (n + 1)) s
      = Cert.PoolIdeal.Hand.poolW (f ⟨K / 256 * 256 + x.val, by omega⟩) (2 ^ (K / 256 + 1)) s := by
  subst hn
  rfl

theorem refY_at (p2 p4 p8 p16 : FVec Ideal S4x4096x1x256 .f32) (wg : FVec Ideal S4x256x256 .f32) (sc : FVec Ideal S1024 .f32) (f : Fin 1024 → ℕ → EReal)
    (b : Fin 4) (s : Fin 4096) (K : Fin 1024)
    (h2 : ∀ (z : Fin 1) (x : Fin 256), p2 (ix4 b s z x) = Cert.PoolIdeal.Hand.poolW (f ⟨0 * 256 + x.val, by omega⟩) (2 ^ (0 + 1)) s.val)
    (h4 : ∀ (z : Fin 1) (x : Fin 256), p4 (ix4 b s z x) = Cert.PoolIdeal.Hand.poolW (f ⟨1 * 256 + x.val, by omega⟩) (2 ^ (1 + 1)) s.val)
    (h8 : ∀ (z : Fin 1) (x : Fin 256), p8 (ix4 b s z x) = Cert.PoolIdeal.Hand.poolW (f ⟨2 * 256 + x.val, by omega⟩) (2 ^ (2 + 1)) s.val)
    (h16 : ∀ (z : Fin 1) (x : Fin 256), p16 (ix4 b s z x) = Cert.PoolIdeal.Hand.poolW (f ⟨3 * 256 + x.val, by omega⟩) (2 ^ (3 + 1)) s.val) :
    refY p2 p4 p8 p16 wg sc (ix3 b s K) = Cert.PoolIdeal.Hand.yAt f wg (fun K => sc (ix1 K)) s.val K := by
  pointwise [refY]
  unfold Cert.PoolIdeal.Hand.yAt
  have hK := K.isLt
  refine congrArg (· * sc (ix1 K)) (Finset.sum_congr rfl fun x _ => ?_)
  rw [mul_comm]
  refine congrArg (· * wg (ix3 ⟨K.val / 256, by omega⟩ x ⟨K.val % 256, by omega⟩)) ?_
  split
  · rw [h2]
    exact grp f s.val K.val 0 x hK (by omega)
  · split
    · rw [h4]
      exact grp f s.val K.val 1 x hK (by omega)
    · split
      · rw [h8]
        exact grp f s.val K.val 2 x hK (by omega)
      · rw [h16]
        exact grp f s.val K.val 3 x hK (by omega)

theorem refZ_at (x : FVec Ideal S16384x1024 .f32) (y : FVec Ideal S4x4096x1024 .f32) (wo : FVec Ideal S1024x1024 .f32) (b : Fin 4) (s : Fin 4096) (K : Fin 1024) :
    refZ x y wo (ix3 b s K) = Ideal.ofBits FTy.f32 1071072509#32 * x (ix2 ⟨b.val * 4096 + s.val, by omega⟩ K) + ∑ j : Fin 1024, y (ix3 b s j) * wo (ix2 j K) := by
  pointwise [refZ]

theorem refLN_at (z : FVec Ideal S4x4096x1024 .f32) (g b : FVec Ideal S1024 .f32) (R : Fin 16384) (k : Fin 1024) :
    refLN z g b (ix2 R k) = Cert.PoolIdeal.Hand.lnRow (fun q => z (ix3 ⟨R.val / 4096, by omega⟩ ⟨R.val % 4096, by omega⟩ q)) (g (ix1 k)) (b (ix1 k)) k := by
  pointwise [refLN]
  rfl

theorem seq_of (x : FVec Ideal S16384x1024 .f32) (w : FVec Ideal S1024x1024 .f32) (v : FVec Ideal S4x4096x256 .f32) (Q : Fin 1024) (t : Fin 256) (b : Fin 4) (i : ℕ)
    (h : ∀ s : Fin 4096, v (ix3 b s t) = refU x w (ix3 b s Q)) : seq v b t i = Cert.PoolIdeal.Hand.uSeq x w b.val Q i := by
  unfold seq Cert.PoolIdeal.Hand.uSeq
  by_cases hi : i < 4096
  · rw [dif_pos hi, dif_pos ⟨b.isLt, hi⟩, h, refU_at]
  · rw [dif_neg hi, dif_neg (fun h' => hi h'.2)]

theorem refV2_at (u : FVec Ideal S4x4096x1024 .f32) (b : Fin 4) (s : Fin 4096) (q : Fin 256) :
    refV2 u (ix3 b s q) = u (ix3 b s ⟨0 * 256 + q.val, by omega⟩) := by
  pointwise [refV2]

theorem refP2_of (x : FVec Ideal S16384x1024 .f32) (w : FVec Ideal S1024x1024 .f32) (hu : ∀ i, Fin' (refU x w i)) (b : Fin 4) (s : Fin 4096) (z : Fin 1) (t : Fin 256) :
    refP2 (refV2 (refU x w)) (ix4 b s z t)
      = Cert.PoolIdeal.Hand.poolW (Cert.PoolIdeal.Hand.uSeq x w b.val ⟨0 * 256 + t.val, by omega⟩) (2 ^ (0 + 1)) s.val := by
  rw [refP2_at _ (fun i => ?_)]
  · refine congrArg (fun f => Cert.PoolIdeal.Hand.poolW f 2 s.val) (funext fun i => ?_)
    exact seq_of x w (refV2 (refU x w)) ⟨0 * 256 + t.val, by omega⟩ t b i fun s => refV2_at _ b s t
  · obtain ⟨b, s, q, rfl⟩ : ∃ (b : Fin 4) (s : Fin 4096) (q : Fin 256), i = ix3 b s q := ⟨i 0, i 1, i 2, eq_ix3 i⟩
    rw [refV2_at]
    exact hu _

theorem refV4_at (u : FVec Ideal S4x4096x1024 .f32) (b : Fin 4) (s : Fin 4096) (q : Fin 256) :
    refV4 u (ix3 b s q) = u (ix3 b s ⟨1 * 256 + q.val, by omega⟩) := by
  pointwise [refV4]

theorem refP4_of (x : FVec Ideal S16384x1024 .f32) (w : FVec Ideal S1024x1024 .f32) (hu : ∀ i, Fin' (refU x w i)) (b : Fin 4) (s : Fin 4096) (z : Fin 1) (t : Fin 256) :
    refP4 (refV4 (refU x w)) (ix4 b s z t)
      = Cert.PoolIdeal.Hand.poolW (Cert.PoolIdeal.Hand.uSeq x w b.val ⟨1 * 256 + t.val, by omega⟩) (2 ^ (1 + 1)) s.val := by
  rw [refP4_at _ (fun i => ?_)]
  · refine congrArg (fun f => Cert.PoolIdeal.Hand.poolW f 4 s.val) (funext fun i => ?_)
    exact seq_of x w (refV4 (refU x w)) ⟨1 * 256 + t.val, by omega⟩ t b i fun s => refV4_at _ b s t
  · obtain ⟨b, s, q, rfl⟩ : ∃ (b : Fin 4) (s : Fin 4096) (q : Fin 256), i = ix3 b s q := ⟨i 0, i 1, i 2, eq_ix3 i⟩
    rw [refV4_at]
    exact hu _

theorem refV8_at (u : FVec Ideal S4x4096x1024 .f32) (b : Fin 4) (s : Fin 4096) (q : Fin 256) :
    refV8 u (ix3 b s q) = u (ix3 b s ⟨2 * 256 + q.val, by omega⟩) := by
  pointwise [refV8]

theorem refP8_of (x : FVec Ideal S16384x1024 .f32) (w : FVec Ideal S1024x1024 .f32) (hu : ∀ i, Fin' (refU x w i)) (b : Fin 4) (s : Fin 4096) (z : Fin 1) (t : Fin 256) :
    refP8 (refV8 (refU x w)) (ix4 b s z t)
      = Cert.PoolIdeal.Hand.poolW (Cert.PoolIdeal.Hand.uSeq x w b.val ⟨2 * 256 + t.val, by omega⟩) (2 ^ (2 + 1)) s.val := by
  rw [refP8_at _ (fun i => ?_)]
  · refine congrArg (fun f => Cert.PoolIdeal.Hand.poolW f 8 s.val) (funext fun i => ?_)
    exact seq_of x w (refV8 (refU x w)) ⟨2 * 256 + t.val, by omega⟩ t b i fun s => refV8_at _ b s t
  · obtain ⟨b, s, q, rfl⟩ : ∃ (b : Fin 4) (s : Fin 4096) (q : Fin 256), i = ix3 b s q := ⟨i 0, i 1, i 2, eq_ix3 i⟩
    rw [refV8_at]
    exact hu _

theorem refV16_at (u : FVec Ideal S4x4096x1024 .f32) (b : Fin 4) (s : Fin 4096) (q : Fin 256) :
    refV16 u (ix3 b s q) = u (ix3 b s ⟨3 * 256 + q.val, by omega⟩) := by
  pointwise [refV16]

theorem refP16_of (x : FVec Ideal S16384x1024 .f32) (w : FVec Ideal S1024x1024 .f32) (hu : ∀ i, Fin' (refU x w i)) (b : Fin 4) (s : Fin 4096) (z : Fin 1) (t : Fin 256) :
    refP16 (refV16 (refU x w)) (ix4 b s z t)
      = Cert.PoolIdeal.Hand.poolW (Cert.PoolIdeal.Hand.uSeq x w b.val ⟨3 * 256 + t.val, by omega⟩) (2 ^ (3 + 1)) s.val := by
  rw [refP16_at _ (fun i => ?_)]
  · refine congrArg (fun f => Cert.PoolIdeal.Hand.poolW f 16 s.val) (funext fun i => ?_)
    exact seq_of x w (refV16 (refU x w)) ⟨3 * 256 + t.val, by omega⟩ t b i fun s => refV16_at _ b s t
  · obtain ⟨b, s, q, rfl⟩ : ∃ (b : Fin 4) (s : Fin 4096) (q : Fin 256), i = ix3 b s q := ⟨i 0, i 1, i 2, eq_ix3 i⟩
    rw [refV16_at]
    exact hu _

theorem refOut_at (x : FVec Ideal S16384x1024 .f32) (w : FVec Ideal S1024x1024 .f32) (wg : FVec Ideal S4x256x256 .f32) (sc : FVec Ideal S1024 .f32) (wo : FVec Ideal S1024x1024 .f32) (g b : FVec Ideal S1024 .f32)
    (hx : ∀ i, Fin' (x i)) (hw : ∀ i, Fin' (w i)) :
    refOut x w wg sc wo g b = fun i : S16384x1024.Idx => Cert.PoolIdeal.Hand.poolOut x w wg sc wo g b (i 0) (i 1) := by
  funext i
  obtain ⟨R, k, rfl⟩ : ∃ (R : Fin 16384) (k : Fin 1024), i = ix2 R k := ⟨i 0, i 1, eq_ix2 i⟩
  show refOut x w wg sc wo g b (ix2 R k) = Cert.PoolIdeal.Hand.poolOut x w wg sc wo g b R k
  unfold refOut Cert.PoolIdeal.Hand.poolOut
  rw [refLN_at]
  have hR := R.isLt
  refine congrArg (fun z => Cert.PoolIdeal.Hand.lnRow z (g (ix1 k)) (b (ix1 k)) k) (funext fun q => ?_)
  rw [refZ_at]
  have hr : (⟨R.val / 4096 * 4096 + R.val % 4096, by omega⟩ : Fin 16384) = R := Fin.ext (by show R.val / 4096 * 4096 + R.val % 4096 = R.val; omega)
  rw [hr]
  refine congrArg (Ideal.ofBits FTy.f32 1071072509#32 * x (ix2 R q) + ·) (Finset.sum_congr rfl fun K _ => ?_)
  refine congrArg (· * wo (ix2 K q)) ?_
  have hu : ∀ i, Fin' (refU x w i) := by
    intro i
    obtain ⟨b, s, q, rfl⟩ : ∃ (b : Fin 4) (s : Fin 4096) (q : Fin 1024), i = ix3 b s q := ⟨i 0, i 1, i 2, eq_ix3 i⟩
    rw [refU_at]
    exact Fin'.sum _ _ fun j _ => (hx _).mul (hw _)
  exact refY_at _ _ _ _ wg sc (Cert.PoolIdeal.Hand.uSeq x w (R.val / 4096)) ⟨R.val / 4096, by omega⟩ ⟨R.val % 4096, by omega⟩ K
    (refP2_of x w hu _ _) (refP4_of x w hu _ _) (refP8_of x w hu _ _) (refP16_of x w hu _ _)

end Cert.PoolRefIdeal.Hand
-- ==== Proof.FfnIdealKit.lean ====
/- Vocabulary of the feed-forward kernel's run: the memrefs its body is called with, its own copy cells, and the
   region's invariant opened conjunct by conjunct. -/
module

public import proofs.«01_k».proof.Proof.Gen.FfnIdeal.Launch
public import proofs.«01_k».proof.Proof.Gen.FfnIdeal.Skeleton
public import proofs.«01_k».proof.Proof.Gen.FfnIdeal.Points
public import proofs.«01_k».proof.Proof.Gen.FfnIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The staged windows' current memrefs at point `t`, each whole. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The kernel's own buffers: the row tile as bf16, the hidden tile, the two weights as bf16, the two staging rings. -/
abbrev sc0 : Memref sig .tc .vmem S2x256x1024 .bf16 := Memref.whole cc0_scratch0
abbrev sc1 : Memref sig .tc .vmem S2x256x2816 .bf16 := Memref.whole cc0_scratch1
abbrev sc2 : Memref sig .tc .vmem S1024x5632 .bf16 := Memref.whole cc0_scratch2
abbrev sc3 : Memref sig .tc .vmem S2816x1024 .bf16 := Memref.whole cc0_scratch3
abbrev sc4 : Memref sig .tc .vmem S4x1024x256 .f32 := Memref.whole cc0_scratch4
abbrev sc5 : Memref sig .tc .vmem S4x128x1024 .f32 := Memref.whole cc0_scratch5
/-- The two stacks of weights, left in HBM and copied chunk by chunk. -/
abbrev hb0 : Memref sig .tc .hbm S4x2x1024x5632 .f32 := Memref.whole main_arg1
abbrev hb1 : Memref sig .tc .hbm S4x2x2816x1024 .f32 := Memref.whole main_arg2
/-- A memref's buffer on core `c`, and the whole of it held. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

end Cert.FfnIdeal.Hand

end
-- ==== Proof.FfnIdealSplit.lean ====
/- The kernel's body in two halves: the copies that fill the two weight buffers at the first grid point, and the
   feed-forward block itself, which every point runs. -/
module

public import proofs.«01_k».proof.Proof.FfnIdealKit

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the first grid point runs before the block: the two weights copied through their staging rings, rounded to bf16. -/
def stageProg (i : grid0.Coords) (arg1 : Memref sig .tc .vmem S1024x1024 .f32) (harg1 : arg1.IsWhole) (arg2 : Memref sig .tc .hbm S4x2x1024x5632 .f32) (harg2 : arg2.IsWhole) (arg3 : Memref sig .tc .hbm S4x2x2816x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S2x256x1024 .bf16) (harg7 : arg7.IsWhole) (arg8 : Memref sig .tc .vmem S2x256x2816 .bf16) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S4x1024x256 .f32) (harg11 : arg11.IsWhole) (arg12 : Memref sig .tc .vmem S4x128x1024 .f32) (harg12 : arg12.IsWhole) (arg13 : DmaSems sig S4) (arg14 : DmaSems sig S4) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 arg14
  k0_part2 i arg1 harg1 arg2 harg2 arg3 harg3 arg4 harg4 arg5 harg5 arg6 harg6 arg7 harg7 arg8 harg8 arg9 harg9 arg10 harg10 arg11 harg11 arg12 harg12 arg13 arg14
  k0_part3 i arg1 harg1 arg2 harg2 arg3 harg3 arg4 harg4 arg5 harg5 arg6 harg6 arg7 harg7 arg8 harg8 arg9 harg9 arg10 harg10 arg11 harg11 arg12 harg12 arg13 arg14
  let v1092 : FVec F S1024x256 .bf16 ← k0_part4 i arg1 harg1 arg2 harg2 arg3 harg3 arg4 harg4 arg5 harg5 arg6 harg6 arg7 harg7 arg8 harg8 arg9 harg9 arg10 harg10 arg11 harg11 arg12 harg12 arg13 arg14
  k0_part5 i arg1 harg1 arg2 harg2 arg3 harg3 arg4 harg4 arg5 harg5 arg6 harg6 arg7 harg7 arg8 harg8 arg9 harg9 arg10 harg10 arg11 harg11 arg12 harg12 arg13 arg14 v1092
  k0_part6 i arg1 harg1 arg2 harg2 arg3 harg3 arg4 harg4 arg5 harg5 arg6 harg6 arg7 harg7 arg8 harg8 arg9 harg9 arg10 harg10 arg11 harg11 arg12 harg12 arg13 arg14
  k0_part7 i arg1 harg1 arg2 harg2 arg3 harg3 arg4 harg4 arg5 harg5 arg6 harg6 arg7 harg7 arg8 harg8 arg9 harg9 arg10 harg10 arg11 harg11 arg12 harg12 arg13 arg14
  let v1192 : FVec F S1024x256 .bf16 ← k0_part8 i arg1 harg1 arg2 harg2 arg3 harg3 arg4 harg4 arg5 harg5 arg6 harg6 arg7 harg7 arg8 harg8 arg9 harg9 arg10 harg10 arg11 harg11 arg12 harg12 arg13 arg14
  k0_part9 i arg1 harg1 arg2 harg2 arg3 harg3 arg4 harg4 arg5 harg5 arg6 harg6 arg7 harg7 arg8 harg8 arg9 harg9 arg10 harg10 arg11 harg11 arg12 harg12 arg13 arg14 v1192
  k0_part10 i arg1 harg1 arg2 harg2 arg3 harg3 arg4 harg4 arg5 harg5 arg6 harg6 arg7 harg7 arg8 harg8 arg9 harg9 arg10 harg10 arg11 harg11 arg12 harg12 arg13 arg14
  k0_part11 i arg1 harg1 arg2 harg2 arg3 harg3 arg4 harg4 arg5 harg5 arg6 harg6 arg7 harg7 arg8 harg8 arg9 harg9 arg10 harg10 arg11 harg11 arg12 harg12 arg13 arg14
  let v1292 : FVec F S1024x256 .bf16 ← k0_part12 i arg1 harg1 arg2 harg2 arg3 harg3 arg4 harg4 arg5 harg5 arg6 harg6 arg7 harg7 arg8 harg8 arg9 harg9 arg10 harg10 arg11 harg11 arg12 harg12 arg13 arg14
  k0_part13 i arg1 harg1 arg2 harg2 arg3 harg3 arg4 harg4 arg5 harg5 arg6 harg6 arg7 harg7 arg8 harg8 arg9 harg9 arg10 harg10 arg11 harg11 arg12 harg12 arg13 arg14 v1292
  k0_part14 i arg1 harg1 arg2 harg2 arg3 harg3 arg4 harg4 arg5 harg5 arg6 harg6 arg7 harg7 arg8 harg8 arg9 harg9 arg10 harg10 arg11 harg11 arg12 harg12 arg13 arg14
  k0_part15 i arg1 harg1 arg2 harg2 arg3 harg3 arg4 harg4 arg5 harg5 arg6 harg6 arg7 harg7 arg8 harg8 arg9 harg9 arg10 harg10 arg11 harg11 arg12 harg12 arg13 arg14
  let v1392 : FVec F S1024x256 .bf16 ← k0_part16 i arg1 harg1 arg2 harg2 arg3 harg3 arg4 harg4 arg5 harg5 arg6 harg6 arg7 harg7 arg8 harg8 arg9 harg9 arg10 harg10 arg11 harg11 arg12 harg12 arg13 arg14
  let v1418 : FVec F S1024x256 .bf16 ← k0_part17 i arg1 harg1 arg2 harg2 arg3 harg3 arg4 harg4 arg5 harg5 arg6 harg6 arg7 harg7 arg8 harg8 arg9 harg9 arg10 harg10 arg11 harg11 arg12 harg12 arg13 arg14 v1392
  k0_part18 i arg1 harg1 arg2 harg2 arg3 harg3 arg4 harg4 arg5 harg5 arg6 harg6 arg7 harg7 arg8 harg8 arg9 harg9 arg10 harg10 arg11 harg11 arg12 harg12 arg13 arg14 v1418
  k0_part19 i arg1 harg1 arg2 harg2 arg3 harg3 arg4 harg4 arg5 harg5 arg6 harg6 arg7 harg7 arg8 harg8 arg9 harg9 arg10 harg10 arg11 harg11 arg12 harg12 arg13 arg14
  let v1492 : FVec F S128x1024 .bf16 ← k0_part20 i arg1 harg1 arg2 harg2 arg3 harg3 arg4 harg4 arg5 harg5 arg6 harg6 arg7 harg7 arg8 harg8 arg9 harg9 arg10 harg10 arg11 harg11 arg12 harg12 arg13 arg14
  k0_part21 i arg1 harg1 arg2 harg2 arg3 harg3 arg4 harg4 arg5 harg5 arg6 harg6 arg7 harg7 arg8 harg8 arg9 harg9 arg10 harg10 arg11 harg11 arg12 harg12 arg13 arg14 v1492
  k0_part22 i arg1 harg1 arg2 harg2 arg3 harg3 arg4 harg4 arg5 harg5 arg6 harg6 arg7 harg7 arg8 harg8 arg9 harg9 arg10 harg10 arg11 harg11 arg12 harg12 arg13 arg14
  k0_part23 i arg1 harg1 arg2 harg2 arg3 harg3 arg4 harg4 arg5 harg5 arg6 harg6 arg7 harg7 arg8 harg8 arg9 harg9 arg10 harg10 arg11 harg11 arg12 harg12 arg13 arg14
  let v1592 : FVec F S128x1024 .bf16 ← k0_part24 i arg1 harg1 arg2 harg2 arg3 harg3 arg4 harg4 arg5 harg5 arg6 harg6 arg7 harg7 arg8 harg8 arg9 harg9 arg10 harg10 arg11 harg11 arg12 harg12 arg13 arg14
  k0_part25 i arg1 harg1 arg2 harg2 arg3 harg3 arg4 harg4 arg5 harg5 arg6 harg6 arg7 harg7 arg8 harg8 arg9 harg9 arg10 harg10 arg11 harg11 arg12 harg12 arg13 arg14 v1592
  k0_part26 i arg1 harg1 arg2 harg2 arg3 harg3 arg4 harg4 arg5 harg5 arg6 harg6 arg7 harg7 arg8 harg8 arg9 harg9 arg10 harg10 arg11 harg11 arg12 harg12 arg13 arg14
  k0_part27 i arg1 harg1 arg2 harg2 arg3 harg3 arg4 harg4 arg5 harg5 arg6 harg6 arg7 harg7 arg8 harg8 arg9 harg9 arg10 harg10 arg11 harg11 arg12 harg12 arg13 arg14
  let v1692 : FVec F S128x1024 .bf16 ← k0_part28 i arg1 harg1 arg2 harg2 arg3 harg3 arg4 harg4 arg5 harg5 arg6 harg6 arg7 harg7 arg8 harg8 arg9 harg9 arg10 harg10 arg11 harg11 arg12 harg12 arg13 arg14
  k0_part29 i arg1 harg1 arg2 harg2 arg3 harg3 arg4 harg4 arg5 harg5 arg6 harg6 arg7 harg7 arg8 harg8 arg9 harg9 arg10 harg10 arg11 harg11 arg12 harg12 arg13 arg14 v1692
  k0_part30 i arg1 harg1 arg2 harg2 arg3 harg3 arg4 harg4 arg5 harg5 arg6 harg6 arg7 harg7 arg8 harg8 arg9 harg9 arg10 harg10 arg11 harg11 arg12 harg12 arg13 arg14
  k0_part31 i arg1 harg1 arg2 harg2 arg3 harg3 arg4 harg4 arg5 harg5 arg6 harg6 arg7 harg7 arg8 harg8 arg9 harg9 arg10 harg10 arg11 harg11 arg12 harg12 arg13 arg14
  let v1792 : FVec F S128x1024 .bf16 ← k0_part32 i arg1 harg1 arg2 harg2 arg3 harg3 arg4 harg4 arg5 harg5 arg6 harg6 arg7 harg7 arg8 harg8 arg9 harg9 arg10 harg10 arg11 harg11 arg12 harg12 arg13 arg14
  k0_part33 i arg1 harg1 arg2 harg2 arg3 harg3 arg4 harg4 arg5 harg5 arg6 harg6 arg7 harg7 arg8 harg8 arg9 harg9 arg10 harg10 arg11 harg11 arg12 harg12 arg13 arg14 v1792
  k0_part34 i arg1 harg1 arg2 harg2 arg3 harg3 arg4 harg4 arg5 harg5 arg6 harg6 arg7 harg7 arg8 harg8 arg9 harg9 arg10 harg10 arg11 harg11 arg12 harg12 arg13 arg14
  k0_part35 i arg1 harg1 arg2 harg2 arg3 harg3 arg4 harg4 arg5 harg5 arg6 harg6 arg7 harg7 arg8 harg8 arg9 harg9 arg10 harg10 arg11 harg11 arg12 harg12 arg13 arg14
  let v1869 : Vec F S1x128x1024 .f32 ← Prog.lift (.load arg12 (Rect.unit (s := S4x128x1024) ![1, 0, 0] S1x128x1024.size inb_S4x128x1024_S1x128x1024_1_0_0).toLoadRect (View.loadsAt_vmem h_S1x128x1024))
  let v1872 : Vec F S128x1024 .bf16 ← Prog.lift (.load arg10 (Rect.unit (s := S2816x1024) ![2688, 0] S128x1024.size inb_S2816x1024_S128x1024_2688_0).toLoadRect (View.loadsAt_vmem h_S128x1024))
  Prog.lift (.store arg10 (Rect.unit (s := S2816x1024) ![2688, 0] S128x1024.size inb_S2816x1024_S128x1024_2688_0) (k0_pay54 v1869) Finset.univ (View.stores_vmem h_S128x1024 (harg10.storeExact_slice rfl _ packedbf16_S2816x1024_S128x1024_2688_0) (fun _ => rfl)) (.inl rfl))
  pure ⟨⟩

/-- The first stretch of the block. -/
def compHead (i : grid0.Coords) (arg1 : Memref sig .tc .vmem S1024x1024 .f32) (harg1 : arg1.IsWhole) (arg2 : Memref sig .tc .hbm S4x2x1024x5632 .f32) (harg2 : arg2.IsWhole) (arg3 : Memref sig .tc .hbm S4x2x2816x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S2x256x1024 .bf16) (harg7 : arg7.IsWhole) (arg8 : Memref sig .tc .vmem S2x256x2816 .bf16) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S4x1024x256 .f32) (harg11 : arg11.IsWhole) (arg12 : Memref sig .tc .vmem S4x128x1024 .f32) (harg12 : arg12.IsWhole) (arg13 : DmaSems sig S4) (arg14 : DmaSems sig S4) :
    Prog (TpuEff nD τ sig (Elt F) Λ₀ .tc) (Σ' (v3 : Vec F S256x1024 .f32), FVec F S256x1024 .bf16) := do
  let v3 : Vec F S256x1024 .f32 ← Prog.lift (.load arg1 (Rect.unit (s := S1024x1024) ![0, 0] S256x1024.size inb_S1024x1024_S256x1024_0_0).toLoadRect (View.loadsAt_vmem h_S256x1024))
  let v5 : Vec F S1x256x1024 .bf16 ← Prog.lift (.load arg7 (Rect.unit (s := S2x256x1024) ![0, 0, 0] S1x256x1024.size inb_S2x256x1024_S1x256x1024_0_0_0).toLoadRect (View.loadsAt_vmem h_S1x256x1024))
  Prog.lift (.store arg7 (Rect.unit (s := S2x256x1024) ![0, 0, 0] S1x256x1024.size inb_S2x256x1024_S1x256x1024_0_0_0) (k0_pay55 v3) Finset.univ (View.stores_vmem h_S1x256x1024 (harg7.storeExact_slice rfl _ packedbf16_S2x256x1024_S1x256x1024_0_0_0) (fun _ => rfl)) (.inl rfl))
  let v8 : Vec F S1x256x1024 .bf16 ← Prog.lift (.load arg7 (Rect.unit (s := S2x256x1024) ![0, 0, 0] S1x256x1024.size inb_S2x256x1024_S1x256x1024_0_0_0).toLoadRect (View.loadsAt_vmem h_S1x256x1024))
  let v10 : Vec F S1024x256 .bf16 ← Prog.lift (.load arg9 (Rect.unit (s := S1024x5632) ![0, 0] S1024x256.size inb_S1024x5632_S1024x256_0_0).toLoadRect (View.loadsAt_vmem h_S1024x256))
  let v12 : Vec F S1024x256 .bf16 ← Prog.lift (.load arg9 (Rect.unit (s := S1024x5632) ![0, 2816] S1024x256.size inb_S1024x5632_S1024x256_0_2816).toLoadRect (View.loadsAt_vmem h_S1024x256))
  let v24 : Vec F S1x256x256 .bf16 ← Prog.lift (.load arg8 (Rect.unit (s := S2x256x2816) ![0, 0, 0] S1x256x256.size inb_S2x256x2816_S1x256x256_0_0_0).toLoadRect (View.loadsAt_vmem h_S1x256x256))
  Prog.lift (.store arg8 (Rect.unit (s := S2x256x2816) ![0, 0, 0] S1x256x256.size inb_S2x256x2816_S1x256x256_0_0_0) (k0_pay56 v8 v10 v12) Finset.univ (View.stores_vmem h_S1x256x256 (harg8.storeExact_slice rfl _ packedbf16_S2x256x2816_S1x256x256_0_0_0) (fun _ => rfl)) (.inl rfl))
  let v27 : Vec F S1x256x1024 .bf16 ← Prog.lift (.load arg7 (Rect.unit (s := S2x256x1024) ![0, 0, 0] S1x256x1024.size inb_S2x256x1024_S1x256x1024_0_0_0).toLoadRect (View.loadsAt_vmem h_S1x256x1024))
  pure ⟨v3, k0_pay57 v27⟩

/-- The block on one row tile: four sub-tiles, each through the two products and the normalisation. -/
def compProg (i : grid0.Coords) (arg1 : Memref sig .tc .vmem S1024x1024 .f32) (harg1 : arg1.IsWhole) (arg2 : Memref sig .tc .hbm S4x2x1024x5632 .f32) (harg2 : arg2.IsWhole) (arg3 : Memref sig .tc .hbm S4x2x2816x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S2x256x1024 .bf16) (harg7 : arg7.IsWhole) (arg8 : Memref sig .tc .vmem S2x256x2816 .bf16) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S4x1024x256 .f32) (harg11 : arg11.IsWhole) (arg12 : Memref sig .tc .vmem S4x128x1024 .f32) (harg12 : arg12.IsWhole) (arg13 : DmaSems sig S4) (arg14 : DmaSems sig S4) :
    Prog (TpuEff nD τ sig (Elt F) Λ₀ .tc) PUnit := do
  let ⟨v3, v28⟩ : Σ' (v3 : Vec F S256x1024 .f32), FVec F S256x1024 .bf16 ← compHead i arg1 harg1 arg2 harg2 arg3 harg3 arg4 harg4 arg5 harg5 arg6 harg6 arg7 harg7 arg8 harg8 arg9 harg9 arg10 harg10 arg11 harg11 arg12 harg12 arg13 arg14
  let ⟨v61, v62⟩ : Σ' (v61 : FVec F S256x256 .bf16), Vec F S1x256x256 .bf16 ← k0_part37 i arg1 harg1 arg2 harg2 arg3 harg3 arg4 harg4 arg5 harg5 arg6 harg6 arg7 harg7 arg8 harg8 arg9 harg9 arg10 harg10 arg11 harg11 arg12 harg12 arg13 arg14 v28
  let ⟨v87, v89, v94⟩ : Σ' (v87 : FVec F S256x256 .f32) (v89 : FVec F S256x256 .f32), FVec F S256x256 .f32 ← k0_part38 i arg1 harg1 arg2 harg2 arg3 harg3 arg4 harg4 arg5 harg5 arg6 harg6 arg7 harg7 arg8 harg8 arg9 harg9 arg10 harg10 arg11 harg11 arg12 harg12 arg13 arg14 v61 v62
  let ⟨v123, v125⟩ : Σ' (v123 : FVec F S256x1024 .bf16), FVec F S256x256 .f32 ← k0_part39 i arg1 harg1 arg2 harg2 arg3 harg3 arg4 harg4 arg5 harg5 arg6 harg6 arg7 harg7 arg8 harg8 arg9 harg9 arg10 harg10 arg11 harg11 arg12 harg12 arg13 arg14 v87 v89 v94
  k0_part40 i arg1 harg1 arg2 harg2 arg3 harg3 arg4 harg4 arg5 harg5 arg6 harg6 arg7 harg7 arg8 harg8 arg9 harg9 arg10 harg10 arg11 harg11 arg12 harg12 arg13 arg14 v123 v125
  let v193 : FVec F S256x256 .f32 ← k0_part41 i arg1 harg1 arg2 harg2 arg3 harg3 arg4 harg4 arg5 harg5 arg6 harg6 arg7 harg7 arg8 harg8 arg9 harg9 arg10 harg10 arg11 harg11 arg12 harg12 arg13 arg14
  let v225 : FVec F S256x1024 .f32 ← k0_part42 i arg1 harg1 arg2 harg2 arg3 harg3 arg4 harg4 arg5 harg5 arg6 harg6 arg7 harg7 arg8 harg8 arg9 harg9 arg10 harg10 arg11 harg11 arg12 harg12 arg13 arg14 v3 v193
  let ⟨v251, v257, v259⟩ : Σ' (v251 : Vec F S256x1024 .f32) (v257 : FVec F S256x1024 .bf16), FVec F S256x256 .f32 ← k0_part43 i arg1 harg1 arg2 harg2 arg3 harg3 arg4 harg4 arg5 harg5 arg6 harg6 arg7 harg7 arg8 harg8 arg9 harg9 arg10 harg10 arg11 harg11 arg12 harg12 arg13 arg14 v225
  k0_part44 i arg1 harg1 arg2 harg2 arg3 harg3 arg4 harg4 arg5 harg5 arg6 harg6 arg7 harg7 arg8 harg8 arg9 harg9 arg10 harg10 arg11 harg11 arg12 harg12 arg13 arg14 v257 v259
  let v327 : FVec F S256x256 .f32 ← k0_part45 i arg1 harg1 arg2 harg2 arg3 harg3 arg4 harg4 arg5 harg5 arg6 harg6 arg7 harg7 arg8 harg8 arg9 harg9 arg10 harg10 arg11 harg11 arg12 harg12 arg13 arg14
  let ⟨v354, v356, v357⟩ : Σ' (v354 : FVec F S256x256 .f32) (v356 : FVec F S256x256 .f32), FVec F S256x256 .f32 ← k0_part46 i arg1 harg1 arg2 harg2 arg3 harg3 arg4 harg4 arg5 harg5 arg6 harg6 arg7 harg7 arg8 harg8 arg9 harg9 arg10 harg10 arg11 harg11 arg12 harg12 arg13 arg14 v327
  let v390 : FVec F S256x1024 .bf16 ← k0_part47 i arg1 harg1 arg2 harg2 arg3 harg3 arg4 harg4 arg5 harg5 arg6 harg6 arg7 harg7 arg8 harg8 arg9 harg9 arg10 harg10 arg11 harg11 arg12 harg12 arg13 arg14 v354 v356 v357
  let ⟨v423, v424⟩ : Σ' (v423 : FVec F S256x256 .bf16), Vec F S1x256x256 .bf16 ← k0_part48 i arg1 harg1 arg2 harg2 arg3 harg3 arg4 harg4 arg5 harg5 arg6 harg6 arg7 harg7 arg8 harg8 arg9 harg9 arg10 harg10 arg11 harg11 arg12 harg12 arg13 arg14 v390
  let ⟨v449, v451, v456⟩ : Σ' (v449 : FVec F S256x256 .f32) (v451 : FVec F S256x256 .f32), FVec F S256x256 .f32 ← k0_part49 i arg1 harg1 arg2 harg2 arg3 harg3 arg4 harg4 arg5 harg5 arg6 harg6 arg7 harg7 arg8 harg8 arg9 harg9 arg10 harg10 arg11 harg11 arg12 harg12 arg13 arg14 v423 v424
  let ⟨v477, v493, v494⟩ : Σ' (v477 : FVec F S1x1024 .f32) (v493 : FVec F S256x1024 .f32), FVec F S256x1024 .f32 ← k0_part50 i arg1 harg1 arg2 harg2 arg3 harg3 arg4 harg4 arg5 harg5 arg6 harg6 arg7 harg7 arg8 harg8 arg9 harg9 arg10 harg10 arg11 harg11 arg12 harg12 arg13 arg14 v251 v449 v451 v456
  let ⟨v499, v524⟩ : Σ' (v499 : Vec F S256x1024 .f32), FVec F S256x1024 .bf16 ← k0_part51 i arg1 harg1 arg2 harg2 arg3 harg3 arg4 harg4 arg5 harg5 arg6 harg6 arg7 harg7 arg8 harg8 arg9 harg9 arg10 harg10 arg11 harg11 arg12 harg12 arg13 arg14 v477 v493 v494
  let ⟨v557, v558⟩ : Σ' (v557 : FVec F S256x256 .bf16), Vec F S1x256x256 .bf16 ← k0_part52 i arg1 harg1 arg2 harg2 arg3 harg3 arg4 harg4 arg5 harg5 arg6 harg6 arg7 harg7 arg8 harg8 arg9 harg9 arg10 harg10 arg11 harg11 arg12 harg12 arg13 arg14 v524
  let ⟨v583, v585, v590⟩ : Σ' (v583 : FVec F S256x256 .f32) (v585 : FVec F S256x256 .f32), FVec F S256x256 .f32 ← k0_part53 i arg1 harg1 arg2 harg2 arg3 harg3 arg4 harg4 arg5 harg5 arg6 harg6 arg7 harg7 arg8 harg8 arg9 harg9 arg10 harg10 arg11 harg11 arg12 harg12 arg13 arg14 v557 v558
  let ⟨v619, v621⟩ : Σ' (v619 : FVec F S256x1024 .bf16), FVec F S256x256 .f32 ← k0_part54 i arg1 harg1 arg2 harg2 arg3 harg3 arg4 harg4 arg5 harg5 arg6 harg6 arg7 harg7 arg8 harg8 arg9 harg9 arg10 harg10 arg11 harg11 arg12 harg12 arg13 arg14 v583 v585 v590
  k0_part55 i arg1 harg1 arg2 harg2 arg3 harg3 arg4 harg4 arg5 harg5 arg6 harg6 arg7 harg7 arg8 harg8 arg9 harg9 arg10 harg10 arg11 harg11 arg12 harg12 arg13 arg14 v619 v621
  let v689 : FVec F S256x256 .f32 ← k0_part56 i arg1 harg1 arg2 harg2 arg3 harg3 arg4 harg4 arg5 harg5 arg6 harg6 arg7 harg7 arg8 harg8 arg9 harg9 arg10 harg10 arg11 harg11 arg12 harg12 arg13 arg14
  let v721 : FVec F S256x1024 .f32 ← k0_part57 i arg1 harg1 arg2 harg2 arg3 harg3 arg4 harg4 arg5 harg5 arg6 harg6 arg7 harg7 arg8 harg8 arg9 harg9 arg10 harg10 arg11 harg11 arg12 harg12 arg13 arg14 v499 v689
  let ⟨v747, v753, v755⟩ : Σ' (v747 : Vec F S256x1024 .f32) (v753 : FVec F S256x1024 .bf16), FVec F S256x256 .f32 ← k0_part58 i arg1 harg1 arg2 harg2 arg3 harg3 arg4 harg4 arg5 harg5 arg6 harg6 arg7 harg7 arg8 harg8 arg9 harg9 arg10 harg10 arg11 harg11 arg12 harg12 arg13 arg14 v721
  k0_part59 i arg1 harg1 arg2 harg2 arg3 harg3 arg4 harg4 arg5 harg5 arg6 harg6 arg7 harg7 arg8 harg8 arg9 harg9 arg10 harg10 arg11 harg11 arg12 harg12 arg13 arg14 v753 v755
  let v823 : FVec F S256x256 .f32 ← k0_part60 i arg1 harg1 arg2 harg2 arg3 harg3 arg4 harg4 arg5 harg5 arg6 harg6 arg7 harg7 arg8 harg8 arg9 harg9 arg10 harg10 arg11 harg11 arg12 harg12 arg13 arg14
  let ⟨v850, v852, v853⟩ : Σ' (v850 : FVec F S256x256 .f32) (v852 : FVec F S256x256 .f32), FVec F S256x256 .f32 ← k0_part61 i arg1 harg1 arg2 harg2 arg3 harg3 arg4 harg4 arg5 harg5 arg6 harg6 arg7 harg7 arg8 harg8 arg9 harg9 arg10 harg10 arg11 harg11 arg12 harg12 arg13 arg14 v823
  let v886 : FVec F S256x1024 .bf16 ← k0_part62 i arg1 harg1 arg2 harg2 arg3 harg3 arg4 harg4 arg5 harg5 arg6 harg6 arg7 harg7 arg8 harg8 arg9 harg9 arg10 harg10 arg11 harg11 arg12 harg12 arg13 arg14 v850 v852 v853
  let ⟨v919, v920⟩ : Σ' (v919 : FVec F S256x256 .bf16), Vec F S1x256x256 .bf16 ← k0_part63 i arg1 harg1 arg2 harg2 arg3 harg3 arg4 harg4 arg5 harg5 arg6 harg6 arg7 harg7 arg8 harg8 arg9 harg9 arg10 harg10 arg11 harg11 arg12 harg12 arg13 arg14 v886
  let ⟨v945, v947, v952⟩ : Σ' (v945 : FVec F S256x256 .f32) (v947 : FVec F S256x256 .f32), FVec F S256x256 .f32 ← k0_part64 i arg1 harg1 arg2 harg2 arg3 harg3 arg4 harg4 arg5 harg5 arg6 harg6 arg7 harg7 arg8 harg8 arg9 harg9 arg10 harg10 arg11 harg11 arg12 harg12 arg13 arg14 v919 v920
  let ⟨v973, v989, v990⟩ : Σ' (v973 : FVec F S1x1024 .f32) (v989 : FVec F S256x1024 .f32), FVec F S256x1024 .f32 ← k0_part65 i arg1 harg1 arg2 harg2 arg3 harg3 arg4 harg4 arg5 harg5 arg6 harg6 arg7 harg7 arg8 harg8 arg9 harg9 arg10 harg10 arg11 harg11 arg12 harg12 arg13 arg14 v747 v945 v947 v952
  let v994 : Vec F S256x1024 .f32 ← Prog.lift (.load arg6 (Rect.unit (s := S1024x1024) ![768, 0] S256x1024.size inb_S1024x1024_S256x1024_768_0).toLoadRect (View.loadsAt_vmem h_S256x1024))
  Prog.lift (.store arg6 (Rect.unit (s := S1024x1024) ![768, 0] S256x1024.size inb_S1024x1024_S256x1024_768_0) (k0_pay1 v973 v989 v990) Finset.univ (View.stores_vmem_bits_univ h_S256x1024 rfl) (.inl rfl))
  pure ⟨⟩

/-- The branch condition of the body: this is the first grid point. -/
abbrev isFirst (i : grid0.Coords) : Prop := (Scalar.cmpi .ne (Scalar.extui (Scalar.cmpi .eq (BitVec.ofNat 32 (i 0).val) 0#32)) 0#32) = 1#1

theorem isFirst_iff : ∀ t : Fin cfg0.N, isFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val = 0 ↔ t.val % 16 = 0 := by omega
    rw [e1]
    simp only [isFirst, e0]
    word_cmp
   : ∀ t : Fin grid0.N, isFirst (grid0.coords t) ↔ t.val = 0)

/-- At the first point the body is the copies and then the block; -/
theorem body_first (i : grid0.Coords) (arg1 : Memref sig .tc .vmem S1024x1024 .f32) (harg1 : arg1.IsWhole) (arg2 : Memref sig .tc .hbm S4x2x1024x5632 .f32) (harg2 : arg2.IsWhole) (arg3 : Memref sig .tc .hbm S4x2x2816x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S2x256x1024 .bf16) (harg7 : arg7.IsWhole) (arg8 : Memref sig .tc .vmem S2x256x2816 .bf16) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S4x1024x256 .f32) (harg11 : arg11.IsWhole) (arg12 : Memref sig .tc .vmem S4x128x1024 .f32) (harg12 : arg12.IsWhole) (arg13 : DmaSems sig S4) (arg14 : DmaSems sig S4) (h : isFirst i) :
    cc0_ffn (F := F) i arg1 harg1 arg2 harg2 arg3 harg3 arg4 harg4 arg5 harg5 arg6 harg6 arg7 harg7 arg8 harg8 arg9 harg9 arg10 harg10 arg11 harg11 arg12 harg12 arg13 arg14 = (stageProg i arg1 harg1 arg2 harg2 arg3 harg3 arg4 harg4 arg5 harg5 arg6 harg6 arg7 harg7 arg8 harg8 arg9 harg9 arg10 harg10 arg11 harg11 arg12 harg12 arg13 arg14 >>= fun _ => compProg i arg1 harg1 arg2 harg2 arg3 harg3 arg4 harg4 arg5 harg5 arg6 harg6 arg7 harg7 arg8 harg8 arg9 harg9 arg10 harg10 arg11 harg11 arg12 harg12 arg13 arg14) := by
  rw [cc0_ffn_eq_skeleton]; unfold cc0_ffn_skel
  rw [k0_part36_eq_skeleton]; unfold k0_part36_skel
  rw [dif_pos h]
  unfold compProg compHead stageProg
  simp only [Prog.bind_assoc]
  rfl

/-- at every other point it is the block alone. -/
theorem body_rest (i : grid0.Coords) (arg1 : Memref sig .tc .vmem S1024x1024 .f32) (harg1 : arg1.IsWhole) (arg2 : Memref sig .tc .hbm S4x2x1024x5632 .f32) (harg2 : arg2.IsWhole) (arg3 : Memref sig .tc .hbm S4x2x2816x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S2x256x1024 .bf16) (harg7 : arg7.IsWhole) (arg8 : Memref sig .tc .vmem S2x256x2816 .bf16) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S4x1024x256 .f32) (harg11 : arg11.IsWhole) (arg12 : Memref sig .tc .vmem S4x128x1024 .f32) (harg12 : arg12.IsWhole) (arg13 : DmaSems sig S4) (arg14 : DmaSems sig S4) (h : ¬ isFirst i) :
    cc0_ffn (F := F) i arg1 harg1 arg2 harg2 arg3 harg3 arg4 harg4 arg5 harg5 arg6 harg6 arg7 harg7 arg8 harg8 arg9 harg9 arg10 harg10 arg11 harg11 arg12 harg12 arg13 arg14 = compProg i arg1 harg1 arg2 harg2 arg3 harg3 arg4 harg4 arg5 harg5 arg6 harg6 arg7 harg7 arg8 harg8 arg9 harg9 arg10 harg10 arg11 harg11 arg12 harg12 arg13 arg14 := by
  rw [cc0_ffn_eq_skeleton]; unfold cc0_ffn_skel
  rw [k0_part36_eq_skeleton]; unfold k0_part36_skel
  rw [dif_neg h]
  rfl

end Cert.FfnIdeal.Hand

end
-- ==== Proof.FfnIdealChunk.lean ====
/- The copies at the first grid point: whatever the staging rings held, the weight buffers end at the two weights of the
   layer, rounded to bf16. -/
module

public import proofs.«01_k».proof.Proof.FfnIdealSplit
public import Idealize.ShloMosaic.Lib.ViewIndex
public import Idealize.ShloMosaic.Lib.Writes
public import Idealize.ShloMosaic.Lib.Pipeline.Value

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The layer's gate and up projections, as the copies find them in HBM. -/
def guRaw (c : Dev nD) (fh0 : HbBuf (F := F) c hb0) : Vec F S1024x5632 .f32 :=
  View.read (Elt F) ((hb0.slice (Rect.unit (s := S4x2x1024x5632) ![0, 0, 0, 0] S1x1x1024x5632.size inb_S4x2x1024x5632_S1x1x1024x5632_0_0_0_0) (fun _ => rfl)).squeeze S1024x5632 squeezes_S1x1x1024x5632_S1024x5632).view fh0

/-- The layer's down projection, as the copies find it in HBM. -/
def dnRaw (c : Dev nD) (fh1 : HbBuf (F := F) c hb1) : Vec F S2816x1024 .f32 :=
  View.read (Elt F) ((hb1.slice (Rect.unit (s := S4x2x2816x1024) ![0, 0, 0, 0] S1x1x2816x1024.size inb_S4x2x2816x1024_S1x1x2816x1024_0_0_0_0) (fun _ => rfl)).squeeze S2816x1024 squeezes_S1x1x2816x1024_S2816x1024).view fh1

/-- The two weights as the block reads them, rounded to bf16. -/
def guW (c : Dev nD) (fh0 : HbBuf (F := F) c hb0) : Vec F S1024x5632 .bf16 := truncf .bf16 (guRaw c fh0 : FVec F S1024x5632 .f32) bitsLt_bf16_f32
def dnW (c : Dev nD) (fh1 : HbBuf (F := F) c hb1) : Vec F S2816x1024 .bf16 := truncf .bf16 (dnRaw c fh1 : FVec F S2816x1024 .f32) bitsLt_bf16_f32

/-- A slot of the gu ring read after a copy into another slot landed: as before that copy. -/
theorem guSlot_skip (M : Memref sig .tc .vmem S4x1024x256 .f32) (k k' : ℕ) (h : k ≠ k') (inb : ∀ a, (![k, 0, 0] : Fin 3 → ℕ) a + S1x1024x256.size a ≤ S4x1024x256.size a)
    (inb' : ∀ a, (![k', 0, 0] : Fin 3 → ℕ) a + S1x1024x256.size a ≤ S4x1024x256.size a) (hp) (hs : S1x1024x256.Squeezes S1024x256) (f : M.view.ty.Contents (Elt F)) (w : S1024x256.Idx → Elt F .f32) :
    View.readAt (Elt F) M.view (Rect.unit (s := S4x1024x256) ![k, 0, 0] S1x1024x256.size inb).toLoadRect
        (View.write (Elt F) ((M.slice (Rect.unit (s := S4x1024x256) ![k', 0, 0] S1x1024x256.size inb') hp).squeeze S1024x256 hs).view f w Finset.univ)
      = View.readAt (Elt F) M.view (Rect.unit (s := S4x1024x256) ![k, 0, 0] S1x1024x256.size inb).toLoadRect f := by
  show View.read (Elt F) (M.view.slice (Rect.unit (s := S4x1024x256) ![k, 0, 0] S1x1024x256.size inb))
    (View.write (Elt F) ((M.view.slice (Rect.unit (s := S4x1024x256) ![k', 0, 0] S1x1024x256.size inb')).reshape S1024x256 (Shape.Squeezes.numel_eq hs)) f w Finset.univ) = _
  rw [View.write_reshape_univ, View.read_slice_write_slice_of_disjoint]
  · rfl
  · rw [View.setOn_univ, View.set_slice, View.set_slice]
    exact (Finset.disjoint_map _).mpr (Rect.unit_disjoint (s := S4x1024x256) (off := ![k, 0, 0]) (off' := ![k', 0, 0]) (size := S1x1024x256.size) (size' := S1x1024x256.size) 0 (by
      show k + 1 ≤ k' ∨ k' + 1 ≤ k
      omega))

/-- The slot a copy landed in reads that copy's payload. -/
theorem guSlot_read (M : Memref sig .tc .vmem S4x1024x256 .f32) (k : ℕ) (inb : ∀ a, (![k, 0, 0] : Fin 3 → ℕ) a + S1x1024x256.size a ≤ S4x1024x256.size a)
    (inb' : ∀ a, (![k, 0, 0] : Fin 3 → ℕ) a + S1x1024x256.size a ≤ S4x1024x256.size a) (hp) (hs : S1x1024x256.Squeezes S1024x256) (f : M.view.ty.Contents (Elt F)) (w : S1024x256.Idx → Elt F .f32) :
    View.readAt (Elt F) M.view (Rect.unit (s := S4x1024x256) ![k, 0, 0] S1x1024x256.size inb).toLoadRect
        (View.write (Elt F) ((M.slice (Rect.unit (s := S4x1024x256) ![k, 0, 0] S1x1024x256.size inb') hp).squeeze S1024x256 hs).view f w Finset.univ)
      = fun y => w ((Shape.reshapeEquiv (Shape.Squeezes.numel_eq hs)).symm y) := by
  show View.read (Elt F) (M.view.slice (Rect.unit (s := S4x1024x256) ![k, 0, 0] S1x1024x256.size inb))
    (View.write (Elt F) ((M.view.slice (Rect.unit (s := S4x1024x256) ![k, 0, 0] S1x1024x256.size inb)).reshape S1024x256 (Shape.Squeezes.numel_eq hs)) f w Finset.univ) = _
  rw [View.write_reshape_univ, View.read_write_univ]
  rfl

/-- The two again, with the slot spelled by its sizes. -/
theorem guSlot_skip' (M : Memref sig .tc .vmem S4x1024x256 .f32) (k k' : ℕ) (h : k ≠ k') (inb : ∀ a, (![k, 0, 0] : Fin 3 → ℕ) a + (![1, 1024, 256] : Fin 3 → ℕ) a ≤ S4x1024x256.size a)
    (inb' : ∀ a, (![k', 0, 0] : Fin 3 → ℕ) a + (![1, 1024, 256] : Fin 3 → ℕ) a ≤ S4x1024x256.size a) (hn) (f : M.view.ty.Contents (Elt F)) (w : S1024x256.Idx → Elt F .f32) :
    View.readAt (Elt F) M.view (Rect.unit (s := S4x1024x256) ![k, 0, 0] ![1, 1024, 256] inb).toLoadRect
        (View.write (Elt F) ((M.view.slice (Rect.unit (s := S4x1024x256) ![k', 0, 0] ![1, 1024, 256] inb')).reshape S1024x256 hn) f w Finset.univ)
      = View.readAt (Elt F) M.view (Rect.unit (s := S4x1024x256) ![k, 0, 0] ![1, 1024, 256] inb).toLoadRect f :=
  guSlot_skip M k k' h inb inb' (fun _ => rfl) squeezes_S1x1024x256_S1024x256 f w
theorem guSlot_read' (M : Memref sig .tc .vmem S4x1024x256 .f32) (k : ℕ) (inb : ∀ a, (![k, 0, 0] : Fin 3 → ℕ) a + (![1, 1024, 256] : Fin 3 → ℕ) a ≤ S4x1024x256.size a)
    (inb' : ∀ a, (![k, 0, 0] : Fin 3 → ℕ) a + (![1, 1024, 256] : Fin 3 → ℕ) a ≤ S4x1024x256.size a) (hn) (f : M.view.ty.Contents (Elt F)) (w : S1024x256.Idx → Elt F .f32) :
    View.readAt (Elt F) M.view (Rect.unit (s := S4x1024x256) ![k, 0, 0] ![1, 1024, 256] inb).toLoadRect
        (View.write (Elt F) ((M.view.slice (Rect.unit (s := S4x1024x256) ![k, 0, 0] ![1, 1024, 256] inb')).reshape S1024x256 hn) f w Finset.univ)
      = fun y => w ((Shape.reshapeEquiv (Shape.Squeezes.numel_eq squeezes_S1x1024x256_S1024x256)).symm y) :=
  guSlot_read M k inb inb' (fun _ => rfl) squeezes_S1x1024x256_S1024x256 f w

/-- What is stored of a loaded slot. -/
def guPay (v : Vec F S1x1024x256 .f32) : FVec F S1024x256 .bf16 :=
  shapeCast S1024x256 (truncf .bf16 (shapeCast S1024x256 v shapeCasts_S1x1024x256_S1024x256 : FVec F S1024x256 .f32) bitsLt_bf16_f32) shapeCasts_S1024x256_S1024x256

/-- A chunk stored of the slot that holds it is the rounded weight at the chunk's rectangle. -/
theorem guPiece (c : Dev nD) (fh : HbBuf (F := F) c hb0) (a b : ℕ) (inb : ∀ k, (![a, b] : Fin 2 → ℕ) k + S1024x256.size k ≤ S1024x5632.size k) (v : Vec F S1x1024x256 .f32)
    (hv : ∀ y : S1x1024x256.Idx, v y = guRaw c fh ((Rect.unit (s := S1024x5632) ![a, b] S1024x256.size inb).emb ((Shape.reshapeEquiv (Shape.Squeezes.numel_eq squeezes_S1x1024x256_S1024x256)).symm y))) (x : S1024x256.Idx) :
    guPay v x = guW c fh ((Rect.unit (s := S1024x5632) ![a, b] S1024x256.size inb).emb x) := by
  unfold guPay guW
  rw [shapeCast_self]
  show FloatOps.truncf .bf16 bitsLt_bf16_f32 (v (Shape.reshapeEquiv shapeCasts_S1x1024x256_S1024x256 x)) = FloatOps.truncf .bf16 bitsLt_bf16_f32 (guRaw c fh _)
  rw [hv]
  exact congrArg (fun z => FloatOps.truncf .bf16 bitsLt_bf16_f32 (guRaw c fh ((Rect.unit (s := S1024x5632) ![a, b] S1024x256.size inb).emb z))) (Equiv.symm_apply_apply _ _)

/-- A slot of the dn ring read after a copy into another slot landed: as before that copy. -/
theorem dnSlot_skip (M : Memref sig .tc .vmem S4x128x1024 .f32) (k k' : ℕ) (h : k ≠ k') (inb : ∀ a, (![k, 0, 0] : Fin 3 → ℕ) a + S1x128x1024.size a ≤ S4x128x1024.size a)
    (inb' : ∀ a, (![k', 0, 0] : Fin 3 → ℕ) a + S1x128x1024.size a ≤ S4x128x1024.size a) (hp) (hs : S1x128x1024.Squeezes S128x1024) (f : M.view.ty.Contents (Elt F)) (w : S128x1024.Idx → Elt F .f32) :
    View.readAt (Elt F) M.view (Rect.unit (s := S4x128x1024) ![k, 0, 0] S1x128x1024.size inb).toLoadRect
        (View.write (Elt F) ((M.slice (Rect.unit (s := S4x128x1024) ![k', 0, 0] S1x128x1024.size inb') hp).squeeze S128x1024 hs).view f w Finset.univ)
      = View.readAt (Elt F) M.view (Rect.unit (s := S4x128x1024) ![k, 0, 0] S1x128x1024.size inb).toLoadRect f := by
  show View.read (Elt F) (M.view.slice (Rect.unit (s := S4x128x1024) ![k, 0, 0] S1x128x1024.size inb))
    (View.write (Elt F) ((M.view.slice (Rect.unit (s := S4x128x1024) ![k', 0, 0] S1x128x1024.size inb')).reshape S128x1024 (Shape.Squeezes.numel_eq hs)) f w Finset.univ) = _
  rw [View.write_reshape_univ, View.read_slice_write_slice_of_disjoint]
  · rfl
  · rw [View.setOn_univ, View.set_slice, View.set_slice]
    exact (Finset.disjoint_map _).mpr (Rect.unit_disjoint (s := S4x128x1024) (off := ![k, 0, 0]) (off' := ![k', 0, 0]) (size := S1x128x1024.size) (size' := S1x128x1024.size) 0 (by
      show k + 1 ≤ k' ∨ k' + 1 ≤ k
      omega))

/-- The slot a copy landed in reads that copy's payload. -/
theorem dnSlot_read (M : Memref sig .tc .vmem S4x128x1024 .f32) (k : ℕ) (inb : ∀ a, (![k, 0, 0] : Fin 3 → ℕ) a + S1x128x1024.size a ≤ S4x128x1024.size a)
    (inb' : ∀ a, (![k, 0, 0] : Fin 3 → ℕ) a + S1x128x1024.size a ≤ S4x128x1024.size a) (hp) (hs : S1x128x1024.Squeezes S128x1024) (f : M.view.ty.Contents (Elt F)) (w : S128x1024.Idx → Elt F .f32) :
    View.readAt (Elt F) M.view (Rect.unit (s := S4x128x1024) ![k, 0, 0] S1x128x1024.size inb).toLoadRect
        (View.write (Elt F) ((M.slice (Rect.unit (s := S4x128x1024) ![k, 0, 0] S1x128x1024.size inb') hp).squeeze S128x1024 hs).view f w Finset.univ)
      = fun y => w ((Shape.reshapeEquiv (Shape.Squeezes.numel_eq hs)).symm y) := by
  show View.read (Elt F) (M.view.slice (Rect.unit (s := S4x128x1024) ![k, 0, 0] S1x128x1024.size inb))
    (View.write (Elt F) ((M.view.slice (Rect.unit (s := S4x128x1024) ![k, 0, 0] S1x128x1024.size inb)).reshape S128x1024 (Shape.Squeezes.numel_eq hs)) f w Finset.univ) = _
  rw [View.write_reshape_univ, View.read_write_univ]
  rfl

/-- The two again, with the slot spelled by its sizes. -/
theorem dnSlot_skip' (M : Memref sig .tc .vmem S4x128x1024 .f32) (k k' : ℕ) (h : k ≠ k') (inb : ∀ a, (![k, 0, 0] : Fin 3 → ℕ) a + (![1, 128, 1024] : Fin 3 → ℕ) a ≤ S4x128x1024.size a)
    (inb' : ∀ a, (![k', 0, 0] : Fin 3 → ℕ) a + (![1, 128, 1024] : Fin 3 → ℕ) a ≤ S4x128x1024.size a) (hn) (f : M.view.ty.Contents (Elt F)) (w : S128x1024.Idx → Elt F .f32) :
    View.readAt (Elt F) M.view (Rect.unit (s := S4x128x1024) ![k, 0, 0] ![1, 128, 1024] inb).toLoadRect
        (View.write (Elt F) ((M.view.slice (Rect.unit (s := S4x128x1024) ![k', 0, 0] ![1, 128, 1024] inb')).reshape S128x1024 hn) f w Finset.univ)
      = View.readAt (Elt F) M.view (Rect.unit (s := S4x128x1024) ![k, 0, 0] ![1, 128, 1024] inb).toLoadRect f :=
  dnSlot_skip M k k' h inb inb' (fun _ => rfl) squeezes_S1x128x1024_S128x1024 f w
theorem dnSlot_read' (M : Memref sig .tc .vmem S4x128x1024 .f32) (k : ℕ) (inb : ∀ a, (![k, 0, 0] : Fin 3 → ℕ) a + (![1, 128, 1024] : Fin 3 → ℕ) a ≤ S4x128x1024.size a)
    (inb' : ∀ a, (![k, 0, 0] : Fin 3 → ℕ) a + (![1, 128, 1024] : Fin 3 → ℕ) a ≤ S4x128x1024.size a) (hn) (f : M.view.ty.Contents (Elt F)) (w : S128x1024.Idx → Elt F .f32) :
    View.readAt (Elt F) M.view (Rect.unit (s := S4x128x1024) ![k, 0, 0] ![1, 128, 1024] inb).toLoadRect
        (View.write (Elt F) ((M.view.slice (Rect.unit (s := S4x128x1024) ![k, 0, 0] ![1, 128, 1024] inb')).reshape S128x1024 hn) f w Finset.univ)
      = fun y => w ((Shape.reshapeEquiv (Shape.Squeezes.numel_eq squeezes_S1x128x1024_S128x1024)).symm y) :=
  dnSlot_read M k inb inb' (fun _ => rfl) squeezes_S1x128x1024_S128x1024 f w

/-- What is stored of a loaded slot. -/
def dnPay (v : Vec F S1x128x1024 .f32) : FVec F S128x1024 .bf16 :=
  shapeCast S128x1024 (truncf .bf16 (shapeCast S128x1024 v shapeCasts_S1x128x1024_S128x1024 : FVec F S128x1024 .f32) bitsLt_bf16_f32) shapeCasts_S128x1024_S128x1024

/-- A chunk stored of the slot that holds it is the rounded weight at the chunk's rectangle. -/
theorem dnPiece (c : Dev nD) (fh : HbBuf (F := F) c hb1) (a b : ℕ) (inb : ∀ k, (![a, b] : Fin 2 → ℕ) k + S128x1024.size k ≤ S2816x1024.size k) (v : Vec F S1x128x1024 .f32)
    (hv : ∀ y : S1x128x1024.Idx, v y = dnRaw c fh ((Rect.unit (s := S2816x1024) ![a, b] S128x1024.size inb).emb ((Shape.reshapeEquiv (Shape.Squeezes.numel_eq squeezes_S1x128x1024_S128x1024)).symm y))) (x : S128x1024.Idx) :
    dnPay v x = dnW c fh ((Rect.unit (s := S2816x1024) ![a, b] S128x1024.size inb).emb x) := by
  unfold dnPay dnW
  rw [shapeCast_self]
  show FloatOps.truncf .bf16 bitsLt_bf16_f32 (v (Shape.reshapeEquiv shapeCasts_S1x128x1024_S128x1024 x)) = FloatOps.truncf .bf16 bitsLt_bf16_f32 (dnRaw c fh _)
  rw [hv]
  exact congrArg (fun z => FloatOps.truncf .bf16 bitsLt_bf16_f32 (dnRaw c fh ((Rect.unit (s := S2816x1024) ![a, b] S128x1024.size inb).emb z))) (Equiv.symm_apply_apply _ _)

end Cert.FfnIdeal.Hand

end
-- ==== Proof.FfnIdealBlk.lean ====
/- The block at one grid point as values: its row tiles, the hidden tile of a row tile, and the rows it stores, each as the
   kernel's own operations make them. -/
module

public import proofs.«01_k».proof.Proof.FfnIdealChunk
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Row tile `s` of the block. -/
def rowsOf (fa : Vec F S1024x1024 .f32) (s : ℕ) : Vec F S256x1024 .f32 := fun y => fa (ix2 (n0 := 1024) (n1 := 1024) ⟨(256 * s + (y 0).val) % 1024, Nat.mod_lt _ (by decide)⟩ (y 1))
/-- Column chunk `k` of the gate and up projections. -/
def colsOf (f9 : Vec F S1024x5632 .bf16) (k : ℕ) : Vec F S1024x256 .bf16 := fun y => f9 (ix2 (n0 := 1024) (n1 := 5632) (y 0) ⟨(256 * k + (y 1).val) % 5632, Nat.mod_lt _ (by decide)⟩)
/-- A row tile rounded to bf16, as it is kept. -/
def xbOf (fa : Vec F S1024x1024 .f32) (s : ℕ) : Vec F S1x256x1024 .bf16 := k0_pay55 (rowsOf fa s)
/-- The hidden tile of row tile `s`, column chunk by column chunk. -/
def hidOf (fa : Vec F S1024x1024 .f32) (f9 : Vec F S1024x5632 .bf16) (s : ℕ) (r : Fin 256) (j : Fin 2816) : Elt F .bf16 :=
  k0_pay56 (xbOf fa s) (colsOf f9 (j.val / 256)) (colsOf f9 (11 + j.val / 256)) (ix3 (n0 := 1) (n1 := 256) (n2 := 256) 0 r ⟨j.val % 256, Nat.mod_lt _ (by decide)⟩)
def hidVec (fa : Vec F S1024x1024 .f32) (f9 : Vec F S1024x5632 .bf16) (s : ℕ) : Vec F S1x256x2816 .bf16 := fun y => hidOf fa f9 s (y 1) (y 2)
/-- The rows stored of row tile `s`. -/
def outOf (fa : Vec F S1024x1024 .f32) (fg fb : Vec F S1x1024 .f32) (f9 : Vec F S1024x5632 .bf16) (f10 : Vec F S2816x1024 .bf16) (s : ℕ) : FVec F S256x1024 .f32 :=
  k0_pay77 (k0_pay76 (rowsOf fa s) (hidVec fa f9 s) f10) fg fb
/-- The block stored at one grid point. -/
def blkOf (fa : Vec F S1024x1024 .f32) (fg fb : Vec F S1x1024 .f32) (f9 : Vec F S1024x5632 .bf16) (f10 : Vec F S2816x1024 .bf16) : Vec F S1024x1024 .f32 :=
  fun y => outOf fa fg fb f9 f10 ((y 0).val / 256) (ix2 (n0 := 256) (n1 := 1024) ⟨(y 0).val % 256, Nat.mod_lt _ (by decide)⟩ (y 1))

theorem rd_rows (M : Memref sig .tc .vmem S1024x1024 .f32) (hM : M.IsWhole) (fa : Vec F S1024x1024 .f32) (s o : ℕ) (ho : o = 256 * s) (hs : s < 4) (inb : ∀ a, (![o, 0] : Fin 2 → ℕ) a + S256x1024.size a ≤ S1024x1024.size a) :
    View.readAt (Elt F) M.view (Rect.unit (s := S1024x1024) ![o, 0] S256x1024.size inb).toLoadRect (hM.unread fa) = rowsOf fa s := by
  funext y
  refine (congrFun (hM.read_unread fa) _).trans (congrArg fa (funext fun a => ?_))
  have h0 : (y 0).val < 256 := (y 0).isLt
  match a with
  | ⟨0, _⟩ => exact Fin.ext (by show o + 1 * (y 0).val = (256 * s + (y 0).val) % 1024; omega)
  | ⟨1, _⟩ => exact Fin.ext (by show 0 + 1 * (y 1).val = (y 1).val; omega)

theorem rd_cols (M : Memref sig .tc .vmem S1024x5632 .bf16) (hM : M.IsWhole) (f9 : Vec F S1024x5632 .bf16) (k o : ℕ) (ho : o = 256 * k) (hk : k < 22) (inb : ∀ a, (![0, o] : Fin 2 → ℕ) a + S1024x256.size a ≤ S1024x5632.size a) :
    View.readAt (Elt F) M.view (Rect.unit (s := S1024x5632) ![0, o] S1024x256.size inb).toLoadRect (hM.unread f9) = colsOf f9 k := by
  funext y
  refine (congrFun (hM.read_unread f9) _).trans (congrArg f9 (funext fun a => ?_))
  have h0 : (y 1).val < 256 := (y 1).isLt
  match a with
  | ⟨0, _⟩ => exact Fin.ext (by show 0 + 1 * (y 0).val = (y 0).val; omega)
  | ⟨1, _⟩ => exact Fin.ext (by show o + 1 * (y 1).val = (256 * k + (y 1).val) % 5632; omega)

/-- A whole buffer read in one piece. -/
theorem rd_whole {S : Shape} {e : EltTy} (M : Memref sig .tc .vmem S e) (hM : M.IsWhole) (f : Vec F S e) (o : Fin S.rank → ℕ) (ho : ∀ a, o a = 0) (inb : ∀ a, o a + S.size a ≤ S.size a) :
    View.readAt (Elt F) M.view (Rect.unit (s := S) o S.size inb).toLoadRect (hM.unread f) = f := by
  funext y
  refine (congrFun (hM.read_unread f) _).trans (congrArg f (funext fun a => ?_))
  exact Fin.ext (by show o a + 1 * (y a).val = (y a).val; rw [ho a]; omega)

/-- A chunk of the hidden tile as it is stored. -/
theorem hidPiece (M : Memref sig .tc .vmem S1024x5632 .bf16) (hM : M.IsWhole) (fa : Vec F S1024x1024 .f32) (f9 : Vec F S1024x5632 .bf16) (s k o1 o2 sl : ℕ) (h1 : o1 = 256 * k) (h2 : o2 = 256 * (11 + k)) (hk : k < 11)
    (inb1 : ∀ a, (![0, o1] : Fin 2 → ℕ) a + S1024x256.size a ≤ S1024x5632.size a) (inb2 : ∀ a, (![0, o2] : Fin 2 → ℕ) a + S1024x256.size a ≤ S1024x5632.size a)
    (inb : ∀ a, (![sl, 0, o1] : Fin 3 → ℕ) a + S1x256x256.size a ≤ S2x256x2816.size a) (v : Vec F S1x256x1024 .bf16) (hv : v = xbOf fa s) (x : S1x256x256.Idx) :
    k0_pay56 v (View.readAt (Elt F) M.view (Rect.unit (s := S1024x5632) ![0, o1] S1024x256.size inb1).toLoadRect (hM.unread f9))
        (View.readAt (Elt F) M.view (Rect.unit (s := S1024x5632) ![0, o2] S1024x256.size inb2).toLoadRect (hM.unread f9)) x
      = hidOf fa f9 s ((Rect.unit (s := S2x256x2816) ![sl, 0, o1] S1x256x256.size inb).emb x 1) ((Rect.unit (s := S2x256x2816) ![sl, 0, o1] S1x256x256.size inb).emb x 2) := by
  subst hv
  rw [rd_cols M hM f9 k o1 h1 (by omega), rd_cols M hM f9 (11 + k) o2 h2 (by omega)]
  have hx0 : (x 0).val < 1 := (x 0).isLt
  have hx2 : (x 2).val < 256 := (x 2).isLt
  have e2 : ((Rect.unit (s := S2x256x2816) ![sl, 0, o1] S1x256x256.size inb).emb x 2).val = o1 + 1 * (x 2).val := rfl
  have e1 : ((Rect.unit (s := S2x256x2816) ![sl, 0, o1] S1x256x256.size inb).emb x 1).val = 0 + 1 * (x 1).val := rfl
  have hd : ((Rect.unit (s := S2x256x2816) ![sl, 0, o1] S1x256x256.size inb).emb x 2).val / 256 = k := by omega
  have hm : ((Rect.unit (s := S2x256x2816) ![sl, 0, o1] S1x256x256.size inb).emb x 2).val % 256 = (x 2).val := by omega
  unfold hidOf
  rw [hd]
  refine congrArg (k0_pay56 (xbOf fa s) (colsOf f9 k) (colsOf f9 (11 + k))) (funext fun a => ?_)
  match a with
  | ⟨0, _⟩ => exact Fin.ext (by show (x 0).val = 0; omega)
  | ⟨1, _⟩ => exact Fin.ext (by show (x 1).val = ((Rect.unit (s := S2x256x2816) ![sl, 0, o1] S1x256x256.size inb).emb x 1).val; omega)
  | ⟨2, _⟩ => exact Fin.ext hm.symm

/-- Peeling the latest store off a buffer filled piece by piece. -/
theorem canon_step {S : Shape} {e : EltTy} (G : S.Idx → Elt F e) (r : Rect S) (w : r.shape.Idx → Elt F e) (L : List (View.Piece (Elt F) S e)) (y : S.Idx)
    (hp : ∀ x, w x = G (r.emb x)) (h : y ∉ r.set → View.canon L y = G y) : View.canon (⟨r, w⟩ :: L) y = G y := by
  by_cases hy : y ∈ r.set
  · obtain ⟨x, rfl⟩ := r.exists_idx_of_mem hy
    exact (View.canon_cons_emb r w L x).trans (hp x)
  · exact (View.canon_cons_of_not_mem ⟨r, w⟩ L hy).trans (h hy)

/-- An index of a slot is in one of the slot's eleven chunks. -/
theorem slot_chunk (sl : ℕ) (y : S2x256x2816.Idx) (h0 : (y 0).val = sl) (o : ℕ) (inb : ∀ a, (![sl, 0, o] : Fin 3 → ℕ) a + S1x256x256.size a ≤ S2x256x2816.size a)
    (h : y ∉ (Rect.unit (s := S2x256x2816) ![sl, 0, o] S1x256x256.size inb).set) : (y 2).val < o ∨ o + 256 ≤ (y 2).val := by
  by_contra hc
  refine h (Rect.mem_set_unit.mpr fun a => ?_)
  have h1 : (y 1).val < 256 := (y 1).isLt
  match a with
  | ⟨0, _⟩ => exact ⟨by show sl ≤ (y 0).val; omega, by show (y 0).val < sl + 1; omega⟩
  | ⟨1, _⟩ => exact ⟨by show 0 ≤ (y 1).val; omega, by show (y 1).val < 0 + 256; omega⟩
  | ⟨2, _⟩ => exact ⟨by show o ≤ (y 2).val; omega, by show (y 2).val < o + 256; omega⟩

/-- A row tile as it is stored. -/
theorem outPiece (fa : Vec F S1024x1024 .f32) (fg fb : Vec F S1x1024 .f32) (f9 : Vec F S1024x5632 .bf16) (f10 : Vec F S2816x1024 .bf16) (s o : ℕ) (ho : o = 256 * s) (inb : ∀ a, (![o, 0] : Fin 2 → ℕ) a + S256x1024.size a ≤ S1024x1024.size a)
    (vr : Vec F S256x1024 .f32) (vh : Vec F S1x256x2816 .bf16) (vd : Vec F S2816x1024 .bf16) (vg vb : Vec F S1x1024 .f32)
    (hr : vr = rowsOf fa s) (hh : vh = hidVec fa f9 s) (hd : vd = f10) (hg : vg = fg) (hb : vb = fb) (x : S256x1024.Idx) :
    k0_pay77 (k0_pay76 vr vh vd) vg vb x = blkOf fa fg fb f9 f10 ((Rect.unit (s := S1024x1024) ![o, 0] S256x1024.size inb).emb x) := by
  subst hr hh hd hg hb
  have hx0 : (x 0).val < 256 := (x 0).isLt
  have e0 : ((Rect.unit (s := S1024x1024) ![o, 0] S256x1024.size inb).emb x 0).val = o + 1 * (x 0).val := rfl
  have e1 : ((Rect.unit (s := S1024x1024) ![o, 0] S256x1024.size inb).emb x 1).val = 0 + 1 * (x 1).val := rfl
  have hq : ((Rect.unit (s := S1024x1024) ![o, 0] S256x1024.size inb).emb x 0).val / 256 = s := by omega
  have hm : ((Rect.unit (s := S1024x1024) ![o, 0] S256x1024.size inb).emb x 0).val % 256 = (x 0).val := by omega
  unfold blkOf
  rw [hq]
  refine congrArg (outOf fa vg vb f9 vd s) (funext fun a => ?_)
  match a with
  | ⟨0, _⟩ => exact Fin.ext hm.symm
  | ⟨1, _⟩ => exact Fin.ext (by show (x 1).val = ((Rect.unit (s := S1024x1024) ![o, 0] S256x1024.size inb).emb x 1).val; omega)

end Cert.FfnIdeal.Hand

end
-- ==== Proof.FfnIdealPay.lean ====
/- The stored payloads, each split differently by the program text: all the same chunk, and the same tail. -/
module

public import proofs.«01_k».proof.Proof.FfnIdealBlk

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem chunk_eq_0_10 (v : Vec F S1x256x1024 .bf16) (a : Vec F S1024x256 .bf16) (b : Vec F S1024x256 .bf16) : k0_pay75 v a b = k0_pay56 v a b := rfl
theorem chunk_eq_0_9 (v : Vec F S1x256x1024 .bf16) (a : Vec F S1024x256 .bf16) (b : Vec F S1024x256 .bf16) : k0_pay74 (k0_pay73 v a b) = k0_pay56 v a b := rfl
theorem chunk_eq_0_8 (v : Vec F S1x256x1024 .bf16) (a : Vec F S1024x256 .bf16) (b : Vec F S1024x256 .bf16) : k0_pay72 v a b = k0_pay56 v a b := rfl
theorem chunk_eq_0_7 (v : Vec F S1x256x1024 .bf16) (a : Vec F S1024x256 .bf16) (b : Vec F S1024x256 .bf16) : k0_pay71 v a b = k0_pay56 v a b := rfl
theorem chunk_eq_0_6 (v : Vec F S1x256x1024 .bf16) (a : Vec F S1024x256 .bf16) (b : Vec F S1024x256 .bf16) : k0_pay70 (k0_pay68 v) (k0_pay69 v a) b = k0_pay56 v a b := rfl
theorem chunk_eq_0_5 (v : Vec F S1x256x1024 .bf16) (a : Vec F S1024x256 .bf16) (b : Vec F S1024x256 .bf16) : k0_pay67 v a b = k0_pay56 v a b := rfl
theorem chunk_eq_0_4 (v : Vec F S1x256x1024 .bf16) (a : Vec F S1024x256 .bf16) (b : Vec F S1024x256 .bf16) : k0_pay66 (k0_pay63 v a) (k0_pay64 v b) (k0_pay65 v a) = k0_pay56 v a b := rfl
theorem chunk_eq_0_3 (v : Vec F S1x256x1024 .bf16) (a : Vec F S1024x256 .bf16) (b : Vec F S1024x256 .bf16) : k0_pay61 v a b = k0_pay56 v a b := rfl
theorem chunk_eq_0_2 (v : Vec F S1x256x1024 .bf16) (a : Vec F S1024x256 .bf16) (b : Vec F S1024x256 .bf16) : k0_pay60 (k0_pay59 v a b) = k0_pay56 v a b := rfl
theorem chunk_eq_0_1 (v : Vec F S1x256x1024 .bf16) (a : Vec F S1024x256 .bf16) (b : Vec F S1024x256 .bf16) : k0_pay58 (k0_pay57 v) a b = k0_pay56 v a b := rfl
theorem chunk_eq_0_0 (v : Vec F S1x256x1024 .bf16) (a : Vec F S1024x256 .bf16) (b : Vec F S1024x256 .bf16) : k0_pay56 v a b = k0_pay56 v a b := rfl
theorem chunk_eq_1_10 (v : Vec F S1x256x1024 .bf16) (a : Vec F S1024x256 .bf16) (b : Vec F S1024x256 .bf16) : k0_pay102 (k0_pay99 v a) (k0_pay100 v b) (k0_pay101 v a) = k0_pay56 v a b := rfl
theorem chunk_eq_1_9 (v : Vec F S1x256x1024 .bf16) (a : Vec F S1024x256 .bf16) (b : Vec F S1024x256 .bf16) : k0_pay97 v a b = k0_pay56 v a b := rfl
theorem chunk_eq_1_8 (v : Vec F S1x256x1024 .bf16) (a : Vec F S1024x256 .bf16) (b : Vec F S1024x256 .bf16) : k0_pay96 (k0_pay95 v a b) = k0_pay56 v a b := rfl
theorem chunk_eq_1_7 (v : Vec F S1x256x1024 .bf16) (a : Vec F S1024x256 .bf16) (b : Vec F S1024x256 .bf16) : k0_pay94 (k0_pay93 v) a b = k0_pay56 v a b := rfl
theorem chunk_eq_1_6 (v : Vec F S1x256x1024 .bf16) (a : Vec F S1024x256 .bf16) (b : Vec F S1024x256 .bf16) : k0_pay92 v a b = k0_pay56 v a b := rfl
theorem chunk_eq_1_5 (v : Vec F S1x256x1024 .bf16) (a : Vec F S1024x256 .bf16) (b : Vec F S1024x256 .bf16) : k0_pay91 (k0_pay88 v a) (k0_pay89 v b) k0_pay90 = k0_pay56 v a b := rfl
theorem chunk_eq_1_4 (v : Vec F S1x256x1024 .bf16) (a : Vec F S1024x256 .bf16) (b : Vec F S1024x256 .bf16) : k0_pay86 v a b = k0_pay56 v a b := rfl
theorem chunk_eq_1_3 (v : Vec F S1x256x1024 .bf16) (a : Vec F S1024x256 .bf16) (b : Vec F S1024x256 .bf16) : k0_pay85 (k0_pay84 v a b) = k0_pay56 v a b := rfl
theorem chunk_eq_1_2 (v : Vec F S1x256x1024 .bf16) (a : Vec F S1024x256 .bf16) (b : Vec F S1024x256 .bf16) : k0_pay83 v a b = k0_pay56 v a b := rfl
theorem chunk_eq_1_1 (v : Vec F S1x256x1024 .bf16) (a : Vec F S1024x256 .bf16) (b : Vec F S1024x256 .bf16) : k0_pay82 v a b = k0_pay56 v a b := rfl
theorem chunk_eq_1_0 (v : Vec F S1x256x1024 .bf16) (a : Vec F S1024x256 .bf16) (b : Vec F S1024x256 .bf16) : k0_pay81 (k0_pay79 v) (k0_pay80 v a) b = k0_pay56 v a b := rfl
theorem chunk_eq_2_10 (v : Vec F S1x256x1024 .bf16) (a : Vec F S1024x256 .bf16) (b : Vec F S1024x256 .bf16) : k0_pay127 v a b = k0_pay56 v a b := rfl
theorem chunk_eq_2_9 (v : Vec F S1x256x1024 .bf16) (a : Vec F S1024x256 .bf16) (b : Vec F S1024x256 .bf16) : k0_pay126 (k0_pay125 v a b) = k0_pay56 v a b := rfl
theorem chunk_eq_2_8 (v : Vec F S1x256x1024 .bf16) (a : Vec F S1024x256 .bf16) (b : Vec F S1024x256 .bf16) : k0_pay124 v a b = k0_pay56 v a b := rfl
theorem chunk_eq_2_7 (v : Vec F S1x256x1024 .bf16) (a : Vec F S1024x256 .bf16) (b : Vec F S1024x256 .bf16) : k0_pay123 v a b = k0_pay56 v a b := rfl
theorem chunk_eq_2_6 (v : Vec F S1x256x1024 .bf16) (a : Vec F S1024x256 .bf16) (b : Vec F S1024x256 .bf16) : k0_pay122 (k0_pay120 v) (k0_pay121 v a) b = k0_pay56 v a b := rfl
theorem chunk_eq_2_5 (v : Vec F S1x256x1024 .bf16) (a : Vec F S1024x256 .bf16) (b : Vec F S1024x256 .bf16) : k0_pay119 v a b = k0_pay56 v a b := rfl
theorem chunk_eq_2_4 (v : Vec F S1x256x1024 .bf16) (a : Vec F S1024x256 .bf16) (b : Vec F S1024x256 .bf16) : k0_pay118 (k0_pay115 v a) (k0_pay116 v b) (k0_pay117 v a) = k0_pay56 v a b := rfl
theorem chunk_eq_2_3 (v : Vec F S1x256x1024 .bf16) (a : Vec F S1024x256 .bf16) (b : Vec F S1024x256 .bf16) : k0_pay113 v a b = k0_pay56 v a b := rfl
theorem chunk_eq_2_2 (v : Vec F S1x256x1024 .bf16) (a : Vec F S1024x256 .bf16) (b : Vec F S1024x256 .bf16) : k0_pay112 (k0_pay111 v a b) = k0_pay56 v a b := rfl
theorem chunk_eq_2_1 (v : Vec F S1x256x1024 .bf16) (a : Vec F S1024x256 .bf16) (b : Vec F S1024x256 .bf16) : k0_pay110 (k0_pay109 v) a b = k0_pay56 v a b := rfl
theorem chunk_eq_2_0 (v : Vec F S1x256x1024 .bf16) (a : Vec F S1024x256 .bf16) (b : Vec F S1024x256 .bf16) : k0_pay108 v a b = k0_pay56 v a b := rfl
theorem chunk_eq_3_10 (v : Vec F S1x256x1024 .bf16) (a : Vec F S1024x256 .bf16) (b : Vec F S1024x256 .bf16) : k0_pay154 (k0_pay151 v a) (k0_pay152 v b) (k0_pay153 v a) = k0_pay56 v a b := rfl
theorem chunk_eq_3_9 (v : Vec F S1x256x1024 .bf16) (a : Vec F S1024x256 .bf16) (b : Vec F S1024x256 .bf16) : k0_pay149 v a b = k0_pay56 v a b := rfl
theorem chunk_eq_3_8 (v : Vec F S1x256x1024 .bf16) (a : Vec F S1024x256 .bf16) (b : Vec F S1024x256 .bf16) : k0_pay148 (k0_pay147 v a b) = k0_pay56 v a b := rfl
theorem chunk_eq_3_7 (v : Vec F S1x256x1024 .bf16) (a : Vec F S1024x256 .bf16) (b : Vec F S1024x256 .bf16) : k0_pay146 (k0_pay145 v) a b = k0_pay56 v a b := rfl
theorem chunk_eq_3_6 (v : Vec F S1x256x1024 .bf16) (a : Vec F S1024x256 .bf16) (b : Vec F S1024x256 .bf16) : k0_pay144 v a b = k0_pay56 v a b := rfl
theorem chunk_eq_3_5 (v : Vec F S1x256x1024 .bf16) (a : Vec F S1024x256 .bf16) (b : Vec F S1024x256 .bf16) : k0_pay143 (k0_pay140 v a) (k0_pay141 v b) k0_pay142 = k0_pay56 v a b := rfl
theorem chunk_eq_3_4 (v : Vec F S1x256x1024 .bf16) (a : Vec F S1024x256 .bf16) (b : Vec F S1024x256 .bf16) : k0_pay138 v a b = k0_pay56 v a b := rfl
theorem chunk_eq_3_3 (v : Vec F S1x256x1024 .bf16) (a : Vec F S1024x256 .bf16) (b : Vec F S1024x256 .bf16) : k0_pay137 (k0_pay136 v a b) = k0_pay56 v a b := rfl
theorem chunk_eq_3_2 (v : Vec F S1x256x1024 .bf16) (a : Vec F S1024x256 .bf16) (b : Vec F S1024x256 .bf16) : k0_pay135 v a b = k0_pay56 v a b := rfl
theorem chunk_eq_3_1 (v : Vec F S1x256x1024 .bf16) (a : Vec F S1024x256 .bf16) (b : Vec F S1024x256 .bf16) : k0_pay134 v a b = k0_pay56 v a b := rfl
theorem chunk_eq_3_0 (v : Vec F S1x256x1024 .bf16) (a : Vec F S1024x256 .bf16) (b : Vec F S1024x256 .bf16) : k0_pay133 (k0_pay131 v) (k0_pay132 v a) b = k0_pay56 v a b := rfl
theorem tail_eq_0 (r : Vec F S256x1024 .f32) (h : Vec F S1x256x2816 .bf16) (d : Vec F S2816x1024 .bf16) (g : Vec F S1x1024 .f32) (bb : Vec F S1x1024 .f32) : k0_pay77 (k0_pay76 r h d) g bb = k0_pay77 (k0_pay76 r h d) g bb := rfl
theorem tail_eq_1 (r : Vec F S256x1024 .f32) (h : Vec F S1x256x2816 .bf16) (d : Vec F S2816x1024 .bf16) (g : Vec F S1x1024 .f32) (bb : Vec F S1x1024 .f32) : k0_pay106 (k0_pay103 bb) (k0_pay104 r h d) (k0_pay105 g) = k0_pay77 (k0_pay76 r h d) g bb := rfl
theorem tail_eq_2 (r : Vec F S256x1024 .f32) (h : Vec F S1x256x2816 .bf16) (d : Vec F S2816x1024 .bf16) (g : Vec F S1x1024 .f32) (bb : Vec F S1x1024 .f32) : k0_pay129 (k0_pay128 r h d) g bb = k0_pay77 (k0_pay76 r h d) g bb := rfl
theorem tail_eq_3 (r : Vec F S256x1024 .f32) (h : Vec F S1x256x2816 .bf16) (d : Vec F S2816x1024 .bf16) (g : Vec F S1x1024 .f32) (bb : Vec F S1x1024 .f32) : k0_pay1 (k0_pay155 bb) (k0_pay156 r h d) (k0_pay157 g) = k0_pay77 (k0_pay76 r h d) g bb := rfl

/-- A slot filled chunk by chunk, read at one of its indices. -/
theorem slot_read (G : S2x256x2816.Idx → Elt F .bf16) (sl : ℕ) (i0 : ∀ a, (![sl, 0, 0] : Fin 3 → ℕ) a + S1x256x256.size a ≤ S2x256x2816.size a) (i1 : ∀ a, (![sl, 0, 256] : Fin 3 → ℕ) a + S1x256x256.size a ≤ S2x256x2816.size a) (i2 : ∀ a, (![sl, 0, 512] : Fin 3 → ℕ) a + S1x256x256.size a ≤ S2x256x2816.size a) (i3 : ∀ a, (![sl, 0, 768] : Fin 3 → ℕ) a + S1x256x256.size a ≤ S2x256x2816.size a) (i4 : ∀ a, (![sl, 0, 1024] : Fin 3 → ℕ) a + S1x256x256.size a ≤ S2x256x2816.size a) (i5 : ∀ a, (![sl, 0, 1280] : Fin 3 → ℕ) a + S1x256x256.size a ≤ S2x256x2816.size a) (i6 : ∀ a, (![sl, 0, 1536] : Fin 3 → ℕ) a + S1x256x256.size a ≤ S2x256x2816.size a) (i7 : ∀ a, (![sl, 0, 1792] : Fin 3 → ℕ) a + S1x256x256.size a ≤ S2x256x2816.size a) (i8 : ∀ a, (![sl, 0, 2048] : Fin 3 → ℕ) a + S1x256x256.size a ≤ S2x256x2816.size a) (i9 : ∀ a, (![sl, 0, 2304] : Fin 3 → ℕ) a + S1x256x256.size a ≤ S2x256x2816.size a) (i10 : ∀ a, (![sl, 0, 2560] : Fin 3 → ℕ) a + S1x256x256.size a ≤ S2x256x2816.size a) (p0 p1 p2 p3 p4 p5 p6 p7 p8 p9 p10 : Vec F S1x256x256 .bf16) (L : List (View.Piece (Elt F) S2x256x2816 .bf16)) (h0 : ∀ x : S1x256x256.Idx, p0 x = G ((Rect.unit (s := S2x256x2816) ![sl, 0, 0] S1x256x256.size i0).emb x))
    (h1 : ∀ x : S1x256x256.Idx, p1 x = G ((Rect.unit (s := S2x256x2816) ![sl, 0, 256] S1x256x256.size i1).emb x))
    (h2 : ∀ x : S1x256x256.Idx, p2 x = G ((Rect.unit (s := S2x256x2816) ![sl, 0, 512] S1x256x256.size i2).emb x))
    (h3 : ∀ x : S1x256x256.Idx, p3 x = G ((Rect.unit (s := S2x256x2816) ![sl, 0, 768] S1x256x256.size i3).emb x))
    (h4 : ∀ x : S1x256x256.Idx, p4 x = G ((Rect.unit (s := S2x256x2816) ![sl, 0, 1024] S1x256x256.size i4).emb x))
    (h5 : ∀ x : S1x256x256.Idx, p5 x = G ((Rect.unit (s := S2x256x2816) ![sl, 0, 1280] S1x256x256.size i5).emb x))
    (h6 : ∀ x : S1x256x256.Idx, p6 x = G ((Rect.unit (s := S2x256x2816) ![sl, 0, 1536] S1x256x256.size i6).emb x))
    (h7 : ∀ x : S1x256x256.Idx, p7 x = G ((Rect.unit (s := S2x256x2816) ![sl, 0, 1792] S1x256x256.size i7).emb x))
    (h8 : ∀ x : S1x256x256.Idx, p8 x = G ((Rect.unit (s := S2x256x2816) ![sl, 0, 2048] S1x256x256.size i8).emb x))
    (h9 : ∀ x : S1x256x256.Idx, p9 x = G ((Rect.unit (s := S2x256x2816) ![sl, 0, 2304] S1x256x256.size i9).emb x))
    (h10 : ∀ x : S1x256x256.Idx, p10 x = G ((Rect.unit (s := S2x256x2816) ![sl, 0, 2560] S1x256x256.size i10).emb x))
    (y : S2x256x2816.Idx) (hy : (y 0).val = sl) :
    View.canon (⟨Rect.unit (s := S2x256x2816) ![sl, 0, 2560] S1x256x256.size i10, p10⟩ :: ⟨Rect.unit (s := S2x256x2816) ![sl, 0, 2304] S1x256x256.size i9, p9⟩ :: ⟨Rect.unit (s := S2x256x2816) ![sl, 0, 2048] S1x256x256.size i8, p8⟩ :: ⟨Rect.unit (s := S2x256x2816) ![sl, 0, 1792] S1x256x256.size i7, p7⟩ :: ⟨Rect.unit (s := S2x256x2816) ![sl, 0, 1536] S1x256x256.size i6, p6⟩ :: ⟨Rect.unit (s := S2x256x2816) ![sl, 0, 1280] S1x256x256.size i5, p5⟩ :: ⟨Rect.unit (s := S2x256x2816) ![sl, 0, 1024] S1x256x256.size i4, p4⟩ :: ⟨Rect.unit (s := S2x256x2816) ![sl, 0, 768] S1x256x256.size i3, p3⟩ :: ⟨Rect.unit (s := S2x256x2816) ![sl, 0, 512] S1x256x256.size i2, p2⟩ :: ⟨Rect.unit (s := S2x256x2816) ![sl, 0, 256] S1x256x256.size i1, p1⟩ :: ⟨Rect.unit (s := S2x256x2816) ![sl, 0, 0] S1x256x256.size i0, p0⟩ :: L) y = G y := by
  refine canon_step G _ _ _ y h10 (fun n10 => ?_)
  refine canon_step G _ _ _ y h9 (fun n9 => ?_)
  refine canon_step G _ _ _ y h8 (fun n8 => ?_)
  refine canon_step G _ _ _ y h7 (fun n7 => ?_)
  refine canon_step G _ _ _ y h6 (fun n6 => ?_)
  refine canon_step G _ _ _ y h5 (fun n5 => ?_)
  refine canon_step G _ _ _ y h4 (fun n4 => ?_)
  refine canon_step G _ _ _ y h3 (fun n3 => ?_)
  refine canon_step G _ _ _ y h2 (fun n2 => ?_)
  refine canon_step G _ _ _ y h1 (fun n1 => ?_)
  refine canon_step G _ _ _ y h0 (fun n0 => ?_)
  exfalso
  have hy2 : (y 2).val < 2816 := (y 2).isLt
  have := slot_chunk sl y hy 0 i0 n0
  have := slot_chunk sl y hy 256 i1 n1
  have := slot_chunk sl y hy 512 i2 n2
  have := slot_chunk sl y hy 768 i3 n3
  have := slot_chunk sl y hy 1024 i4 n4
  have := slot_chunk sl y hy 1280 i5 n5
  have := slot_chunk sl y hy 1536 i6 n6
  have := slot_chunk sl y hy 1792 i7 n7
  have := slot_chunk sl y hy 2048 i8 n8
  have := slot_chunk sl y hy 2304 i9 n9
  have := slot_chunk sl y hy 2560 i10 n10
  omega

end Cert.FfnIdeal.Hand

end
-- ==== Proof.FfnIdealComp.lean ====
/- The block at one grid point, run from the two weights held in VMEM. -/
module

public import proofs.«01_k».proof.Proof.FfnIdealPay

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The block's run: from its rows, the two weights and the normalisation's scale and shift. -/
theorem comp (c : Dev nD) (i : grid0.Coords) (arg1 : Memref sig .tc .vmem S1024x1024 .f32) (harg1 : arg1.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S2x256x1024 .bf16) (harg7 : arg7.IsWhole) (arg8 : Memref sig .tc .vmem S2x256x2816 .bf16) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S4x1024x256 .f32) (harg11 : arg11.IsWhole) (arg12 : Memref sig .tc .vmem S4x128x1024 .f32) (harg12 : arg12.IsWhole)
    (fa : Vec F S1024x1024 .f32) (fg fb : Vec F S1x1024 .f32) (f9 : Vec F S1024x5632 .bf16) (f10 : Vec F S2816x1024 .bf16) (W : Waits sig Unit) (K : PUnit → sProp 𝕄) :
    iprop((owns (c : Thread nD τ) arg1 fullShare fa ∗ owns (c : Thread nD τ) arg4 fullShare fg ∗ owns (c : Thread nD τ) arg5 fullShare fb ∗ (∃ d, owns (c : Thread nD τ) arg6 fullShare d) ∗ (∃ d, owns (c : Thread nD τ) arg7 fullShare d) ∗ (∃ d, owns (c : Thread nD τ) arg8 fullShare d) ∗ owns (c : Thread nD τ) arg9 fullShare f9 ∗ owns (c : Thread nD τ) arg10 fullShare f10)
        ∗ ((owns (c : Thread nD τ) arg1 fullShare fa ∗ owns (c : Thread nD τ) arg4 fullShare fg ∗ owns (c : Thread nD τ) arg5 fullShare fb ∗ owns (c : Thread nD τ) arg6 fullShare (blkOf fa fg fb f9 f10) ∗ (∃ d, owns (c : Thread nD τ) arg7 fullShare d) ∗ (∃ d, owns (c : Thread nD τ) arg8 fullShare d) ∗ owns (c : Thread nD τ) arg9 fullShare f9 ∗ owns (c : Thread nD τ) arg10 fullShare f10) -∗ K ⟨⟩))
      ⊢ wp frame (wpE (defs₀ (F := F)) Variants.none c none) Set.univ (compProg (F := F) i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 cc0_scratch6 cc0_scratch7) K := by
  unfold compProg compHead
  simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
  unfold owns
  iintro ⟨⟨⟨%fx, %hx, HX⟩, ⟨%fgg, %hg, HG⟩, ⟨%fbb, %hb, HB⟩, ⟨%d6, %f6, -, HO⟩, ⟨%d7, %f7, -, HS0⟩, ⟨%d8, %f8, -, HS1⟩, ⟨%f9', %h9, HS2⟩, ⟨%f10', %h10, HS3⟩⟩, Hk⟩
  obtain rfl := harg1.eq_unread hx
  obtain rfl := harg4.eq_unread hg
  obtain rfl := harg5.eq_unread hb
  obtain rfl := harg9.eq_unread h9
  obtain rfl := harg10.eq_unread h10
  sl_exec
  sl_step
  have hx_v46 : comp.sl.v46 c arg1 harg1 arg7 fa = xbOf fa 0 := by
    unfold comp.sl.v46 comp.sl.HS0_1
    rw [View.readCov_cons_toLoadRect]
    exact congrArg k0_pay55 (rd_rows arg1 harg1 fa 0 0 rfl (by decide) inb_S1024x1024_S256x1024_0_0)
  have hx_v8 : comp.sl.v8 c arg1 harg1 arg7 fa = xbOf fa 0 := by
    unfold comp.sl.v8 comp.sl.HS0_1
    rw [View.readCov_cons_toLoadRect]
    exact congrArg k0_pay55 (rd_rows arg1 harg1 fa 0 0 rfl (by decide) inb_S1024x1024_S256x1024_0_0)
  have hx_v256 : comp.sl.v256 c arg1 harg1 arg7 fa = xbOf fa 1 := by
    unfold comp.sl.v256 comp.sl.HS0_2
    rw [View.readCov_cons_toLoadRect]
    exact congrArg k0_pay55 (rd_rows arg1 harg1 fa 1 256 rfl (by decide) inb_S1024x1024_S256x1024_256_0)
  have hx_v504 : comp.sl.v504 c arg1 harg1 arg7 fa = xbOf fa 2 := by
    unfold comp.sl.v504 comp.sl.HS0_3
    rw [View.readCov_cons_toLoadRect]
    exact congrArg k0_pay55 (rd_rows arg1 harg1 fa 2 512 rfl (by decide) inb_S1024x1024_S256x1024_512_0)
  have hx_v752 : comp.sl.v752 c arg1 harg1 arg7 fa = xbOf fa 3 := by
    unfold comp.sl.v752 comp.sl.HS0_4
    rw [View.readCov_cons_toLoadRect]
    exact congrArg k0_pay55 (rd_rows arg1 harg1 fa 3 768 rfl (by decide) inb_S1024x1024_S256x1024_768_0)
  have hs_v217 : ∀ y : S2x256x2816.Idx, (y 0).val = 0 → View.canon (comp.sl.HS1_11 c arg1 harg1 arg7 arg9 harg9 fa f9) y = hidOf fa f9 0 (y 1) (y 2) := by
    intro y hy
    unfold comp.sl.HS1_11
    exact slot_read (fun y => hidOf fa f9 0 (y 1) (y 2)) 0 _ _ _ _ _ _ _ _ _ _ _  _ _ _ _ _ _ _ _ _ _ _ _
      (fun x => (congrFun (chunk_eq_0_0 (comp.sl.v8 c arg1 harg1 arg7 fa) _ _) x).trans (hidPiece arg9 harg9 fa f9 0 0 0 2816 0 rfl rfl (by decide) inb_S1024x5632_S1024x256_0_0 inb_S1024x5632_S1024x256_0_2816 inb_S2x256x2816_S1x256x256_0_0_0 _ hx_v8 x))
      (fun x => (congrFun (chunk_eq_0_1 (comp.sl.v8 c arg1 harg1 arg7 fa) _ _) x).trans (hidPiece arg9 harg9 fa f9 0 1 256 3072 0 rfl rfl (by decide) inb_S1024x5632_S1024x256_0_256 inb_S1024x5632_S1024x256_0_3072 inb_S2x256x2816_S1x256x256_0_0_256 _ hx_v8 x))
      (fun x => (congrFun (chunk_eq_0_2 (comp.sl.v46 c arg1 harg1 arg7 fa) _ _) x).trans (hidPiece arg9 harg9 fa f9 0 2 512 3328 0 rfl rfl (by decide) inb_S1024x5632_S1024x256_0_512 inb_S1024x5632_S1024x256_0_3328 inb_S2x256x2816_S1x256x256_0_0_512 _ hx_v46 x))
      (fun x => (congrFun (chunk_eq_0_3 (comp.sl.v46 c arg1 harg1 arg7 fa) _ _) x).trans (hidPiece arg9 harg9 fa f9 0 3 768 3584 0 rfl rfl (by decide) inb_S1024x5632_S1024x256_0_768 inb_S1024x5632_S1024x256_0_3584 inb_S2x256x2816_S1x256x256_0_0_768 _ hx_v46 x))
      (fun x => (congrFun (chunk_eq_0_4 (comp.sl.v46 c arg1 harg1 arg7 fa) _ _) x).trans (hidPiece arg9 harg9 fa f9 0 4 1024 3840 0 rfl rfl (by decide) inb_S1024x5632_S1024x256_0_1024 inb_S1024x5632_S1024x256_0_3840 inb_S2x256x2816_S1x256x256_0_0_1024 _ hx_v46 x))
      (fun x => (congrFun (chunk_eq_0_5 (comp.sl.v46 c arg1 harg1 arg7 fa) _ _) x).trans (hidPiece arg9 harg9 fa f9 0 5 1280 4096 0 rfl rfl (by decide) inb_S1024x5632_S1024x256_0_1280 inb_S1024x5632_S1024x256_0_4096 inb_S2x256x2816_S1x256x256_0_0_1280 _ hx_v46 x))
      (fun x => (congrFun (chunk_eq_0_6 (comp.sl.v46 c arg1 harg1 arg7 fa) _ _) x).trans (hidPiece arg9 harg9 fa f9 0 6 1536 4352 0 rfl rfl (by decide) inb_S1024x5632_S1024x256_0_1536 inb_S1024x5632_S1024x256_0_4352 inb_S2x256x2816_S1x256x256_0_0_1536 _ hx_v46 x))
      (fun x => (congrFun (chunk_eq_0_7 (comp.sl.v46 c arg1 harg1 arg7 fa) _ _) x).trans (hidPiece arg9 harg9 fa f9 0 7 1792 4608 0 rfl rfl (by decide) inb_S1024x5632_S1024x256_0_1792 inb_S1024x5632_S1024x256_0_4608 inb_S2x256x2816_S1x256x256_0_0_1792 _ hx_v46 x))
      (fun x => (congrFun (chunk_eq_0_8 (comp.sl.v46 c arg1 harg1 arg7 fa) _ _) x).trans (hidPiece arg9 harg9 fa f9 0 8 2048 4864 0 rfl rfl (by decide) inb_S1024x5632_S1024x256_0_2048 inb_S1024x5632_S1024x256_0_4864 inb_S2x256x2816_S1x256x256_0_0_2048 _ hx_v46 x))
      (fun x => (congrFun (chunk_eq_0_9 (comp.sl.v46 c arg1 harg1 arg7 fa) _ _) x).trans (hidPiece arg9 harg9 fa f9 0 9 2304 5120 0 rfl rfl (by decide) inb_S1024x5632_S1024x256_0_2304 inb_S1024x5632_S1024x256_0_5120 inb_S2x256x2816_S1x256x256_0_0_2304 _ hx_v46 x))
      (fun x => (congrFun (chunk_eq_0_10 (comp.sl.v46 c arg1 harg1 arg7 fa) _ _) x).trans (hidPiece arg9 harg9 fa f9 0 10 2560 5376 0 rfl rfl (by decide) inb_S1024x5632_S1024x256_0_2560 inb_S1024x5632_S1024x256_0_5376 inb_S2x256x2816_S1x256x256_0_0_2560 _ hx_v46 x))
      y hy
  have hh_v217 : comp.sl.v217 c arg1 harg1 arg7 arg8 arg9 harg9 fa f9 = hidVec fa f9 0 := by
    unfold comp.sl.v217
    rw [View.readCov_eq_canon']
    funext j
    have hj0 : (j 0).val < 1 := (j 0).isLt
    refine (hs_v217 _ (by show 0 + 1 * (j 0).val = 0; omega)).trans ?_
    unfold hidVec
    refine congrArg₂ (hidOf fa f9 0) (Fin.ext ?_) (Fin.ext ?_)
    · show 0 + 1 * (j 1).val = (j 1).val; omega
    · show 0 + 1 * (j 2).val = (j 2).val; omega
  have hs_v465 : ∀ y : S2x256x2816.Idx, (y 0).val = 1 → View.canon (comp.sl.HS1_22 c arg1 harg1 arg7 arg9 harg9 fa f9) y = hidOf fa f9 1 (y 1) (y 2) := by
    intro y hy
    unfold comp.sl.HS1_22
    exact slot_read (fun y => hidOf fa f9 1 (y 1) (y 2)) 1 _ _ _ _ _ _ _ _ _ _ _  _ _ _ _ _ _ _ _ _ _ _ _
      (fun x => (congrFun (chunk_eq_1_0 (comp.sl.v256 c arg1 harg1 arg7 fa) _ _) x).trans (hidPiece arg9 harg9 fa f9 1 0 0 2816 1 rfl rfl (by decide) inb_S1024x5632_S1024x256_0_0 inb_S1024x5632_S1024x256_0_2816 inb_S2x256x2816_S1x256x256_1_0_0 _ hx_v256 x))
      (fun x => (congrFun (chunk_eq_1_1 (comp.sl.v256 c arg1 harg1 arg7 fa) _ _) x).trans (hidPiece arg9 harg9 fa f9 1 1 256 3072 1 rfl rfl (by decide) inb_S1024x5632_S1024x256_0_256 inb_S1024x5632_S1024x256_0_3072 inb_S2x256x2816_S1x256x256_1_0_256 _ hx_v256 x))
      (fun x => (congrFun (chunk_eq_1_2 (comp.sl.v256 c arg1 harg1 arg7 fa) _ _) x).trans (hidPiece arg9 harg9 fa f9 1 2 512 3328 1 rfl rfl (by decide) inb_S1024x5632_S1024x256_0_512 inb_S1024x5632_S1024x256_0_3328 inb_S2x256x2816_S1x256x256_1_0_512 _ hx_v256 x))
      (fun x => (congrFun (chunk_eq_1_3 (comp.sl.v256 c arg1 harg1 arg7 fa) _ _) x).trans (hidPiece arg9 harg9 fa f9 1 3 768 3584 1 rfl rfl (by decide) inb_S1024x5632_S1024x256_0_768 inb_S1024x5632_S1024x256_0_3584 inb_S2x256x2816_S1x256x256_1_0_768 _ hx_v256 x))
      (fun x => (congrFun (chunk_eq_1_4 (comp.sl.v256 c arg1 harg1 arg7 fa) _ _) x).trans (hidPiece arg9 harg9 fa f9 1 4 1024 3840 1 rfl rfl (by decide) inb_S1024x5632_S1024x256_0_1024 inb_S1024x5632_S1024x256_0_3840 inb_S2x256x2816_S1x256x256_1_0_1024 _ hx_v256 x))
      (fun x => (congrFun (chunk_eq_1_5 (comp.sl.v256 c arg1 harg1 arg7 fa) _ _) x).trans (hidPiece arg9 harg9 fa f9 1 5 1280 4096 1 rfl rfl (by decide) inb_S1024x5632_S1024x256_0_1280 inb_S1024x5632_S1024x256_0_4096 inb_S2x256x2816_S1x256x256_1_0_1280 _ hx_v256 x))
      (fun x => (congrFun (chunk_eq_1_6 (comp.sl.v256 c arg1 harg1 arg7 fa) _ _) x).trans (hidPiece arg9 harg9 fa f9 1 6 1536 4352 1 rfl rfl (by decide) inb_S1024x5632_S1024x256_0_1536 inb_S1024x5632_S1024x256_0_4352 inb_S2x256x2816_S1x256x256_1_0_1536 _ hx_v256 x))
      (fun x => (congrFun (chunk_eq_1_7 (comp.sl.v256 c arg1 harg1 arg7 fa) _ _) x).trans (hidPiece arg9 harg9 fa f9 1 7 1792 4608 1 rfl rfl (by decide) inb_S1024x5632_S1024x256_0_1792 inb_S1024x5632_S1024x256_0_4608 inb_S2x256x2816_S1x256x256_1_0_1792 _ hx_v256 x))
      (fun x => (congrFun (chunk_eq_1_8 (comp.sl.v256 c arg1 harg1 arg7 fa) _ _) x).trans (hidPiece arg9 harg9 fa f9 1 8 2048 4864 1 rfl rfl (by decide) inb_S1024x5632_S1024x256_0_2048 inb_S1024x5632_S1024x256_0_4864 inb_S2x256x2816_S1x256x256_1_0_2048 _ hx_v256 x))
      (fun x => (congrFun (chunk_eq_1_9 (comp.sl.v256 c arg1 harg1 arg7 fa) _ _) x).trans (hidPiece arg9 harg9 fa f9 1 9 2304 5120 1 rfl rfl (by decide) inb_S1024x5632_S1024x256_0_2304 inb_S1024x5632_S1024x256_0_5120 inb_S2x256x2816_S1x256x256_1_0_2304 _ hx_v256 x))
      (fun x => (congrFun (chunk_eq_1_10 (comp.sl.v256 c arg1 harg1 arg7 fa) _ _) x).trans (hidPiece arg9 harg9 fa f9 1 10 2560 5376 1 rfl rfl (by decide) inb_S1024x5632_S1024x256_0_2560 inb_S1024x5632_S1024x256_0_5376 inb_S2x256x2816_S1x256x256_1_0_2560 _ hx_v256 x))
      y hy
  have hh_v465 : comp.sl.v465 c arg1 harg1 arg7 arg8 arg9 harg9 fa f9 = hidVec fa f9 1 := by
    unfold comp.sl.v465
    rw [View.readCov_eq_canon']
    funext j
    have hj0 : (j 0).val < 1 := (j 0).isLt
    refine (hs_v465 _ (by show 1 + 1 * (j 0).val = 1; omega)).trans ?_
    unfold hidVec
    refine congrArg₂ (hidOf fa f9 1) (Fin.ext ?_) (Fin.ext ?_)
    · show 0 + 1 * (j 1).val = (j 1).val; omega
    · show 0 + 1 * (j 2).val = (j 2).val; omega
  have hs_v713 : ∀ y : S2x256x2816.Idx, (y 0).val = 0 → View.canon (comp.sl.HS1_33 c arg1 harg1 arg7 arg9 harg9 fa f9) y = hidOf fa f9 2 (y 1) (y 2) := by
    intro y hy
    unfold comp.sl.HS1_33 comp.sl.HS1_24
    exact slot_read (fun y => hidOf fa f9 2 (y 1) (y 2)) 0 _ _ _ _ _ _ _ _ _ _ _  _ _ _ _ _ _ _ _ _ _ _ _
      (fun x => (congrFun (chunk_eq_2_0 (comp.sl.v504 c arg1 harg1 arg7 fa) _ _) x).trans (hidPiece arg9 harg9 fa f9 2 0 0 2816 0 rfl rfl (by decide) inb_S1024x5632_S1024x256_0_0 inb_S1024x5632_S1024x256_0_2816 inb_S2x256x2816_S1x256x256_0_0_0 _ hx_v504 x))
      (fun x => (congrFun (chunk_eq_2_1 (comp.sl.v504 c arg1 harg1 arg7 fa) _ _) x).trans (hidPiece arg9 harg9 fa f9 2 1 256 3072 0 rfl rfl (by decide) inb_S1024x5632_S1024x256_0_256 inb_S1024x5632_S1024x256_0_3072 inb_S2x256x2816_S1x256x256_0_0_256 _ hx_v504 x))
      (fun x => (congrFun (chunk_eq_2_2 (comp.sl.v504 c arg1 harg1 arg7 fa) _ _) x).trans (hidPiece arg9 harg9 fa f9 2 2 512 3328 0 rfl rfl (by decide) inb_S1024x5632_S1024x256_0_512 inb_S1024x5632_S1024x256_0_3328 inb_S2x256x2816_S1x256x256_0_0_512 _ hx_v504 x))
      (fun x => (congrFun (chunk_eq_2_3 (comp.sl.v504 c arg1 harg1 arg7 fa) _ _) x).trans (hidPiece arg9 harg9 fa f9 2 3 768 3584 0 rfl rfl (by decide) inb_S1024x5632_S1024x256_0_768 inb_S1024x5632_S1024x256_0_3584 inb_S2x256x2816_S1x256x256_0_0_768 _ hx_v504 x))
      (fun x => (congrFun (chunk_eq_2_4 (comp.sl.v504 c arg1 harg1 arg7 fa) _ _) x).trans (hidPiece arg9 harg9 fa f9 2 4 1024 3840 0 rfl rfl (by decide) inb_S1024x5632_S1024x256_0_1024 inb_S1024x5632_S1024x256_0_3840 inb_S2x256x2816_S1x256x256_0_0_1024 _ hx_v504 x))
      (fun x => (congrFun (chunk_eq_2_5 (comp.sl.v504 c arg1 harg1 arg7 fa) _ _) x).trans (hidPiece arg9 harg9 fa f9 2 5 1280 4096 0 rfl rfl (by decide) inb_S1024x5632_S1024x256_0_1280 inb_S1024x5632_S1024x256_0_4096 inb_S2x256x2816_S1x256x256_0_0_1280 _ hx_v504 x))
      (fun x => (congrFun (chunk_eq_2_6 (comp.sl.v504 c arg1 harg1 arg7 fa) _ _) x).trans (hidPiece arg9 harg9 fa f9 2 6 1536 4352 0 rfl rfl (by decide) inb_S1024x5632_S1024x256_0_1536 inb_S1024x5632_S1024x256_0_4352 inb_S2x256x2816_S1x256x256_0_0_1536 _ hx_v504 x))
      (fun x => (congrFun (chunk_eq_2_7 (comp.sl.v504 c arg1 harg1 arg7 fa) _ _) x).trans (hidPiece arg9 harg9 fa f9 2 7 1792 4608 0 rfl rfl (by decide) inb_S1024x5632_S1024x256_0_1792 inb_S1024x5632_S1024x256_0_4608 inb_S2x256x2816_S1x256x256_0_0_1792 _ hx_v504 x))
      (fun x => (congrFun (chunk_eq_2_8 (comp.sl.v504 c arg1 harg1 arg7 fa) _ _) x).trans (hidPiece arg9 harg9 fa f9 2 8 2048 4864 0 rfl rfl (by decide) inb_S1024x5632_S1024x256_0_2048 inb_S1024x5632_S1024x256_0_4864 inb_S2x256x2816_S1x256x256_0_0_2048 _ hx_v504 x))
      (fun x => (congrFun (chunk_eq_2_9 (comp.sl.v504 c arg1 harg1 arg7 fa) _ _) x).trans (hidPiece arg9 harg9 fa f9 2 9 2304 5120 0 rfl rfl (by decide) inb_S1024x5632_S1024x256_0_2304 inb_S1024x5632_S1024x256_0_5120 inb_S2x256x2816_S1x256x256_0_0_2304 _ hx_v504 x))
      (fun x => (congrFun (chunk_eq_2_10 (comp.sl.v504 c arg1 harg1 arg7 fa) _ _) x).trans (hidPiece arg9 harg9 fa f9 2 10 2560 5376 0 rfl rfl (by decide) inb_S1024x5632_S1024x256_0_2560 inb_S1024x5632_S1024x256_0_5376 inb_S2x256x2816_S1x256x256_0_0_2560 _ hx_v504 x))
      y hy
  have hh_v713 : comp.sl.v713 c arg1 harg1 arg7 arg8 arg9 harg9 fa f9 = hidVec fa f9 2 := by
    unfold comp.sl.v713
    rw [View.readCov_eq_canon']
    funext j
    have hj0 : (j 0).val < 1 := (j 0).isLt
    refine (hs_v713 _ (by show 0 + 1 * (j 0).val = 0; omega)).trans ?_
    unfold hidVec
    refine congrArg₂ (hidOf fa f9 2) (Fin.ext ?_) (Fin.ext ?_)
    · show 0 + 1 * (j 1).val = (j 1).val; omega
    · show 0 + 1 * (j 2).val = (j 2).val; omega
  have hs_v961 : ∀ y : S2x256x2816.Idx, (y 0).val = 1 → View.canon (comp.sl.HS1_44 c arg1 harg1 arg7 arg9 harg9 fa f9) y = hidOf fa f9 3 (y 1) (y 2) := by
    intro y hy
    unfold comp.sl.HS1_44 comp.sl.HS1_41
    exact slot_read (fun y => hidOf fa f9 3 (y 1) (y 2)) 1 _ _ _ _ _ _ _ _ _ _ _  _ _ _ _ _ _ _ _ _ _ _ _
      (fun x => (congrFun (chunk_eq_3_0 (comp.sl.v752 c arg1 harg1 arg7 fa) _ _) x).trans (hidPiece arg9 harg9 fa f9 3 0 0 2816 1 rfl rfl (by decide) inb_S1024x5632_S1024x256_0_0 inb_S1024x5632_S1024x256_0_2816 inb_S2x256x2816_S1x256x256_1_0_0 _ hx_v752 x))
      (fun x => (congrFun (chunk_eq_3_1 (comp.sl.v752 c arg1 harg1 arg7 fa) _ _) x).trans (hidPiece arg9 harg9 fa f9 3 1 256 3072 1 rfl rfl (by decide) inb_S1024x5632_S1024x256_0_256 inb_S1024x5632_S1024x256_0_3072 inb_S2x256x2816_S1x256x256_1_0_256 _ hx_v752 x))
      (fun x => (congrFun (chunk_eq_3_2 (comp.sl.v752 c arg1 harg1 arg7 fa) _ _) x).trans (hidPiece arg9 harg9 fa f9 3 2 512 3328 1 rfl rfl (by decide) inb_S1024x5632_S1024x256_0_512 inb_S1024x5632_S1024x256_0_3328 inb_S2x256x2816_S1x256x256_1_0_512 _ hx_v752 x))
      (fun x => (congrFun (chunk_eq_3_3 (comp.sl.v752 c arg1 harg1 arg7 fa) _ _) x).trans (hidPiece arg9 harg9 fa f9 3 3 768 3584 1 rfl rfl (by decide) inb_S1024x5632_S1024x256_0_768 inb_S1024x5632_S1024x256_0_3584 inb_S2x256x2816_S1x256x256_1_0_768 _ hx_v752 x))
      (fun x => (congrFun (chunk_eq_3_4 (comp.sl.v752 c arg1 harg1 arg7 fa) _ _) x).trans (hidPiece arg9 harg9 fa f9 3 4 1024 3840 1 rfl rfl (by decide) inb_S1024x5632_S1024x256_0_1024 inb_S1024x5632_S1024x256_0_3840 inb_S2x256x2816_S1x256x256_1_0_1024 _ hx_v752 x))
      (fun x => (congrFun (chunk_eq_3_5 (comp.sl.v752 c arg1 harg1 arg7 fa) _ _) x).trans (hidPiece arg9 harg9 fa f9 3 5 1280 4096 1 rfl rfl (by decide) inb_S1024x5632_S1024x256_0_1280 inb_S1024x5632_S1024x256_0_4096 inb_S2x256x2816_S1x256x256_1_0_1280 _ hx_v752 x))
      (fun x => (congrFun (chunk_eq_3_6 (comp.sl.v752 c arg1 harg1 arg7 fa) _ _) x).trans (hidPiece arg9 harg9 fa f9 3 6 1536 4352 1 rfl rfl (by decide) inb_S1024x5632_S1024x256_0_1536 inb_S1024x5632_S1024x256_0_4352 inb_S2x256x2816_S1x256x256_1_0_1536 _ hx_v752 x))
      (fun x => (congrFun (chunk_eq_3_7 (comp.sl.v752 c arg1 harg1 arg7 fa) _ _) x).trans (hidPiece arg9 harg9 fa f9 3 7 1792 4608 1 rfl rfl (by decide) inb_S1024x5632_S1024x256_0_1792 inb_S1024x5632_S1024x256_0_4608 inb_S2x256x2816_S1x256x256_1_0_1792 _ hx_v752 x))
      (fun x => (congrFun (chunk_eq_3_8 (comp.sl.v752 c arg1 harg1 arg7 fa) _ _) x).trans (hidPiece arg9 harg9 fa f9 3 8 2048 4864 1 rfl rfl (by decide) inb_S1024x5632_S1024x256_0_2048 inb_S1024x5632_S1024x256_0_4864 inb_S2x256x2816_S1x256x256_1_0_2048 _ hx_v752 x))
      (fun x => (congrFun (chunk_eq_3_9 (comp.sl.v752 c arg1 harg1 arg7 fa) _ _) x).trans (hidPiece arg9 harg9 fa f9 3 9 2304 5120 1 rfl rfl (by decide) inb_S1024x5632_S1024x256_0_2304 inb_S1024x5632_S1024x256_0_5120 inb_S2x256x2816_S1x256x256_1_0_2304 _ hx_v752 x))
      (fun x => (congrFun (chunk_eq_3_10 (comp.sl.v752 c arg1 harg1 arg7 fa) _ _) x).trans (hidPiece arg9 harg9 fa f9 3 10 2560 5376 1 rfl rfl (by decide) inb_S1024x5632_S1024x256_0_2560 inb_S1024x5632_S1024x256_0_5376 inb_S2x256x2816_S1x256x256_1_0_2560 _ hx_v752 x))
      y hy
  have hh_v961 : comp.sl.v961 c arg1 harg1 arg7 arg8 arg9 harg9 fa f9 = hidVec fa f9 3 := by
    unfold comp.sl.v961
    rw [View.readCov_eq_canon']
    funext j
    have hj0 : (j 0).val < 1 := (j 0).isLt
    refine (hs_v961 _ (by show 1 + 1 * (j 0).val = 1; omega)).trans ?_
    unfold hidVec
    refine congrArg₂ (hidOf fa f9 3) (Fin.ext ?_) (Fin.ext ?_)
    · show 0 + 1 * (j 1).val = (j 1).val; omega
    · show 0 + 1 * (j 2).val = (j 2).val; omega
  iapply Hk
  isplitl [HX]
  · iexists _
    isplitr; swap; · iexact HX
    ipureintro; exact hx
  isplitl [HG]
  · iexists _
    isplitr; swap; · iexact HG
    ipureintro; exact hg
  isplitl [HB]
  · iexists _
    isplitr; swap; · iexact HB
    ipureintro; exact hb
  isplitl [HO]
  · iexists _
    isplitr; swap; · iexact HO
    ipureintro
    funext y
    refine View.read_writes_apply_of_pieces _ _ (blkOf fa fg fb f9 f10) _ ?_ y (View.cover_of_tiledL (s := S1024x1024) _ ![256, 1024] (by sl_kernel_rfl) y)
    refine List.forall_mem_cons.mpr ⟨fun x => (congrFun (tail_eq_3 (View.readAt (Elt F) arg1.view (Rect.unit (s := S1024x1024) ![768, 0] S256x1024.size inb_S1024x1024_S256x1024_768_0).toLoadRect (harg1.unread fa)) (comp.sl.v961 c arg1 harg1 arg7 arg8 arg9 harg9 fa f9) (View.readAt (Elt F) arg10.view (Rect.unit (s := S2816x1024) ![0, 0] S2816x1024.size inb_S2816x1024_S2816x1024_0_0).toLoadRect (harg10.unread f10)) (View.readAt (Elt F) arg4.view (Rect.unit (s := S1x1024) ![0, 0] S1x1024.size inb_S1x1024_S1x1024_0_0).toLoadRect (harg4.unread fg)) (View.readAt (Elt F) arg5.view (Rect.unit (s := S1x1024) ![0, 0] S1x1024.size inb_S1x1024_S1x1024_0_0).toLoadRect (harg5.unread fb))) x).trans (outPiece fa fg fb f9 f10 3 768 rfl inb_S1024x1024_S256x1024_768_0 _ _ _ _ _
      (rd_rows arg1 harg1 fa 3 768 rfl (by decide) inb_S1024x1024_S256x1024_768_0) hh_v961
      (rd_whole arg10 harg10 f10 _ (by decide) _) (rd_whole arg4 harg4 fg _ (by decide) _) (rd_whole arg5 harg5 fb _ (by decide) _) x), ?_⟩
    refine List.forall_mem_cons.mpr ⟨fun x => (congrFun (tail_eq_2 (View.readAt (Elt F) arg1.view (Rect.unit (s := S1024x1024) ![512, 0] S256x1024.size inb_S1024x1024_S256x1024_512_0).toLoadRect (harg1.unread fa)) (comp.sl.v713 c arg1 harg1 arg7 arg8 arg9 harg9 fa f9) (View.readAt (Elt F) arg10.view (Rect.unit (s := S2816x1024) ![0, 0] S2816x1024.size inb_S2816x1024_S2816x1024_0_0).toLoadRect (harg10.unread f10)) (View.readAt (Elt F) arg4.view (Rect.unit (s := S1x1024) ![0, 0] S1x1024.size inb_S1x1024_S1x1024_0_0).toLoadRect (harg4.unread fg)) (View.readAt (Elt F) arg5.view (Rect.unit (s := S1x1024) ![0, 0] S1x1024.size inb_S1x1024_S1x1024_0_0).toLoadRect (harg5.unread fb))) x).trans (outPiece fa fg fb f9 f10 2 512 rfl inb_S1024x1024_S256x1024_512_0 _ _ _ _ _
      (rd_rows arg1 harg1 fa 2 512 rfl (by decide) inb_S1024x1024_S256x1024_512_0) hh_v713
      (rd_whole arg10 harg10 f10 _ (by decide) _) (rd_whole arg4 harg4 fg _ (by decide) _) (rd_whole arg5 harg5 fb _ (by decide) _) x), ?_⟩
    refine List.forall_mem_cons.mpr ⟨fun x => (congrFun (tail_eq_1 (View.readAt (Elt F) arg1.view (Rect.unit (s := S1024x1024) ![256, 0] S256x1024.size inb_S1024x1024_S256x1024_256_0).toLoadRect (harg1.unread fa)) (comp.sl.v465 c arg1 harg1 arg7 arg8 arg9 harg9 fa f9) (View.readAt (Elt F) arg10.view (Rect.unit (s := S2816x1024) ![0, 0] S2816x1024.size inb_S2816x1024_S2816x1024_0_0).toLoadRect (harg10.unread f10)) (View.readAt (Elt F) arg4.view (Rect.unit (s := S1x1024) ![0, 0] S1x1024.size inb_S1x1024_S1x1024_0_0).toLoadRect (harg4.unread fg)) (View.readAt (Elt F) arg5.view (Rect.unit (s := S1x1024) ![0, 0] S1x1024.size inb_S1x1024_S1x1024_0_0).toLoadRect (harg5.unread fb))) x).trans (outPiece fa fg fb f9 f10 1 256 rfl inb_S1024x1024_S256x1024_256_0 _ _ _ _ _
      (rd_rows arg1 harg1 fa 1 256 rfl (by decide) inb_S1024x1024_S256x1024_256_0) hh_v465
      (rd_whole arg10 harg10 f10 _ (by decide) _) (rd_whole arg4 harg4 fg _ (by decide) _) (rd_whole arg5 harg5 fb _ (by decide) _) x), ?_⟩
    refine List.forall_mem_cons.mpr ⟨fun x => (congrFun (tail_eq_0 (View.readAt (Elt F) arg1.view (Rect.unit (s := S1024x1024) ![0, 0] S256x1024.size inb_S1024x1024_S256x1024_0_0).toLoadRect (harg1.unread fa)) (comp.sl.v217 c arg1 harg1 arg7 arg8 arg9 harg9 fa f9) (View.readAt (Elt F) arg10.view (Rect.unit (s := S2816x1024) ![0, 0] S2816x1024.size inb_S2816x1024_S2816x1024_0_0).toLoadRect (harg10.unread f10)) (View.readAt (Elt F) arg4.view (Rect.unit (s := S1x1024) ![0, 0] S1x1024.size inb_S1x1024_S1x1024_0_0).toLoadRect (harg4.unread fg)) (View.readAt (Elt F) arg5.view (Rect.unit (s := S1x1024) ![0, 0] S1x1024.size inb_S1x1024_S1x1024_0_0).toLoadRect (harg5.unread fb))) x).trans (outPiece fa fg fb f9 f10 0 0 rfl inb_S1024x1024_S256x1024_0_0 _ _ _ _ _
      (rd_rows arg1 harg1 fa 0 0 rfl (by decide) inb_S1024x1024_S256x1024_0_0) hh_v217
      (rd_whole arg10 harg10 f10 _ (by decide) _) (rd_whole arg4 harg4 fg _ (by decide) _) (rd_whole arg5 harg5 fb _ (by decide) _) x), ?_⟩
    exact fun _ h => absurd h List.not_mem_nil
  isplitl [HS0]
  · iexists _; iexists _
    isplitr; swap; · iexact HS0
    ipureintro; rfl
  isplitl [HS1]
  · iexists _; iexists _
    isplitr; swap; · iexact HS1
    ipureintro; rfl
  isplitl [HS2]
  · iexists _
    isplitr; swap; · iexact HS2
    ipureintro; exact h9
  iexists _
  isplitr; swap; · iexact HS3
  ipureintro; exact h10

end Cert.FfnIdeal.Hand

end
-- ==== Proof.FfnIdealStage.lean ====
/- The copies at the first grid point, run to their end. -/
module

public import proofs.«01_k».proof.Proof.FfnIdealChunk

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in set_option sl_exec.dmaWindow true in set_option sl_exec.dmaWindowSet true in
/-- The copies, run: both weight buffers end at the rounded weights, the copy cells at zero. -/
theorem stage (c : Dev nD) (i : grid0.Coords) (arg1 : Memref sig .tc .vmem S1024x1024 .f32) (harg1 : arg1.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S2x256x1024 .bf16) (harg7 : arg7.IsWhole) (arg8 : Memref sig .tc .vmem S2x256x2816 .bf16) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S4x1024x256 .f32) (harg11 : arg11.IsWhole) (arg12 : Memref sig .tc .vmem S4x128x1024 .f32) (harg12 : arg12.IsWhole)
    (fh0 : HbBuf (F := F) c hb0) (fh1 : HbBuf (F := F) c hb1) (W : Waits sig Unit) (K : PUnit → sProp 𝕄) :
    iprop(((∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt c hb0 fh0 ∗ hbPt c hb1 fh1 ∗ owes (c : Thread nD τ) 0 W)
        ∗ ((owns (c : Thread nD τ) arg9 fullShare (guW c fh0) ∗ owns (c : Thread nD τ) arg10 fullShare (dnW c fh1) ∗ (∃ d, owns (c : Thread nD τ) arg11 fullShare d) ∗ (∃ d, owns (c : Thread nD τ) arg12 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt c hb0 fh0 ∗ hbPt c hb1 fh1 ∗ (∃ W', owes (c : Thread nD τ) 0 W')) -∗ K ⟨⟩))
      ⊢ wp frame (wpE (defs₀ (F := F)) Variants.none c none) Set.univ (stageProg (F := F) i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 cc0_scratch6 cc0_scratch7) K := by
  unfold stageProg
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold owns
  iintro ⟨⟨⟨%d2, %f2, -, HS2⟩, ⟨%d3, %f3, -, HS3⟩, ⟨%d4, %f4, %hf4, HS4⟩, ⟨%d5, %f5, %hf5, HS5⟩, Hq0, Hq1, Hq2, Hq3, Hq4, Hq5, Hq6, Hq7, Hh0, Hh1, HW⟩, Hk⟩
  obtain rfl := harg11.eq_unread hf4
  obtain rfl := harg12.eq_unread hf5
  sl_exec
  sl_step
  iapply Hk
  isplitl [HS2]
  · iexists _
    isplitr; swap; · iexact HS2
    ipureintro
    funext y
    refine View.read_writes_apply_of_pieces _ _ (guW c fh0) _ ?_ y (View.cover_of_tiledL (s := S1024x5632) _ ![1024, 256] (by sl_kernel_rfl) y)
    refine List.forall_mem_cons.mpr ⟨fun x => guPiece c _ _ _ _ _ (fun y => by unfold stage.sl.v1429; simp (disch := decide) only [guSlot_skip, guSlot_read, guSlot_skip', guSlot_read']; rfl) x, ?_⟩
    refine List.forall_mem_cons.mpr ⟨fun x => guPiece c _ _ _ _ _ (fun y => by unfold stage.sl.v1416; simp (disch := decide) only [guSlot_skip, guSlot_read, guSlot_skip', guSlot_read']; rfl) x, ?_⟩
    refine List.forall_mem_cons.mpr ⟨fun x => guPiece c _ _ _ _ _ (fun y => by unfold stage.sl.v1403; simp (disch := decide) only [guSlot_skip, guSlot_read, guSlot_skip', guSlot_read']; rfl) x, ?_⟩
    refine List.forall_mem_cons.mpr ⟨fun x => guPiece c _ _ _ _ _ (fun y => by unfold stage.sl.v1390; simp (disch := decide) only [guSlot_skip, guSlot_read, guSlot_skip', guSlot_read']; rfl) x, ?_⟩
    refine List.forall_mem_cons.mpr ⟨fun x => guPiece c _ _ _ _ _ (fun y => by unfold stage.sl.v1370; simp (disch := decide) only [guSlot_skip, guSlot_read, guSlot_skip', guSlot_read']; rfl) x, ?_⟩
    refine List.forall_mem_cons.mpr ⟨fun x => guPiece c _ _ _ _ _ (fun y => by unfold stage.sl.v1350; simp (disch := decide) only [guSlot_skip, guSlot_read, guSlot_skip', guSlot_read']; rfl) x, ?_⟩
    refine List.forall_mem_cons.mpr ⟨fun x => guPiece c _ _ _ _ _ (fun y => by unfold stage.sl.v1330; simp (disch := decide) only [guSlot_skip, guSlot_read, guSlot_skip', guSlot_read']; rfl) x, ?_⟩
    refine List.forall_mem_cons.mpr ⟨fun x => guPiece c _ _ _ _ _ (fun y => by unfold stage.sl.v1310; simp (disch := decide) only [guSlot_skip, guSlot_read, guSlot_skip', guSlot_read']; rfl) x, ?_⟩
    refine List.forall_mem_cons.mpr ⟨fun x => guPiece c _ _ _ _ _ (fun y => by unfold stage.sl.v1290; simp (disch := decide) only [guSlot_skip, guSlot_read, guSlot_skip', guSlot_read']; rfl) x, ?_⟩
    refine List.forall_mem_cons.mpr ⟨fun x => guPiece c _ _ _ _ _ (fun y => by unfold stage.sl.v1270; simp (disch := decide) only [guSlot_skip, guSlot_read, guSlot_skip', guSlot_read']; rfl) x, ?_⟩
    refine List.forall_mem_cons.mpr ⟨fun x => guPiece c _ _ _ _ _ (fun y => by unfold stage.sl.v1250; simp (disch := decide) only [guSlot_skip, guSlot_read, guSlot_skip', guSlot_read']; rfl) x, ?_⟩
    refine List.forall_mem_cons.mpr ⟨fun x => guPiece c _ _ _ _ _ (fun y => by unfold stage.sl.v1230; simp (disch := decide) only [guSlot_skip, guSlot_read, guSlot_skip', guSlot_read']; rfl) x, ?_⟩
    refine List.forall_mem_cons.mpr ⟨fun x => guPiece c _ _ _ _ _ (fun y => by unfold stage.sl.v1210; simp (disch := decide) only [guSlot_skip, guSlot_read, guSlot_skip', guSlot_read']; rfl) x, ?_⟩
    refine List.forall_mem_cons.mpr ⟨fun x => guPiece c _ _ _ _ _ (fun y => by unfold stage.sl.v1190; simp (disch := decide) only [guSlot_skip, guSlot_read, guSlot_skip', guSlot_read']; rfl) x, ?_⟩
    refine List.forall_mem_cons.mpr ⟨fun x => guPiece c _ _ _ _ _ (fun y => by unfold stage.sl.v1170; simp (disch := decide) only [guSlot_skip, guSlot_read, guSlot_skip', guSlot_read']; rfl) x, ?_⟩
    refine List.forall_mem_cons.mpr ⟨fun x => guPiece c _ _ _ _ _ (fun y => by unfold stage.sl.v1150; simp (disch := decide) only [guSlot_skip, guSlot_read, guSlot_skip', guSlot_read']; rfl) x, ?_⟩
    refine List.forall_mem_cons.mpr ⟨fun x => guPiece c _ _ _ _ _ (fun y => by unfold stage.sl.v1130; simp (disch := decide) only [guSlot_skip, guSlot_read, guSlot_skip', guSlot_read']; rfl) x, ?_⟩
    refine List.forall_mem_cons.mpr ⟨fun x => guPiece c _ _ _ _ _ (fun y => by unfold stage.sl.v1110; simp (disch := decide) only [guSlot_skip, guSlot_read, guSlot_skip', guSlot_read']; rfl) x, ?_⟩
    refine List.forall_mem_cons.mpr ⟨fun x => guPiece c _ _ _ _ _ (fun y => by unfold stage.sl.v1090; simp (disch := decide) only [guSlot_skip, guSlot_read, guSlot_skip', guSlot_read']; rfl) x, ?_⟩
    refine List.forall_mem_cons.mpr ⟨fun x => guPiece c _ _ _ _ _ (fun y => by unfold stage.sl.v1070; simp (disch := decide) only [guSlot_skip, guSlot_read, guSlot_skip', guSlot_read']; rfl) x, ?_⟩
    refine List.forall_mem_cons.mpr ⟨fun x => guPiece c _ _ _ _ _ (fun y => by unfold stage.sl.v1050; simp (disch := decide) only [guSlot_skip, guSlot_read, guSlot_skip', guSlot_read']; rfl) x, ?_⟩
    refine List.forall_mem_cons.mpr ⟨fun x => guPiece c _ _ _ _ _ (fun y => by unfold stage.sl.v1030; simp (disch := decide) only [guSlot_skip, guSlot_read, guSlot_skip', guSlot_read']; rfl) x, ?_⟩
    exact fun _ h => absurd h List.not_mem_nil
  isplitl [HS3]
  · iexists _
    isplitr; swap; · iexact HS3
    ipureintro
    funext y
    refine View.read_writes_apply_of_pieces _ _ (dnW c fh1) _ ?_ y (View.cover_of_tiledL (s := S2816x1024) _ ![128, 1024] (by sl_kernel_rfl) y)
    refine List.forall_mem_cons.mpr ⟨fun x => dnPiece c _ _ _ _ _ (fun y => by unfold stage.sl.v1869; simp (disch := decide) only [dnSlot_skip, dnSlot_read, dnSlot_skip', dnSlot_read']; rfl) x, ?_⟩
    refine List.forall_mem_cons.mpr ⟨fun x => dnPiece c _ _ _ _ _ (fun y => by unfold stage.sl.v1856; simp (disch := decide) only [dnSlot_skip, dnSlot_read, dnSlot_skip', dnSlot_read']; rfl) x, ?_⟩
    refine List.forall_mem_cons.mpr ⟨fun x => dnPiece c _ _ _ _ _ (fun y => by unfold stage.sl.v1843; simp (disch := decide) only [dnSlot_skip, dnSlot_read, dnSlot_skip', dnSlot_read']; rfl) x, ?_⟩
    refine List.forall_mem_cons.mpr ⟨fun x => dnPiece c _ _ _ _ _ (fun y => by unfold stage.sl.v1830; simp (disch := decide) only [dnSlot_skip, dnSlot_read, dnSlot_skip', dnSlot_read']; rfl) x, ?_⟩
    refine List.forall_mem_cons.mpr ⟨fun x => dnPiece c _ _ _ _ _ (fun y => by unfold stage.sl.v1810; simp (disch := decide) only [dnSlot_skip, dnSlot_read, dnSlot_skip', dnSlot_read']; rfl) x, ?_⟩
    refine List.forall_mem_cons.mpr ⟨fun x => dnPiece c _ _ _ _ _ (fun y => by unfold stage.sl.v1790; simp (disch := decide) only [dnSlot_skip, dnSlot_read, dnSlot_skip', dnSlot_read']; rfl) x, ?_⟩
    refine List.forall_mem_cons.mpr ⟨fun x => dnPiece c _ _ _ _ _ (fun y => by unfold stage.sl.v1770; simp (disch := decide) only [dnSlot_skip, dnSlot_read, dnSlot_skip', dnSlot_read']; rfl) x, ?_⟩
    refine List.forall_mem_cons.mpr ⟨fun x => dnPiece c _ _ _ _ _ (fun y => by unfold stage.sl.v1750; simp (disch := decide) only [dnSlot_skip, dnSlot_read, dnSlot_skip', dnSlot_read']; rfl) x, ?_⟩
    refine List.forall_mem_cons.mpr ⟨fun x => dnPiece c _ _ _ _ _ (fun y => by unfold stage.sl.v1730; simp (disch := decide) only [dnSlot_skip, dnSlot_read, dnSlot_skip', dnSlot_read']; rfl) x, ?_⟩
    refine List.forall_mem_cons.mpr ⟨fun x => dnPiece c _ _ _ _ _ (fun y => by unfold stage.sl.v1710; simp (disch := decide) only [dnSlot_skip, dnSlot_read, dnSlot_skip', dnSlot_read']; rfl) x, ?_⟩
    refine List.forall_mem_cons.mpr ⟨fun x => dnPiece c _ _ _ _ _ (fun y => by unfold stage.sl.v1690; simp (disch := decide) only [dnSlot_skip, dnSlot_read, dnSlot_skip', dnSlot_read']; rfl) x, ?_⟩
    refine List.forall_mem_cons.mpr ⟨fun x => dnPiece c _ _ _ _ _ (fun y => by unfold stage.sl.v1670; simp (disch := decide) only [dnSlot_skip, dnSlot_read, dnSlot_skip', dnSlot_read']; rfl) x, ?_⟩
    refine List.forall_mem_cons.mpr ⟨fun x => dnPiece c _ _ _ _ _ (fun y => by unfold stage.sl.v1650; simp (disch := decide) only [dnSlot_skip, dnSlot_read, dnSlot_skip', dnSlot_read']; rfl) x, ?_⟩
    refine List.forall_mem_cons.mpr ⟨fun x => dnPiece c _ _ _ _ _ (fun y => by unfold stage.sl.v1630; simp (disch := decide) only [dnSlot_skip, dnSlot_read, dnSlot_skip', dnSlot_read']; rfl) x, ?_⟩
    refine List.forall_mem_cons.mpr ⟨fun x => dnPiece c _ _ _ _ _ (fun y => by unfold stage.sl.v1610; simp (disch := decide) only [dnSlot_skip, dnSlot_read, dnSlot_skip', dnSlot_read']; rfl) x, ?_⟩
    refine List.forall_mem_cons.mpr ⟨fun x => dnPiece c _ _ _ _ _ (fun y => by unfold stage.sl.v1590; simp (disch := decide) only [dnSlot_skip, dnSlot_read, dnSlot_skip', dnSlot_read']; rfl) x, ?_⟩
    refine List.forall_mem_cons.mpr ⟨fun x => dnPiece c _ _ _ _ _ (fun y => by unfold stage.sl.v1570; simp (disch := decide) only [dnSlot_skip, dnSlot_read, dnSlot_skip', dnSlot_read']; rfl) x, ?_⟩
    refine List.forall_mem_cons.mpr ⟨fun x => dnPiece c _ _ _ _ _ (fun y => by unfold stage.sl.v1550; simp (disch := decide) only [dnSlot_skip, dnSlot_read, dnSlot_skip', dnSlot_read']; rfl) x, ?_⟩
    refine List.forall_mem_cons.mpr ⟨fun x => dnPiece c _ _ _ _ _ (fun y => by unfold stage.sl.v1530; simp (disch := decide) only [dnSlot_skip, dnSlot_read, dnSlot_skip', dnSlot_read']; rfl) x, ?_⟩
    refine List.forall_mem_cons.mpr ⟨fun x => dnPiece c _ _ _ _ _ (fun y => by unfold stage.sl.v1510; simp (disch := decide) only [dnSlot_skip, dnSlot_read, dnSlot_skip', dnSlot_read']; rfl) x, ?_⟩
    refine List.forall_mem_cons.mpr ⟨fun x => dnPiece c _ _ _ _ _ (fun y => by unfold stage.sl.v1490; simp (disch := decide) only [dnSlot_skip, dnSlot_read, dnSlot_skip', dnSlot_read']; rfl) x, ?_⟩
    refine List.forall_mem_cons.mpr ⟨fun x => dnPiece c _ _ _ _ _ (fun y => by unfold stage.sl.v1470; simp (disch := decide) only [dnSlot_skip, dnSlot_read, dnSlot_skip', dnSlot_read']; rfl) x, ?_⟩
    exact fun _ h => absurd h List.not_mem_nil
  isplitl [HS4]
  · iexists _; iexists _
    isplitr; swap; · iexact HS4
    ipureintro; rfl
  isplitl [HS5]
  · iexists _; iexists _
    isplitr; swap; · iexact HS5
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  iexists _
  iexact HW

end Cert.FfnIdeal.Hand

end
-- ==== Proof.FfnIdealFrame.lean ====
/- The feed-forward kernel's whole run: the invariant between grid points keeps the two rounded weights in VMEM, every
   point leaves its block of the output, and the launch gives the arrays at the end and the unchanged arguments. -/
module

public import proofs.«01_k».proof.Proof.FfnIdealComp
public import proofs.«01_k».proof.Proof.FfnIdealStage
public import Idealize.ShloMosaic.Lib.Pipeline.FrameValue

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own copy cells, and the arrays it reads in HBM. -/
abbrev osem0 : Fin 8 → SemLoc sig := fun j => (![SemLoc.dma 6, SemLoc.dma 7, SemLoc.dma 8, SemLoc.dma 9, SemLoc.dma 10, SemLoc.dma 11, SemLoc.dma 12, SemLoc.dma 13] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5, 6, 7] (by decide) (by decide)]; rfl
def H0 : Finset (Ref sig .tc) := {main_arg1, main_arg2}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hb0 (V m c main_arg1) ∗ hbPt c hb1 (V m c main_arg2)) := by
  rw [BI.bigSep_eq_bigSepL_of_eq [main_arg1, main_arg2] (by decide) (by decide)]; rfl

/-- What the launch hands the region, conjunct by conjunct. -/
theorem PhiD0_eq (c : Dev nD) :
    (Pipeline.ΦD osem0 spec0 H0 (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt c hb0 (V m c main_arg1) ∗ hbPt c hb1 (V m c main_arg2))) := by
  rw [Pipeline.ΦD_eq, scopedRest0_eq, ownSems00_eq, hbmPts0_eq]; simp only [sc0, sc1, sc2, sc3, sc4, sc5, owns_whole]; try rfl

/-- @main up to the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- After a point: the two weights of the layer, rounded, in their VMEM buffers. -/
def Inv (c : Dev nD) : sProp 𝕄 :=
  iprop(iprop((∃ d, owns (c : Thread nD τ) sc0 fullShare d) ∗ (∃ d, owns (c : Thread nD τ) sc1 fullShare d) ∗ owns (c : Thread nD τ) sc2 fullShare (guW c (V m c main_arg1)) ∗ owns (c : Thread nD τ) sc3 fullShare (dnW c (V m c main_arg2)) ∗ (∃ d, owns (c : Thread nD τ) sc4 fullShare d) ∗ (∃ d, owns (c : Thread nD τ) sc5 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt c hb0 (V m c main_arg1) ∗ hbPt c hb1 (V m c main_arg2)))

/-- The invariant before position `n`: what the launch hands over at first, the weights in place afterwards. -/
def PhiS (c : Dev nD) : (n : ℕ) → n ≤ cfg0.N → sProp 𝕄
  | 0, _ => Pipeline.ΦD osem0 spec0 H0 (V m) c
  | _ + 1, _ => Inv m c
theorem PhiS_zero (c : Dev nD) (n : ℕ) (h : n ≤ cfg0.N) (hz : n = 0) : PhiS m c n h = Pipeline.ΦD osem0 spec0 H0 (V m) c := by
  subst hz; rfl
theorem PhiS_pos (c : Dev nD) (n : ℕ) (h : n ≤ cfg0.N) (hz : n ≠ 0) : PhiS m c n h = Inv m c := by
  cases n with
  | zero => exact absurd rfl hz
  | succ n => rfl

/-- The block the body leaves in the output window at point `t`. -/
def oblk (c : Dev nD) (t : Fin cfg0.N) : Vec F S1024x1024 .f32 := blkOf (iblk m c 0 t) (iblk m c 1 t) (iblk m c 2 t) (guW c (V m c main_arg1)) (dnW c (V m c main_arg2))

/-- The proof data: each input window at its block, the output window at `oblk`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = oblk m c t := by dsimp only [dats]
/-- Input window 0 holds its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input window 1 holds its block at every point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input window 2 holds its block at every point. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Inv m c from rfl, after0_0, after0_1, after0_2, after0_3]
  unfold Dat.owesAt Pipeline.owesWithin
  rw [show (dats m 0 c).owed t.castSucc = 0 from rfl, show (dats m 0 c).owed t.succ = 0 from rfl]
  unfold Inv oblk
  by_cases hz : t.val = 0
  · rw [PhiS_castSucc m c t, PhiS_zero m c _ _ hz, PhiD0_eq]
    rw [body_first (h := (isFirst_iff t).mpr hz), wp_bind]
    iintro ⟨⟨⟨HS0, HS1, HS2, HS3, HS4, HS5⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%dO, HO⟩⟩
    iapply (stage c (grid0.coords t) _ _ _ _ _ _ _ _ _ _ _ _ _ _ _ _ _ _ _ _ (V m c main_arg1) (V m c main_arg2) W _)
    isplitl [HS2 HS3 HS4 HS5 Hq0 Hq1 Hq2 Hq3 Hq4 Hq5 Hq6 Hq7 Hh0 Hh1 HW]
    · isplitl [HS2]; · iexact HS2
      isplitl [HS3]; · iexact HS3
      isplitl [HS4]; · iexact HS4
      isplitl [HS5]; · iexact HS5
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [Hh1]; · iexact Hh1
      iexact HW
    iintro ⟨HS2, HS3, HS4, HS5, Hq0, Hq1, Hq2, Hq3, Hq4, Hq5, Hq6, Hq7, Hh0, Hh1, ⟨%W', HW⟩⟩
    iapply (comp c (grid0.coords t) _ _ _ _ _ _ _ _ _ _ _ _ _ _ _ _ _ _ _ _ (iblk m c 0 t) (iblk m c 1 t) (iblk m c 2 t) (guW c (V m c main_arg1)) (dnW c (V m c main_arg2)) W' _)
    isplitl [H0 H1 H2 HO HS0 HS1 HS2 HS3]
    · isplitl [H0]; · iexact H0
      isplitl [H1]; · iexact H1
      isplitl [H2]; · iexact H2
      isplitl [HO]; · iexists _; iexact HO
      isplitl [HS0]; · iexact HS0
      isplitl [HS1]; · iexact HS1
      isplitl [HS2]; · iexact HS2
      iexact HS3
    iintro ⟨H0, H1, H2, HO, HS0, HS1, HS2, HS3⟩
    isplitl [HS0 HS1 HS2 HS3 HS4 HS5 Hg Hq0 Hq1 Hq2 Hq3 Hq4 Hq5 Hq6 Hq7 Hh0 Hh1]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [Hh0]; · iexact Hh0
      iexact Hh1
    isplitl [HW]
    · iexists W'; isplitr; · ipureintro; exact fun _ _ => Or.inl trivial
      iexact HW
    isplitl [H0]; · iexact H0
    isplitl [H1]; · iexact H1
    isplitl [H2]; · iexact H2
    iexact HO
  · rw [PhiS_castSucc m c t, PhiS_pos m c _ _ hz]
    unfold Inv
    rw [body_rest (h := fun h => hz ((isFirst_iff t).mp h))]
    iintro ⟨⟨⟨HS0, HS1, HS2, HS3, HS4, HS5⟩, Hg, ⟨Hq0, Hq1, Hq2, Hq3, Hq4, Hq5, Hq6, Hq7⟩, ⟨Hh0, Hh1⟩⟩, ⟨%W', -, HW⟩, ⟨%d0, H0⟩, ⟨%d1, H1⟩, ⟨%d2, H2⟩, ⟨%dO, HO⟩⟩
    iapply (comp c (grid0.coords t) _ _ _ _ _ _ _ _ _ _ _ _ _ _ _ _ _ _ _ _ (iblk m c 0 t) (iblk m c 1 t) (iblk m c 2 t) (guW c (V m c main_arg1)) (dnW c (V m c main_arg2)) W' _)
    isplitl [H0 H1 H2 HO HS0 HS1 HS2 HS3]
    · isplitl [H0]; · iexact H0
      isplitl [H1]; · iexact H1
      isplitl [H2]; · iexact H2
      isplitl [HO]; · iexists _; iexact HO
      isplitl [HS0]; · iexact HS0
      isplitl [HS1]; · iexact HS1
      isplitl [HS2]; · iexact HS2
      iexact HS3
    iintro ⟨H0, H1, H2, HO, HS0, HS1, HS2, HS3⟩
    isplitl [HS0 HS1 HS2 HS3 HS4 HS5 Hg Hq0 Hq1 Hq2 Hq3 Hq4 Hq5 Hq6 Hq7 Hh0 Hh1]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [Hh0]; · iexact Hh0
      iexact Hh1
    isplitl [HW]
    · iexists W'; isplitr; · ipureintro; exact fun _ _ => Or.inl trivial
      iexact HW
    isplitl [H0]; · iexact H0
    isplitl [H1]; · iexact H1
    isplitl [H2]; · iexact H2
    iexact HO

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- At the end the weights' contents are forgotten again. -/
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiD0_eq]
  unfold Inv
  iintro ⟨⟨HS0, HS1, HS2, HS3, HS4, HS5⟩, Hg, Hq, Hh⟩
  isplitl [HS0 HS1 HS2 HS3 HS4 HS5]
  · isplitl [HS0]; · iexact HS0
    isplitl [HS1]; · iexact HS1
    isplitl [HS2]; · iexists _; iexact HS2
    isplitl [HS3]; · iexists _; iexact HS3
    isplitl [HS4]; · iexact HS4
    iexact HS5
  isplitl [Hg]; · iexact Hg
  isplitl [Hq]; · iexact Hq
  iexact Hh

set_option backward.isDefEq.respectTransparency.types false in
/-- The launch: the arrays at the end, every other buffer unchanged, every counter at zero. -/
theorem run_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

/-- The argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_quiescent m ρ)

/-- The output array ends at what the points' blocks make of it. -/
theorem out_run : θ_run defs (onTc (τ := τ) (main (F := F))) (s₀ m ρ)
    (fun r => ∀ c : Dev nD, r.2.mem ((c.tc : Thread nD τ).loc (Pipeline.arrRef spec0 3)) = (dats m 0 c).arrAt 3 cfg0.N) :=
  (θ_run defs _ _).mono (fun _ h c => (h.1 c).1 3) (run_quiescent m ρ)

end Cert.FfnIdeal.Hand

end
-- ==== Proof.FfnBits.lean ====
/- The feed-forward layer on bit patterns: the kernel and the kernel on the extended reals are one program, so that
   the frame holds of the one by the other's. -/
module

public import proofs.«01_k».proof.Proof.FfnIdealFrame
public import proofs.«01_k».proof.Defs
public import proofs.«01_k».proof.Proof.Gen.Ffn

@[expose] public section

set_option maxRecDepth 100000
set_option maxHeartbeats 2000000

noncomputable section

namespace Cert.Ffn.Hand

open Idealize.ShloMosaic Idealize.SL.Sem Cert.Ffn Cert.Ffn.Gen

variable {F : FTy → Type} [FloatOps F]

theorem body_eq (i : grid0.Coords) (arg1 : Memref sig .tc .vmem S1024x1024 .f32) (harg1 : arg1.IsWhole) (arg2 : Memref sig .tc .hbm S4x2x1024x5632 .f32) (harg2 : arg2.IsWhole) (arg3 : Memref sig .tc .hbm S4x2x2816x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S2x256x1024 .bf16) (harg7 : arg7.IsWhole) (arg8 : Memref sig .tc .vmem S2x256x2816 .bf16) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S4x1024x256 .f32) (harg11 : arg11.IsWhole) (arg12 : Memref sig .tc .vmem S4x128x1024 .f32) (harg12 : arg12.IsWhole) (arg13 : DmaSems sig S4) (arg14 : DmaSems sig S4) :
    Cert.Ffn.cc0_ffn (F := F) i arg1 harg1 arg2 harg2 arg3 harg3 arg4 harg4 arg5 harg5 arg6 harg6 arg7 harg7 arg8 harg8 arg9 harg9 arg10 harg10 arg11 harg11 arg12 harg12 arg13 arg14 = Cert.FfnIdeal.cc0_ffn (F := F) i arg1 harg1 arg2 harg2 arg3 harg3 arg4 harg4 arg5 harg5 arg6 harg6 arg7 harg7 arg8 harg8 arg9 harg9 arg10 harg10 arg11 harg11 arg12 harg12 arg13 arg14 := rfl

theorem calls_eq : haveI := Cert.Ffn.Gen.facts; Cert.Ffn.defs₀ (F := F) = Cert.FfnIdeal.defs₀ (F := F) := by
  unfold Cert.Ffn.defs₀ Cert.FfnIdeal.defs₀
  refine congrArg Defs.onTc (funext fun l => funext fun a => ?_)
  match l, a with
  | 0, (t, s) => exact body_eq ..

theorem defs_eq : haveI := Cert.Ffn.Gen.facts; Cert.Ffn.defs (F := F) = Cert.FfnIdeal.defs (F := F) := by
  unfold Cert.Ffn.defs Cert.FfnIdeal.defs
  exact congrArg (Pipeline.defs pcfgs) calls_eq

/-- The kernel runs, keeps its arguments, and leaves every semaphore at zero. -/
theorem frame : haveI := Cert.Ffn.Gen.facts; Cert.quiescent_Ffn := fun m g _ => by
  rw [defs_eq]
  exact Cert.FfnIdeal.Hand.frame (F := Bits) m g

end Cert.Ffn.Hand

end
-- ==== Proof.FfnMath.lean ====
/- The feed-forward block of one token's row, as plain mathematics over the extended reals. -/
module

public import proofs.«01_k».proof.Proof.PoolSpec

@[expose] public section

noncomputable section

namespace Cert.FfnMath

open Idealize.ShloMosaic

/-- `a / (1 + exp (-a))`. -/
def silu (a : EReal) : EReal := a * Ideal.div 1 (1 + Ideal.exp (-a))

/-- Entry `j` of the hidden row: the gate's silu times the up projection, gate and up being the two halves of the columns of `gu`. -/
def hid (row : Fin 1024 → EReal) (gu : Fin 1024 → Fin 5632 → EReal) (j : Fin 2816) : EReal :=
  silu (∑ i, row i * gu i ⟨j.val, by omega⟩) * ∑ i, row i * gu i ⟨2816 + j.val, by omega⟩

/-- The row's residual sum with half the block's output. -/
def res (row : Fin 1024 → EReal) (gu : Fin 1024 → Fin 5632 → EReal) (dn : Fin 2816 → Fin 1024 → EReal) (q : Fin 1024) : EReal :=
  Ideal.ofBits FTy.f32 1071072509#32 * row q + Ideal.ofBits FTy.f32 1056964608#32 * ∑ j, hid row gu j * dn j q

/-- The layer's row: the residual sum, normalised, scaled and shifted. -/
def out (row : Fin 1024 → EReal) (gu : Fin 1024 → Fin 5632 → EReal) (dn : Fin 2816 → Fin 1024 → EReal) (g b : Fin 1024 → EReal) (k : Fin 1024) : EReal :=
  Cert.PoolIdeal.Hand.lnRow (res row gu dn) (g k) (b k) k

end Cert.FfnMath
-- ==== Proof.FfnIdealFinal.lean ====
/- The kernel's result, entry by entry: the feed-forward block of each token's row. -/
module

public import proofs.«01_k».proof.Proof.FfnIdealFrame
public import proofs.«01_k».proof.Proof.FfnMath
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Hand

open Idealize.ShloMosaic Idealize.SL.Sem Idealize.ShloMosaic.Pipeline
open Cert.FfnIdeal Cert.FfnIdeal.Gen

/-! ## The payloads at an index -/

theorem pay55_at (x : Vec Ideal S256x1024 .f32) (r : Fin 256) (k : Fin 1024) : k0_pay55 (F := Ideal) x (ix3 0 r k) = x (ix2 r k) := by
  pointwise [k0_pay55]

theorem pay56_at (v : Vec Ideal S1x256x1024 .bf16) (a b : Vec Ideal S1024x256 .bf16) (r : Fin 256) (k : Fin 256) :
    k0_pay56 (F := Ideal) v a b (ix3 0 r k) = Cert.FfnMath.silu (∑ i : Fin 1024, v (ix3 0 r i) * a (ix2 i k)) * ∑ i : Fin 1024, v (ix3 0 r i) * b (ix2 i k) := by
  pointwise [k0_pay56]
  unfold Cert.FfnMath.silu
  rw [zero_sub]

theorem pay76_at (x : Vec Ideal S256x1024 .f32) (h : Vec Ideal S1x256x2816 .bf16) (d : Vec Ideal S2816x1024 .bf16) (r : Fin 256) (k : Fin 1024) :
    k0_pay76 (F := Ideal) x h d (ix2 r k) = Ideal.ofBits FTy.f32 1071072509#32 * x (ix2 r k) + Ideal.ofBits FTy.f32 1056964608#32 * ∑ j : Fin 2816, h (ix3 0 r j) * d (ix2 j k) := by
  pointwise [k0_pay76]

theorem pay77_at (z : FVec Ideal S256x1024 .f32) (g b : Vec Ideal S1x1024 .f32) (r : Fin 256) (k : Fin 1024) :
    k0_pay77 (F := Ideal) z g b (ix2 r k) = Cert.PoolIdeal.Hand.lnRow (fun q => z (ix2 r q)) (g (ix2 0 k)) (b (ix2 0 k)) k := by
  pointwise [k0_pay77]
  rfl

/-! ## The two weights -/

theorem guRaw_at (c : Dev nD) (f : HbBuf (F := Ideal) c hb0) (i : Fin 1024) (j : Fin 5632) : guRaw (F := Ideal) c f (ix2 i j) = f (ix4 0 0 i j) := by
  have key : ∀ v : FVec Ideal S1x1x1024x5632 .f32, shapeCast S1024x5632 v (Shape.Squeezes.numel_eq squeezes_S1x1x1024x5632_S1024x5632) (ix2 i j) = v (ix4 0 0 i j) := by
    intro v
    pointwise
  refine (key (fun z => f ((Rect.unit (s := S4x2x1024x5632) ![0, 0, 0, 0] S1x1x1024x5632.size inb_S4x2x1024x5632_S1x1x1024x5632_0_0_0_0).emb z))).trans (congrArg f ?_)
  funext a
  apply Fin.ext
  fin_cases a <;> simp [Rect.emb, Rect.unit, ix4]

theorem guW_at (c : Dev nD) (f : HbBuf (F := Ideal) c hb0) (i : Fin 1024) (j : Fin 5632) : guW (F := Ideal) c f (ix2 i j) = f (ix4 0 0 i j) :=
  guRaw_at c f i j

theorem dnRaw_at (c : Dev nD) (f : HbBuf (F := Ideal) c hb1) (i : Fin 2816) (j : Fin 1024) : dnRaw (F := Ideal) c f (ix2 i j) = f (ix4 0 0 i j) := by
  have key : ∀ v : FVec Ideal S1x1x2816x1024 .f32, shapeCast S2816x1024 v (Shape.Squeezes.numel_eq squeezes_S1x1x2816x1024_S2816x1024) (ix2 i j) = v (ix4 0 0 i j) := by
    intro v
    pointwise
  refine (key (fun z => f ((Rect.unit (s := S4x2x2816x1024) ![0, 0, 0, 0] S1x1x2816x1024.size inb_S4x2x2816x1024_S1x1x2816x1024_0_0_0_0).emb z))).trans (congrArg f ?_)
  funext a
  apply Fin.ext
  fin_cases a <;> simp [Rect.emb, Rect.unit, ix4]

theorem dnW_at (c : Dev nD) (f : HbBuf (F := Ideal) c hb1) (i : Fin 2816) (j : Fin 1024) : dnW (F := Ideal) c f (ix2 i j) = f (ix4 0 0 i j) :=
  dnRaw_at c f i j

/-! ## The block of one grid point -/

theorem hid_at (fa : Vec Ideal S1024x1024 .f32) (f9 : Vec Ideal S1024x5632 .bf16) (s : ℕ) (hs : s < 4) (r : Fin 256) (j : Fin 2816) :
    hidOf (F := Ideal) fa f9 s r j = Cert.FfnMath.hid (fun q => fa (ix2 ⟨256 * s + r.val, by omega⟩ q)) (fun i j => f9 (ix2 i j)) j := by
  unfold hidOf
  rw [pay56_at]
  have hx : ∀ i : Fin 1024, xbOf (F := Ideal) fa s (ix3 0 r i) = fa (ix2 ⟨256 * s + r.val, by omega⟩ i) := by
    intro i
    unfold xbOf
    rw [pay55_at]
    exact congrArg fa (congrArg (fun n => ix2 n i) (Fin.ext (Nat.mod_eq_of_lt (show 256 * s + r.val < 1024 by omega))))
  have hj := j.isLt
  have hg : ∀ i : Fin 1024, colsOf (F := Ideal) f9 (j.val / 256) (ix2 i ⟨j.val % 256, Nat.mod_lt _ (by decide)⟩) = f9 (ix2 i ⟨j.val, by omega⟩) := by
    intro i
    exact congrArg f9 (congrArg (fun n => ix2 i n) (Fin.ext (show (256 * (j.val / 256) + j.val % 256) % 5632 = j.val by omega)))
  have hu : ∀ i : Fin 1024, colsOf (F := Ideal) f9 (11 + j.val / 256) (ix2 i ⟨j.val % 256, Nat.mod_lt _ (by decide)⟩) = f9 (ix2 i ⟨2816 + j.val, by omega⟩) := by
    intro i
    exact congrArg f9 (congrArg (fun n => ix2 i n) (Fin.ext (show (256 * (11 + j.val / 256) + j.val % 256) % 5632 = 2816 + j.val by omega)))
  unfold Cert.FfnMath.hid
  refine congrArg₂ (fun a b => Cert.FfnMath.silu a * b) (Finset.sum_congr rfl fun i _ => ?_) (Finset.sum_congr rfl fun i _ => ?_)
  · rw [hx, hg]
  · rw [hx, hu]

theorem blk_at (fa : Vec Ideal S1024x1024 .f32) (fg fb : Vec Ideal S1x1024 .f32) (f9 : Vec Ideal S1024x5632 .bf16) (f10 : Vec Ideal S2816x1024 .bf16) (r : Fin 1024) (k : Fin 1024) :
    blkOf (F := Ideal) fa fg fb f9 f10 (ix2 r k)
      = Cert.FfnMath.out (fun q => fa (ix2 r q)) (fun i j => f9 (ix2 i j)) (fun i j => f10 (ix2 i j)) (fun q => fg (ix2 0 q)) (fun q => fb (ix2 0 q)) k := by
  have hr := r.isLt
  show outOf (F := Ideal) fa fg fb f9 f10 (r.val / 256) (ix2 ⟨r.val % 256, Nat.mod_lt _ (by decide)⟩ k) = _
  unfold outOf Cert.FfnMath.out
  rw [pay77_at]
  have hrow : (⟨256 * (r.val / 256) + r.val % 256, by omega⟩ : Fin 1024) = r := Fin.ext (by show 256 * (r.val / 256) + r.val % 256 = r.val; omega)
  refine congrArg (fun z => Cert.PoolIdeal.Hand.lnRow z (fg (ix2 0 k)) (fb (ix2 0 k)) k) (funext fun q => ?_)
  rw [pay76_at]
  unfold Cert.FfnMath.res
  have hx : rowsOf (F := Ideal) fa (r.val / 256) (ix2 ⟨r.val % 256, Nat.mod_lt _ (by decide)⟩ q) = fa (ix2 r q) :=
    congrArg fa (congrArg (fun n => ix2 n q) (Fin.ext (show (256 * (r.val / 256) + r.val % 256) % 1024 = r.val by omega)))
  rw [hx]
  refine congrArg (fun s => Ideal.ofBits FTy.f32 1071072509#32 * fa (ix2 r q) + Ideal.ofBits FTy.f32 1056964608#32 * s) (Finset.sum_congr rfl fun j _ => ?_)
  refine congrArg (· * f10 (ix2 j q)) ?_
  refine (hid_at fa f9 (r.val / 256) (by omega) ⟨r.val % 256, Nat.mod_lt _ (by decide)⟩ j).trans ?_
  rw [hrow]

/-! ## The blocks the windows hold, and the array at the end -/

theorem idx : ∀ t : Fin cfg0.N, win0_0.index t = ![t.val, 0] ∧ win0_1.index t = ![0, 0] ∧ win0_2.index t = ![0, 0] ∧ win0_3.index t = ![t.val, 0] := by decide +kernel

variable (m : (ℓ : Loc nD τ sig) → Buf (Elt Ideal) ℓ) (c : Dev nD)

theorem blk0 (t : Fin cfg0.N) (r : Fin 1024) (j : Fin 1024) :
    iblk m c 0 t (ix2 r j) = m ((c.tc : Thread nD τ).loc main_arg0) (ix2 ⟨t.val * 1024 + r.val, by have : t.val < 16 := t.isLt; omega⟩ j) := by
  blk_point [iblk, V, idx t]
theorem blk1 (t : Fin cfg0.N) (r : Fin 1) (j : Fin 1024) : iblk m c 1 t (ix2 r j) = m ((c.tc : Thread nD τ).loc main_arg3) (ix1 j) := by
  blk_point [iblk, V, idx t]
theorem blk2 (t : Fin cfg0.N) (r : Fin 1) (j : Fin 1024) : iblk m c 2 t (ix2 r j) = m ((c.tc : Thread nD τ).loc main_arg4) (ix1 j) := by
  blk_point [iblk, V, idx t]

/-- What the layer leaves at row `R`, lane `k`. -/
def ffnOut (x : S16384x1024.Idx → EReal) (gu : S4x2x1024x5632.Idx → EReal) (dn : S4x2x2816x1024.Idx → EReal) (g b : S1024.Idx → EReal) (R : Fin 16384) (k : Fin 1024) : EReal :=
  Cert.FfnMath.out (fun q => x (ix2 R q)) (fun i j => gu (ix4 0 0 i j)) (fun i j => dn (ix4 0 0 i j)) (fun q => g (ix1 q)) (fun q => b (ix1 q)) k

theorem final : (dats m 0 c).arrAt 3 (cfgs 0).N = fun i : S16384x1024.Idx =>
    ffnOut (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (i 0) (i 1) := by
  refine (dats m 0 c).arrAt_eq_of_covers 3 _ (by decide +kernel) fun t _ y => ?_
  blk_simp
  rw [after0_3]
  change S1024x1024.Idx at y
  idx_vars y
  have hrow : (((View.whole main_v2).slice (win0_3.rect t)).emb (ix2 y0 y1) : S16384x1024.Idx) = ix2 ⟨t.val * 1024 + y0.val, by have : t.val < 16 := t.isLt; omega⟩ y1 := by
    blk_ext [idx t]
  rw [hrow]
  refine (blk_at _ _ _ _ _ y0 y1).trans ?_
  unfold ffnOut
  simp only [blk0, blk1, blk2, guW_at, dnW_at]
  rw [V_main_arg1, V_main_arg2]
  rfl

/-- The kernel's run: the output array, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v2) = (fun i : S16384x1024.Idx => ffnOut (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).trans (final m c), h.2.1 c⟩) (θ_run_and (out_run m ρ) (frame m ρ))

end Cert.FfnIdeal.Hand
-- ==== Proof.FfnRef.lean ====
/- The reference's result, entry by entry. -/
module

public import proofs.«01_k».proof.Proof.FfnMath
public import proofs.«01_k».proof.Proof.Gen.FfnRefIdeal.Run
public import Idealize.ShloMosaic.Lib.Pointwise
public import Idealize.ShloMosaic.Lib.Claim

@[expose] public section

set_option maxRecDepth 16384

noncomputable section

namespace Cert.FfnRefIdeal.Hand

open Idealize.ShloMosaic Idealize.SL.Sem
open Cert.FfnRefIdeal Cert.FfnRefIdeal.Facts Cert.FfnRefIdeal.Gen

/-- Gate and up projections of every row, side by side. -/
def refGU (x : FVec Ideal S16384x1024 .f32) (gu : FVec Ideal S4x2x1024x5632 .f32) : FVec Ideal S16384x5632 .f32 :=
  Host.dotGeneral dot_S16384x1024_S1024x5632_S16384x5632_1_0_0_1_n_n none x (shapeCast _ (extractStridedSlice S1x1x1024x5632 ![0, 0, 0, 0] gu slices_S4x2x1024x5632_S1x1x1024x5632_0_0_0_0) shapeCasts_S1x1x1024x5632_S1024x5632)

/-- The hidden rows, of the two projections. -/
def refH (p : FVec Ideal S16384x5632 .f32) : FVec Ideal S16384x2816 .f32 :=
  mulf (mulf (extractStridedSlice S16384x2816 ![0, 0] p slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] p slices_S16384x5632_S16384x2816_0_0)))))) (extractStridedSlice S16384x2816 ![0, 2816] p slices_S16384x5632_S16384x2816_0_2816)

/-- The residual sum. -/
def refZ (x : FVec Ideal S16384x1024 .f32) (h : FVec Ideal S16384x2816 .f32) (dn : FVec Ideal S4x2x2816x1024 .f32) : FVec Ideal S16384x1024 .f32 :=
  addf (mulf (broadcastInDim S16384x1024 ![] bcast_S_S16384x1024 (constant S_ .f32 0x3FD744FD#32)) x) (mulf (broadcastInDim S16384x1024 ![] bcast_S_S16384x1024 (constant S_ .f32 0x3F000000#32)) (Host.dotGeneral dot_S16384x2816_S2816x1024_S16384x1024_1_0_0_1_n_n none h (shapeCast _ (extractStridedSlice S1x1x2816x1024 ![0, 0, 0, 0] dn slices_S4x2x2816x1024_S1x1x2816x1024_0_0_0_0) shapeCasts_S1x1x2816x1024_S2816x1024)))

/-- The rows' means, one column. -/
def refMean (z : FVec Ideal S16384x1024 .f32) : FVec Ideal S16384x1 .f32 :=
  Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))

/-- The rows less their means. -/
def refDev (z : FVec Ideal S16384x1024 .f32) : FVec Ideal S16384x1024 .f32 :=
  subf z (broadcastInDim S16384x1024 ![0, 1] bcast_S16384x1_S16384x1024_0_1 (refMean z))

/-- The layer norm. -/
def refLN (z : FVec Ideal S16384x1024 .f32) (g b : FVec Ideal S1024 .f32) : FVec Ideal S16384x1024 .f32 :=
  addf (mulf (mulf (refDev z) (broadcastInDim S16384x1024 ![0, 1] bcast_S16384x1_S16384x1024_0_1 (Host.rsqrt (addf (refMean (mulf (refDev z) (refDev z))) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-- The reference as one composition. -/
def refOut (x : FVec Ideal S16384x1024 .f32) (gu : FVec Ideal S4x2x1024x5632 .f32) (dn : FVec Ideal S4x2x2816x1024 .f32) (g b : FVec Ideal S1024 .f32) : FVec Ideal S16384x1024 .f32 :=
  refLN (refZ x (refH (refGU x gu)) dn) g b

theorem res_eq (m : (ℓ : Loc nD τ sig) → Buf (Elt Ideal) ℓ) (c : Dev nD) :
    Cert.FfnRefIdeal.Value.res_main_v38 (F := Ideal) m c = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.FfnRefIdeal.Value.res_main_v38
  rfl

theorem refGU_at (x : FVec Ideal S16384x1024 .f32) (gu : FVec Ideal S4x2x1024x5632 .f32) (R : Fin 16384) (j : Fin 5632) :
    refGU x gu (ix2 R j) = ∑ i : Fin 1024, x (ix2 R i) * gu (ix4 0 0 i j) := by
  pointwise [refGU]

theorem refH_at (p : FVec Ideal S16384x5632 .f32) (R : Fin 16384) (j : Fin 2816) :
    refH p (ix2 R j) = Cert.FfnMath.silu (p (ix2 R ⟨j.val, by omega⟩)) * p (ix2 R ⟨2816 + j.val, by omega⟩) := by
  pointwise [refH]
  rfl

theorem refZ_at (x : FVec Ideal S16384x1024 .f32) (h : FVec Ideal S16384x2816 .f32) (dn : FVec Ideal S4x2x2816x1024 .f32) (R : Fin 16384) (q : Fin 1024) :
    refZ x h dn (ix2 R q) = Ideal.ofBits FTy.f32 1071072509#32 * x (ix2 R q) + Ideal.ofBits FTy.f32 1056964608#32 * ∑ j : Fin 2816, h (ix2 R j) * dn (ix4 0 0 j q) := by
  pointwise [refZ]

theorem refLN_at (z : FVec Ideal S16384x1024 .f32) (g b : FVec Ideal S1024 .f32) (R : Fin 16384) (k : Fin 1024) :
    refLN z g b (ix2 R k) = Cert.PoolIdeal.Hand.lnRow (fun q => z (ix2 R q)) (g (ix1 k)) (b (ix1 k)) k := by
  pointwise [refLN, refDev, refMean]
  rfl

theorem refOut_at (x : FVec Ideal S16384x1024 .f32) (gu : FVec Ideal S4x2x1024x5632 .f32) (dn : FVec Ideal S4x2x2816x1024 .f32) (g b : FVec Ideal S1024 .f32) (R : Fin 16384) (k : Fin 1024) :
    refOut x gu dn g b (ix2 R k)
      = Cert.FfnMath.out (fun q => x (ix2 R q)) (fun i j => gu (ix4 0 0 i j)) (fun i j => dn (ix4 0 0 i j)) (fun q => g (ix1 q)) (fun q => b (ix1 q)) k := by
  unfold refOut Cert.FfnMath.out
  rw [refLN_at]
  refine congrArg (fun z => Cert.PoolIdeal.Hand.lnRow z (g (ix1 k)) (b (ix1 k)) k) (funext fun q => ?_)
  rw [refZ_at]
  unfold Cert.FfnMath.res
  refine congrArg (fun s => Ideal.ofBits FTy.f32 1071072509#32 * x (ix2 R q) + Ideal.ofBits FTy.f32 1056964608#32 * s) (Finset.sum_congr rfl fun j _ => ?_)
  rw [refH_at, refGU_at, refGU_at]
  rfl

end Cert.FfnRefIdeal.Hand
-- ==== Proof.FfnPreIdealKit.lean ====
/- Vocabulary of the feed-forward kernel's run: the memrefs its body is called with, its own copy cells, and the
   region's invariant opened conjunct by conjunct. -/
module

public import proofs.«01_k».proof.Proof.Gen.FfnPreIdeal.Launch
public import proofs.«01_k».proof.Proof.Gen.FfnPreIdeal.Skeleton
public import proofs.«01_k».proof.Proof.Gen.FfnPreIdeal.Points
public import proofs.«01_k».proof.Proof.Gen.FfnPreIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnPreIdeal.Hand

open Cert.FfnPreIdeal Cert.FfnPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The staged windows' current memrefs at point `t`, each whole. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .f32 := win0_7.stage (cfg0.slots t 7)
abbrev hs0_7 (t : Fin cfg0.N) : (ms0_7 t).IsWhole := hstage0_7 ((cfg0.slots t 7).cast nbuf0_7)
/-- The kernel's own buffers: the row tile as bf16, the hidden tile, the two weights as bf16, the two staging rings. -/
abbrev sc0 : Memref sig .tc .vmem S2x256x1024 .bf16 := Memref.whole cc0_scratch0
abbrev sc1 : Memref sig .tc .vmem S2x256x2816 .bf16 := Memref.whole cc0_scratch1
abbrev sc2 : Memref sig .tc .vmem S1024x5632 .bf16 := Memref.whole cc0_scratch2
abbrev sc3 : Memref sig .tc .vmem S2816x1024 .bf16 := Memref.whole cc0_scratch3
abbrev sc4 : Memref sig .tc .vmem S4x1024x256 .f32 := Memref.whole cc0_scratch4
abbrev sc5 : Memref sig .tc .vmem S4x128x1024 .f32 := Memref.whole cc0_scratch5
/-- The two stacks of weights, left in HBM and copied chunk by chunk. -/
abbrev hb0 : Memref sig .tc .hbm S4x2x1024x5632 .f32 := Memref.whole main_arg5
abbrev hb1 : Memref sig .tc .hbm S4x2x2816x1024 .f32 := Memref.whole main_arg6
/-- A memref's buffer on core `c`, and the whole of it held. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

end Cert.FfnPreIdeal.Hand

end
-- ==== Proof.FfnPreIdealSplit.lean ====
/- The kernel's body in two halves: the copies that fill the two weight buffers at the first grid point, and the
   feed-forward block itself, which every point runs. -/
module

public import proofs.«01_k».proof.Proof.FfnPreIdealKit

@[expose] public section

set_option maxRecDepth 16384

noncomputable section

namespace Cert.FfnPreIdeal.Hand

open Cert.FfnPreIdeal Cert.FfnPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the first grid point runs before the block: the two weights copied through their staging rings, rounded to bf16. -/
def stageProg (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .hbm S4x2x1024x5632 .f32) (harg6 : arg6.IsWhole) (arg7 : Memref sig .tc .hbm S4x2x2816x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2x256x1024 .bf16) (harg11 : arg11.IsWhole) (arg12 : Memref sig .tc .vmem S2x256x2816 .bf16) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S4x1024x256 .f32) (harg15 : arg15.IsWhole) (arg16 : Memref sig .tc .vmem S4x128x1024 .f32) (harg16 : arg16.IsWhole) (arg17 : DmaSems sig S4) (arg18 : DmaSems sig S4) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v1228 : FVec F S1024x256 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1228
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v1328 : FVec F S1024x256 .bf16 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1328
  k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v1428 : FVec F S1024x256 .bf16 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1428
  k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v1528 : FVec F S1024x256 .bf16 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v1554 : FVec F S1024x256 .bf16 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1528
  k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1554
  k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v1628 : FVec F S128x1024 .bf16 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1628
  k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v1728 : FVec F S128x1024 .bf16 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1728
  k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v1828 : FVec F S128x1024 .bf16 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1828
  k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v1928 : FVec F S128x1024 .bf16 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1928
  k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v2005 : Vec F S1x128x1024 .f32 ← Prog.lift (.load arg16 (Rect.unit (s := S4x128x1024) ![1, 0, 0] S1x128x1024.size inb_S4x128x1024_S1x128x1024_1_0_0).toLoadRect (View.loadsAt_vmem h_S1x128x1024))
  let v2008 : Vec F S128x1024 .bf16 ← Prog.lift (.load arg14 (Rect.unit (s := S2816x1024) ![2688, 0] S128x1024.size inb_S2816x1024_S128x1024_2688_0).toLoadRect (View.loadsAt_vmem h_S128x1024))
  Prog.lift (.store arg14 (Rect.unit (s := S2816x1024) ![2688, 0] S128x1024.size inb_S2816x1024_S128x1024_2688_0) (k0_pay54 v2005) Finset.univ (View.stores_vmem h_S128x1024 (harg14.storeExact_slice rfl _ packedbf16_S2816x1024_S128x1024_2688_0) (fun _ => rfl)) (.inl rfl))
  pure ⟨⟩

/-- The first stretch of the block. -/
def compHead (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .hbm S4x2x1024x5632 .f32) (harg6 : arg6.IsWhole) (arg7 : Memref sig .tc .hbm S4x2x2816x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2x256x1024 .bf16) (harg11 : arg11.IsWhole) (arg12 : Memref sig .tc .vmem S2x256x2816 .bf16) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S4x1024x256 .f32) (harg15 : arg15.IsWhole) (arg16 : Memref sig .tc .vmem S4x128x1024 .f32) (harg16 : arg16.IsWhole) (arg17 : DmaSems sig S4) (arg18 : DmaSems sig S4) :
    Prog (TpuEff nD τ sig (Elt F) Λ₀ .tc) (PUnit) := do
  let v3 : Vec F S256x1024 .f32 ← Prog.lift (.load arg1 (Rect.unit (s := S1024x1024) ![0, 0] S256x1024.size inb_S1024x1024_S256x1024_0_0).toLoadRect (View.loadsAt_vmem h_S256x1024))
  let v6 : Vec F S256x1024 .bf16 ← Prog.lift (.load arg2 (Rect.unit (s := S1024x1024) ![0, 0] S256x1024.size inb_S1024x1024_S256x1024_0_0).toLoadRect (View.loadsAt_vmem h_S256x1024))
  let v7 : Vec F S1024x1024 .bf16 ← Prog.lift (.load arg3 (Rect.unit (s := S1024x1024) ![0, 0] S1024x1024.size inb_S1024x1024_S1024x1024_0_0).toLoadRect (View.loadsAt_vmem h_S1024x1024))
  let v11 : Vec F S1x1024 .f32 ← Prog.lift (.load arg4 (Rect.unit (s := S1x1024) ![0, 0] S1x1024.size inb_S1x1024_S1x1024_0_0).toLoadRect (View.loadsAt_vmem h_S1x1024))
  let v13 : Vec F S1x1024 .f32 ← Prog.lift (.load arg5 (Rect.unit (s := S1x1024) ![0, 0] S1x1024.size inb_S1x1024_S1x1024_0_0).toLoadRect (View.loadsAt_vmem h_S1x1024))
  let v35 : Vec F S256x1024 .f32 ← Prog.lift (.load arg10 (Rect.unit (s := S1024x1024) ![0, 0] S256x1024.size inb_S1024x1024_S256x1024_0_0).toLoadRect (View.loadsAt_vmem h_S256x1024))
  Prog.lift (.store arg10 (Rect.unit (s := S1024x1024) ![0, 0] S256x1024.size inb_S1024x1024_S256x1024_0_0) (k0_pay55 v3 v6 v7 v11 v13) Finset.univ (View.stores_vmem_bits_univ h_S256x1024 rfl) (.inl rfl))
  pure ⟨⟩

/-- The block up to its last row tile's normalisation. -/
def compMid (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .hbm S4x2x1024x5632 .f32) (harg6 : arg6.IsWhole) (arg7 : Memref sig .tc .hbm S4x2x2816x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2x256x1024 .bf16) (harg11 : arg11.IsWhole) (arg12 : Memref sig .tc .vmem S2x256x2816 .bf16) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S4x1024x256 .f32) (harg15 : arg15.IsWhole) (arg16 : Memref sig .tc .vmem S4x128x1024 .f32) (harg16 : arg16.IsWhole) (arg17 : DmaSems sig S4) (arg18 : DmaSems sig S4) :
    Prog (TpuEff nD τ sig (Elt F) Λ₀ .tc) (Σ' (v1107 : FVec F S1x1024 .f32) (v1109 : FVec F S1x1024 .f32) (v1115 : FVec F S256x1024 .f32) (v1118 : FVec F S256x1 .f32), F .f32) := do
  compHead i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v71 : FVec F S256x1024 .f32 ← k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let ⟨v104, v105, v107, cst_60⟩ : Σ' (v104 : FVec F S256x1024 .f32) (v105 : Vec F S256x1024 .bf16) (v107 : FVec F S1024x1024 .bf16), FVec F S256x1024 .f32 ← k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v71
  let ⟨v136, v142, v143, cst_82⟩ : Σ' (v136 : FVec F S256x1024 .f32) (v142 : FVec F S256x1024 .bf16) (v143 : Vec F S1024x256 .bf16), FVec F S256x256 .f32 ← k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v104 v105 v107 cst_60
  let v178 : FVec F S1x256x256 .bf16 ← k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v142 v143 cst_82
  let ⟨v201, v203, v208, v209⟩ : Σ' (v201 : FVec F S256x256 .f32) (v203 : FVec F S256x256 .f32) (v208 : FVec F S256x256 .f32), FVec F S256x256 .f32 ← k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v178
  let ⟨v237, v239, v240, cst_152⟩ : Σ' (v237 : FVec F S256x1024 .bf16) (v239 : FVec F S256x256 .f32) (v240 : Vec F S1024x256 .bf16), FVec F S256x256 .f32 ← k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v201 v203 v208 v209
  let v274 : Vec F S1x256x1024 .bf16 ← k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v237 v239 v240 cst_152
  let v308 : FVec F S256x256 .bf16 ← k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v274
  let ⟨v334, v336, v339⟩ : Σ' (v334 : FVec F S256x256 .f32) (v336 : FVec F S256x256 .f32), FVec F S256x256 .f32 ← k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v308
  let ⟨v360, v362, v368, v376⟩ : Σ' (v360 : FVec F S1x1024 .f32) (v362 : FVec F S1x1024 .f32) (v368 : FVec F S256x1024 .f32), FVec F S256x1 .f32 ← k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v136 v334 v336 v339
  let v385 : FVec F S256x1024 .f32 ← k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v360 v362 v368 v376
  let v443 : FVec F S256x256 .bf16 ← k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let ⟨v469, v471, v473⟩ : Σ' (v469 : FVec F S256x256 .f32) (v471 : FVec F S256x256 .f32), FVec F S256x256 .f32 ← k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v443
  let ⟨v505, v506⟩ : Σ' (v505 : FVec F S256x1024 .bf16), Vec F S1024x256 .bf16 ← k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v469 v471 v473
  let v538 : FVec F S256x256 .bf16 ← k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v505 v506
  let ⟨v564, v566, v571, cst_393⟩ : Σ' (v564 : FVec F S256x256 .f32) (v566 : FVec F S256x256 .f32) (v571 : FVec F S256x256 .f32), F .f32 ← k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v538
  let ⟨v602, v604⟩ : Σ' (v602 : FVec F S256x1024 .f32), FVec F S256x1024 .f32 ← k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v385 v564 v566 v571 cst_393
  let ⟨v634, v640⟩ : Σ' (v634 : FVec F S256x1024 .f32), FVec F S256x1024 .bf16 ← k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v602 v604
  let ⟨v673, v674⟩ : Σ' (v673 : FVec F S256x256 .bf16), Vec F S1x256x256 .bf16 ← k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v640
  let ⟨v699, v701, v706⟩ : Σ' (v699 : FVec F S256x256 .f32) (v701 : FVec F S256x256 .f32), FVec F S256x256 .f32 ← k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v673 v674
  let ⟨v735, v737⟩ : Σ' (v735 : FVec F S256x1024 .bf16), FVec F S256x256 .f32 ← k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v699 v701 v706
  k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v735 v737
  let v805 : FVec F S256x256 .f32 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let ⟨v832, v834, v835⟩ : Σ' (v832 : FVec F S256x256 .f32) (v834 : FVec F S256x256 .f32), FVec F S256x256 .f32 ← k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v805
  let ⟨v858, v860, v866, v871, v872⟩ : Σ' (v858 : FVec F S1x1024 .f32) (v860 : FVec F S1x1024 .f32) (v866 : FVec F S256x1024 .f32) (v871 : FVec F S256x1 .f32), FVec F S256x1 .f32 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v634 v832 v834 v835
  let v883 : FVec F S256x1024 .f32 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v858 v860 v866 v871 v872
  let ⟨v931, v939⟩ : Σ' (v931 : FVec F S256x256 .f32), FVec F S256x256 .f32 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let ⟨v967, v969, cst_694⟩ : Σ' (v967 : FVec F S256x256 .f32) (v969 : FVec F S256x256 .f32), F .f32 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v931 v939
  let v1003 : FVec F S256x1024 .bf16 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v967 v969 cst_694
  let v1036 : FVec F S256x256 .bf16 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1003
  let ⟨v1062, v1064, v1067, v1068⟩ : Σ' (v1062 : FVec F S256x256 .f32) (v1064 : FVec F S256x256 .f32) (v1067 : FVec F S256x256 .f32), FVec F S256x256 .f32 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1036
  let ⟨v1100, cst_796⟩ : Σ' (v1100 : FVec F S256x1024 .f32), F .f32 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v1062 v1064 v1067 v1068
  let v1106 : Vec F S1x1024 .f32 ← Prog.lift (.load arg8 (Rect.unit (s := S1x1024) ![0, 0] S1x1024.size inb_S1x1024_S1x1024_0_0).toLoadRect (View.loadsAt_vmem h_S1x1024))
  let v1108 : Vec F S1x1024 .f32 ← Prog.lift (.load arg9 (Rect.unit (s := S1x1024) ![0, 0] S1x1024.size inb_S1x1024_S1x1024_0_0).toLoadRect (View.loadsAt_vmem h_S1x1024))
  have cst_805 : F .f32 := Scalar.ofBits .f32 0x44800000#32
  pure ⟨k0_pay179 v1106, k0_pay180 v1108, k0_pay181 v883 v1100 cst_796, k0_pay182 v883 v1100 cst_796, cst_805⟩

/-- The block on one row tile: four sub-tiles, each through the two products and the normalisation. -/
def compProg (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .hbm S4x2x1024x5632 .f32) (harg6 : arg6.IsWhole) (arg7 : Memref sig .tc .hbm S4x2x2816x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2x256x1024 .bf16) (harg11 : arg11.IsWhole) (arg12 : Memref sig .tc .vmem S2x256x2816 .bf16) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S4x1024x256 .f32) (harg15 : arg15.IsWhole) (arg16 : Memref sig .tc .vmem S4x128x1024 .f32) (harg16 : arg16.IsWhole) (arg17 : DmaSems sig S4) (arg18 : DmaSems sig S4) :
    Prog (TpuEff nD τ sig (Elt F) Λ₀ .tc) PUnit := do
  let ⟨v1107, v1109, v1115, v1118, cst_805⟩ : Σ' (v1107 : FVec F S1x1024 .f32) (v1109 : FVec F S1x1024 .f32) (v1115 : FVec F S256x1024 .f32) (v1118 : FVec F S256x1 .f32), F .f32 ← compMid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18
  let v1130 : Vec F S256x1024 .f32 ← Prog.lift (.load arg10 (Rect.unit (s := S1024x1024) ![768, 0] S256x1024.size inb_S1024x1024_S256x1024_768_0).toLoadRect (View.loadsAt_vmem h_S256x1024))
  Prog.lift (.store arg10 (Rect.unit (s := S1024x1024) ![768, 0] S256x1024.size inb_S1024x1024_S256x1024_768_0) (k0_pay1 v1107 v1109 v1115 v1118 cst_805) Finset.univ (View.stores_vmem_bits_univ h_S256x1024 rfl) (.inl rfl))
  pure ⟨⟩

/-- The branch condition of the body: this is the first grid point. -/
abbrev isFirst (i : grid0.Coords) : Prop := (Scalar.cmpi .ne (Scalar.extui (Scalar.cmpi .eq (BitVec.ofNat 32 (i 0).val) 0#32)) 0#32) = 1#1

theorem isFirst_iff : ∀ t : Fin cfg0.N, isFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val = 0 ↔ t.val % 16 = 0 := by omega
    rw [e1]
    simp only [isFirst, e0]
    word_cmp
   : ∀ t : Fin grid0.N, isFirst (grid0.coords t) ↔ t.val = 0)

/-- At the first point the body is the copies and then the block; -/
theorem body_first (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .hbm S4x2x1024x5632 .f32) (harg6 : arg6.IsWhole) (arg7 : Memref sig .tc .hbm S4x2x2816x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2x256x1024 .bf16) (harg11 : arg11.IsWhole) (arg12 : Memref sig .tc .vmem S2x256x2816 .bf16) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S4x1024x256 .f32) (harg15 : arg15.IsWhole) (arg16 : Memref sig .tc .vmem S4x128x1024 .f32) (harg16 : arg16.IsWhole) (arg17 : DmaSems sig S4) (arg18 : DmaSems sig S4) (h : isFirst i) :
    cc0_ffn_pre (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 = (stageProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 >>= fun _ => compProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) := by
  rw [cc0_ffn_pre_eq_skeleton]; unfold cc0_ffn_pre_skel
  rw [k0_part69_eq_skeleton]; unfold k0_part69_skel
  rw [k0_part36_eq_skeleton]; unfold k0_part36_skel
  rw [dif_pos h]
  unfold compProg compMid compHead stageProg
  simp only [Prog.bind_assoc]
  rfl

/-- at every other point it is the block alone. -/
theorem body_rest (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .hbm S4x2x1024x5632 .f32) (harg6 : arg6.IsWhole) (arg7 : Memref sig .tc .hbm S4x2x2816x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2x256x1024 .bf16) (harg11 : arg11.IsWhole) (arg12 : Memref sig .tc .vmem S2x256x2816 .bf16) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S4x1024x256 .f32) (harg15 : arg15.IsWhole) (arg16 : Memref sig .tc .vmem S4x128x1024 .f32) (harg16 : arg16.IsWhole) (arg17 : DmaSems sig S4) (arg18 : DmaSems sig S4) (h : ¬ isFirst i) :
    cc0_ffn_pre (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 = compProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 := by
  rw [cc0_ffn_pre_eq_skeleton]; unfold cc0_ffn_pre_skel
  rw [k0_part69_eq_skeleton]; unfold k0_part69_skel
  rw [k0_part36_eq_skeleton]; unfold k0_part36_skel
  rw [dif_neg h]
  rfl

end Cert.FfnPreIdeal.Hand

end
-- ==== Proof.FfnPreIdealChunk.lean ====
/- The copies at the first grid point: whatever the staging rings held, the weight buffers end at the two weights of the
   layer, rounded to bf16. -/
module

public import proofs.«01_k».proof.Proof.FfnPreIdealSplit
public import Idealize.ShloMosaic.Lib.ViewIndex
public import Idealize.ShloMosaic.Lib.Writes
public import Idealize.ShloMosaic.Lib.Pipeline.Value

@[expose] public section

set_option maxRecDepth 16384

noncomputable section

namespace Cert.FfnPreIdeal.Hand

open Cert.FfnPreIdeal Cert.FfnPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The layer's gate and up projections, as the copies find them in HBM. -/
def guRaw (c : Dev nD) (fh0 : HbBuf (F := F) c hb0) : Vec F S1024x5632 .f32 :=
  View.read (Elt F) ((hb0.slice (Rect.unit (s := S4x2x1024x5632) ![0, 1, 0, 0] S1x1x1024x5632.size inb_S4x2x1024x5632_S1x1x1024x5632_0_1_0_0) (fun _ => rfl)).squeeze S1024x5632 squeezes_S1x1x1024x5632_S1024x5632).view fh0

/-- The layer's down projection, as the copies find it in HBM. -/
def dnRaw (c : Dev nD) (fh1 : HbBuf (F := F) c hb1) : Vec F S2816x1024 .f32 :=
  View.read (Elt F) ((hb1.slice (Rect.unit (s := S4x2x2816x1024) ![0, 1, 0, 0] S1x1x2816x1024.size inb_S4x2x2816x1024_S1x1x2816x1024_0_1_0_0) (fun _ => rfl)).squeeze S2816x1024 squeezes_S1x1x2816x1024_S2816x1024).view fh1

/-- The two weights as the block reads them, rounded to bf16. -/
def guW (c : Dev nD) (fh0 : HbBuf (F := F) c hb0) : Vec F S1024x5632 .bf16 := truncf .bf16 (guRaw c fh0 : FVec F S1024x5632 .f32) bitsLt_bf16_f32
def dnW (c : Dev nD) (fh1 : HbBuf (F := F) c hb1) : Vec F S2816x1024 .bf16 := truncf .bf16 (dnRaw c fh1 : FVec F S2816x1024 .f32) bitsLt_bf16_f32

/-- A slot of the gu ring read after a copy into another slot landed: as before that copy. -/
theorem guSlot_skip (M : Memref sig .tc .vmem S4x1024x256 .f32) (k k' : ℕ) (h : k ≠ k') (inb : ∀ a, (![k, 0, 0] : Fin 3 → ℕ) a + S1x1024x256.size a ≤ S4x1024x256.size a)
    (inb' : ∀ a, (![k', 0, 0] : Fin 3 → ℕ) a + S1x1024x256.size a ≤ S4x1024x256.size a) (hp) (hs : S1x1024x256.Squeezes S1024x256) (f : M.view.ty.Contents (Elt F)) (w : S1024x256.Idx → Elt F .f32) :
    View.readAt (Elt F) M.view (Rect.unit (s := S4x1024x256) ![k, 0, 0] S1x1024x256.size inb).toLoadRect
        (View.write (Elt F) ((M.slice (Rect.unit (s := S4x1024x256) ![k', 0, 0] S1x1024x256.size inb') hp).squeeze S1024x256 hs).view f w Finset.univ)
      = View.readAt (Elt F) M.view (Rect.unit (s := S4x1024x256) ![k, 0, 0] S1x1024x256.size inb).toLoadRect f := by
  show View.read (Elt F) (M.view.slice (Rect.unit (s := S4x1024x256) ![k, 0, 0] S1x1024x256.size inb))
    (View.write (Elt F) ((M.view.slice (Rect.unit (s := S4x1024x256) ![k', 0, 0] S1x1024x256.size inb')).reshape S1024x256 (Shape.Squeezes.numel_eq hs)) f w Finset.univ) = _
  rw [View.write_reshape_univ, View.read_slice_write_slice_of_disjoint]
  · rfl
  · rw [View.setOn_univ, View.set_slice, View.set_slice]
    exact (Finset.disjoint_map _).mpr (Rect.unit_disjoint (s := S4x1024x256) (off := ![k, 0, 0]) (off' := ![k', 0, 0]) (size := S1x1024x256.size) (size' := S1x1024x256.size) 0 (by
      show k + 1 ≤ k' ∨ k' + 1 ≤ k
      omega))

/-- The slot a copy landed in reads that copy's payload. -/
theorem guSlot_read (M : Memref sig .tc .vmem S4x1024x256 .f32) (k : ℕ) (inb : ∀ a, (![k, 0, 0] : Fin 3 → ℕ) a + S1x1024x256.size a ≤ S4x1024x256.size a)
    (inb' : ∀ a, (![k, 0, 0] : Fin 3 → ℕ) a + S1x1024x256.size a ≤ S4x1024x256.size a) (hp) (hs : S1x1024x256.Squeezes S1024x256) (f : M.view.ty.Contents (Elt F)) (w : S1024x256.Idx → Elt F .f32) :
    View.readAt (Elt F) M.view (Rect.unit (s := S4x1024x256) ![k, 0, 0] S1x1024x256.size inb).toLoadRect
        (View.write (Elt F) ((M.slice (Rect.unit (s := S4x1024x256) ![k, 0, 0] S1x1024x256.size inb') hp).squeeze S1024x256 hs).view f w Finset.univ)
      = fun y => w ((Shape.reshapeEquiv (Shape.Squeezes.numel_eq hs)).symm y) := by
  show View.read (Elt F) (M.view.slice (Rect.unit (s := S4x1024x256) ![k, 0, 0] S1x1024x256.size inb))
    (View.write (Elt F) ((M.view.slice (Rect.unit (s := S4x1024x256) ![k, 0, 0] S1x1024x256.size inb)).reshape S1024x256 (Shape.Squeezes.numel_eq hs)) f w Finset.univ) = _
  rw [View.write_reshape_univ, View.read_write_univ]
  rfl

/-- The two again, with the slot spelled by its sizes. -/
theorem guSlot_skip' (M : Memref sig .tc .vmem S4x1024x256 .f32) (k k' : ℕ) (h : k ≠ k') (inb : ∀ a, (![k, 0, 0] : Fin 3 → ℕ) a + (![1, 1024, 256] : Fin 3 → ℕ) a ≤ S4x1024x256.size a)
    (inb' : ∀ a, (![k', 0, 0] : Fin 3 → ℕ) a + (![1, 1024, 256] : Fin 3 → ℕ) a ≤ S4x1024x256.size a) (hn) (f : M.view.ty.Contents (Elt F)) (w : S1024x256.Idx → Elt F .f32) :
    View.readAt (Elt F) M.view (Rect.unit (s := S4x1024x256) ![k, 0, 0] ![1, 1024, 256] inb).toLoadRect
        (View.write (Elt F) ((M.view.slice (Rect.unit (s := S4x1024x256) ![k', 0, 0] ![1, 1024, 256] inb')).reshape S1024x256 hn) f w Finset.univ)
      = View.readAt (Elt F) M.view (Rect.unit (s := S4x1024x256) ![k, 0, 0] ![1, 1024, 256] inb).toLoadRect f :=
  guSlot_skip M k k' h inb inb' (fun _ => rfl) squeezes_S1x1024x256_S1024x256 f w
theorem guSlot_read' (M : Memref sig .tc .vmem S4x1024x256 .f32) (k : ℕ) (inb : ∀ a, (![k, 0, 0] : Fin 3 → ℕ) a + (![1, 1024, 256] : Fin 3 → ℕ) a ≤ S4x1024x256.size a)
    (inb' : ∀ a, (![k, 0, 0] : Fin 3 → ℕ) a + (![1, 1024, 256] : Fin 3 → ℕ) a ≤ S4x1024x256.size a) (hn) (f : M.view.ty.Contents (Elt F)) (w : S1024x256.Idx → Elt F .f32) :
    View.readAt (Elt F) M.view (Rect.unit (s := S4x1024x256) ![k, 0, 0] ![1, 1024, 256] inb).toLoadRect
        (View.write (Elt F) ((M.view.slice (Rect.unit (s := S4x1024x256) ![k, 0, 0] ![1, 1024, 256] inb')).reshape S1024x256 hn) f w Finset.univ)
      = fun y => w ((Shape.reshapeEquiv (Shape.Squeezes.numel_eq squeezes_S1x1024x256_S1024x256)).symm y) :=
  guSlot_read M k inb inb' (fun _ => rfl) squeezes_S1x1024x256_S1024x256 f w

/-- What is stored of a loaded slot. -/
def guPay (v : Vec F S1x1024x256 .f32) : FVec F S1024x256 .bf16 :=
  shapeCast S1024x256 (truncf .bf16 (shapeCast S1024x256 v shapeCasts_S1x1024x256_S1024x256 : FVec F S1024x256 .f32) bitsLt_bf16_f32) shapeCasts_S1024x256_S1024x256

/-- A chunk stored of the slot that holds it is the rounded weight at the chunk's rectangle. -/
theorem guPiece (c : Dev nD) (fh : HbBuf (F := F) c hb0) (a b : ℕ) (inb : ∀ k, (![a, b] : Fin 2 → ℕ) k + S1024x256.size k ≤ S1024x5632.size k) (v : Vec F S1x1024x256 .f32)
    (hv : ∀ y : S1x1024x256.Idx, v y = guRaw c fh ((Rect.unit (s := S1024x5632) ![a, b] S1024x256.size inb).emb ((Shape.reshapeEquiv (Shape.Squeezes.numel_eq squeezes_S1x1024x256_S1024x256)).symm y))) (x : S1024x256.Idx) :
    guPay v x = guW c fh ((Rect.unit (s := S1024x5632) ![a, b] S1024x256.size inb).emb x) := by
  unfold guPay guW
  rw [shapeCast_self]
  show FloatOps.truncf .bf16 bitsLt_bf16_f32 (v (Shape.reshapeEquiv shapeCasts_S1x1024x256_S1024x256 x)) = FloatOps.truncf .bf16 bitsLt_bf16_f32 (guRaw c fh _)
  rw [hv]
  exact congrArg (fun z => FloatOps.truncf .bf16 bitsLt_bf16_f32 (guRaw c fh ((Rect.unit (s := S1024x5632) ![a, b] S1024x256.size inb).emb z))) (Equiv.symm_apply_apply _ _)

/-- A slot of the dn ring read after a copy into another slot landed: as before that copy. -/
theorem dnSlot_skip (M : Memref sig .tc .vmem S4x128x1024 .f32) (k k' : ℕ) (h : k ≠ k') (inb : ∀ a, (![k, 0, 0] : Fin 3 → ℕ) a + S1x128x1024.size a ≤ S4x128x1024.size a)
    (inb' : ∀ a, (![k', 0, 0] : Fin 3 → ℕ) a + S1x128x1024.size a ≤ S4x128x1024.size a) (hp) (hs : S1x128x1024.Squeezes S128x1024) (f : M.view.ty.Contents (Elt F)) (w : S128x1024.Idx → Elt F .f32) :
    View.readAt (Elt F) M.view (Rect.unit (s := S4x128x1024) ![k, 0, 0] S1x128x1024.size inb).toLoadRect
        (View.write (Elt F) ((M.slice (Rect.unit (s := S4x128x1024) ![k', 0, 0] S1x128x1024.size inb') hp).squeeze S128x1024 hs).view f w Finset.univ)
      = View.readAt (Elt F) M.view (Rect.unit (s := S4x128x1024) ![k, 0, 0] S1x128x1024.size inb).toLoadRect f := by
  show View.read (Elt F) (M.view.slice (Rect.unit (s := S4x128x1024) ![k, 0, 0] S1x128x1024.size inb))
    (View.write (Elt F) ((M.view.slice (Rect.unit (s := S4x128x1024) ![k', 0, 0] S1x128x1024.size inb')).reshape S128x1024 (Shape.Squeezes.numel_eq hs)) f w Finset.univ) = _
  rw [View.write_reshape_univ, View.read_slice_write_slice_of_disjoint]
  · rfl
  · rw [View.setOn_univ, View.set_slice, View.set_slice]
    exact (Finset.disjoint_map _).mpr (Rect.unit_disjoint (s := S4x128x1024) (off := ![k, 0, 0]) (off' := ![k', 0, 0]) (size := S1x128x1024.size) (size' := S1x128x1024.size) 0 (by
      show k + 1 ≤ k' ∨ k' + 1 ≤ k
      omega))

/-- The slot a copy landed in reads that copy's payload. -/
theorem dnSlot_read (M : Memref sig .tc .vmem S4x128x1024 .f32) (k : ℕ) (inb : ∀ a, (![k, 0, 0] : Fin 3 → ℕ) a + S1x128x1024.size a ≤ S4x128x1024.size a)
    (inb' : ∀ a, (![k, 0, 0] : Fin 3 → ℕ) a + S1x128x1024.size a ≤ S4x128x1024.size a) (hp) (hs : S1x128x1024.Squeezes S128x1024) (f : M.view.ty.Contents (Elt F)) (w : S128x1024.Idx → Elt F .f32) :
    View.readAt (Elt F) M.view (Rect.unit (s := S4x128x1024) ![k, 0, 0] S1x128x1024.size inb).toLoadRect
        (View.write (Elt F) ((M.slice (Rect.unit (s := S4x128x1024) ![k, 0, 0] S1x128x1024.size inb') hp).squeeze S128x1024 hs).view f w Finset.univ)
      = fun y => w ((Shape.reshapeEquiv (Shape.Squeezes.numel_eq hs)).symm y) := by
  show View.read (Elt F) (M.view.slice (Rect.unit (s := S4x128x1024) ![k, 0, 0] S1x128x1024.size inb))
    (View.write (Elt F) ((M.view.slice (Rect.unit (s := S4x128x1024) ![k, 0, 0] S1x128x1024.size inb)).reshape S128x1024 (Shape.Squeezes.numel_eq hs)) f w Finset.univ) = _
  rw [View.write_reshape_univ, View.read_write_univ]
  rfl

/-- The two again, with the slot spelled by its sizes. -/
theorem dnSlot_skip' (M : Memref sig .tc .vmem S4x128x1024 .f32) (k k' : ℕ) (h : k ≠ k') (inb : ∀ a, (![k, 0, 0] : Fin 3 → ℕ) a + (![1, 128, 1024] : Fin 3 → ℕ) a ≤ S4x128x1024.size a)
    (inb' : ∀ a, (![k', 0, 0] : Fin 3 → ℕ) a + (![1, 128, 1024] : Fin 3 → ℕ) a ≤ S4x128x1024.size a) (hn) (f : M.view.ty.Contents (Elt F)) (w : S128x1024.Idx → Elt F .f32) :
    View.readAt (Elt F) M.view (Rect.unit (s := S4x128x1024) ![k, 0, 0] ![1, 128, 1024] inb).toLoadRect
        (View.write (Elt F) ((M.view.slice (Rect.unit (s := S4x128x1024) ![k', 0, 0] ![1, 128, 1024] inb')).reshape S128x1024 hn) f w Finset.univ)
      = View.readAt (Elt F) M.view (Rect.unit (s := S4x128x1024) ![k, 0, 0] ![1, 128, 1024] inb).toLoadRect f :=
  dnSlot_skip M k k' h inb inb' (fun _ => rfl) squeezes_S1x128x1024_S128x1024 f w
theorem dnSlot_read' (M : Memref sig .tc .vmem S4x128x1024 .f32) (k : ℕ) (inb : ∀ a, (![k, 0, 0] : Fin 3 → ℕ) a + (![1, 128, 1024] : Fin 3 → ℕ) a ≤ S4x128x1024.size a)
    (inb' : ∀ a, (![k, 0, 0] : Fin 3 → ℕ) a + (![1, 128, 1024] : Fin 3 → ℕ) a ≤ S4x128x1024.size a) (hn) (f : M.view.ty.Contents (Elt F)) (w : S128x1024.Idx → Elt F .f32) :
    View.readAt (Elt F) M.view (Rect.unit (s := S4x128x1024) ![k, 0, 0] ![1, 128, 1024] inb).toLoadRect
        (View.write (Elt F) ((M.view.slice (Rect.unit (s := S4x128x1024) ![k, 0, 0] ![1, 128, 1024] inb')).reshape S128x1024 hn) f w Finset.univ)
      = fun y => w ((Shape.reshapeEquiv (Shape.Squeezes.numel_eq squeezes_S1x128x1024_S128x1024)).symm y) :=
  dnSlot_read M k inb inb' (fun _ => rfl) squeezes_S1x128x1024_S128x1024 f w

/-- What is stored of a loaded slot. -/
def dnPay (v : Vec F S1x128x1024 .f32) : FVec F S128x1024 .bf16 :=
  shapeCast S128x1024 (truncf .bf16 (shapeCast S128x1024 v shapeCasts_S1x128x1024_S128x1024 : FVec F S128x1024 .f32) bitsLt_bf16_f32) shapeCasts_S128x1024_S128x1024

/-- A chunk stored of the slot that holds it is the rounded weight at the chunk's rectangle. -/
theorem dnPiece (c : Dev nD) (fh : HbBuf (F := F) c hb1) (a b : ℕ) (inb : ∀ k, (![a, b] : Fin 2 → ℕ) k + S128x1024.size k ≤ S2816x1024.size k) (v : Vec F S1x128x1024 .f32)
    (hv : ∀ y : S1x128x1024.Idx, v y = dnRaw c fh ((Rect.unit (s := S2816x1024) ![a, b] S128x1024.size inb).emb ((Shape.reshapeEquiv (Shape.Squeezes.numel_eq squeezes_S1x128x1024_S128x1024)).symm y))) (x : S128x1024.Idx) :
    dnPay v x = dnW c fh ((Rect.unit (s := S2816x1024) ![a, b] S128x1024.size inb).emb x) := by
  unfold dnPay dnW
  rw [shapeCast_self]
  show FloatOps.truncf .bf16 bitsLt_bf16_f32 (v (Shape.reshapeEquiv shapeCasts_S1x128x1024_S128x1024 x)) = FloatOps.truncf .bf16 bitsLt_bf16_f32 (dnRaw c fh _)
  rw [hv]
  exact congrArg (fun z => FloatOps.truncf .bf16 bitsLt_bf16_f32 (dnRaw c fh ((Rect.unit (s := S2816x1024) ![a, b] S128x1024.size inb).emb z))) (Equiv.symm_apply_apply _ _)

end Cert.FfnPreIdeal.Hand

end
-- ==== Proof.FfnPreIdealBlk.lean ====
/- The block at one grid point as values: its row tiles, the hidden tile of a row tile, and the rows it stores, each as the
   kernel's own operations make them. -/
module

public import proofs.«01_k».proof.Proof.FfnPreIdealChunk
public import Idealize.ShloMosaic.Lib.Pipeline.ValueKit
public import Idealize.ShloMosaic.Lib.Pointwise

@[expose] public section

set_option maxRecDepth 16384

noncomputable section

namespace Cert.FfnPreIdeal.Hand

open Cert.FfnPreIdeal Cert.FfnPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Row tile `s` of the block. -/
def rowsOf {e : EltTy} (fa : Vec F S1024x1024 e) (s : ℕ) : Vec F S256x1024 e := fun y => fa (ix2 (n0 := 1024) (n1 := 1024) ⟨(256 * s + (y 0).val) % 1024, Nat.mod_lt _ (by decide)⟩ (y 1))
/-- Column chunk `k` of the gate and up projections. -/
def colsOf (f9 : Vec F S1024x5632 .bf16) (k : ℕ) : Vec F S1024x256 .bf16 := fun y => f9 (ix2 (n0 := 1024) (n1 := 5632) (y 0) ⟨(256 * k + (y 1).val) % 5632, Nat.mod_lt _ (by decide)⟩)
/-- A row tile rounded to bf16, as it is kept. -/
def xbOf (fa : Vec F S1024x1024 .f32) (s : ℕ) : Vec F S1x256x1024 .bf16 := k0_pay63 (rowsOf fa s)
/-- The hidden tile of row tile `s`, column chunk by column chunk. -/
def hidOf (fa : Vec F S1024x1024 .f32) (f9 : Vec F S1024x5632 .bf16) (s : ℕ) (r : Fin 256) (j : Fin 2816) : Elt F .bf16 :=
  k0_pay66 (xbOf fa s) (colsOf f9 (j.val / 256)) (colsOf f9 (11 + j.val / 256)) (ix3 (n0 := 1) (n1 := 256) (n2 := 256) 0 r ⟨j.val % 256, Nat.mod_lt _ (by decide)⟩)
def hidVec (fa : Vec F S1024x1024 .f32) (f9 : Vec F S1024x5632 .bf16) (s : ℕ) : Vec F S1x256x2816 .bf16 := fun y => hidOf fa f9 s (y 1) (y 2)
/-- The rows stored of row tile `s`. -/
def outOf (fa : Vec F S1024x1024 .f32) (fg fb : Vec F S1x1024 .f32) (f9 : Vec F S1024x5632 .bf16) (f10 : Vec F S2816x1024 .bf16) (s : ℕ) : FVec F S256x1024 .f32 :=
  k0_pay119 (k0_pay117 (hidVec fa f9 s) f10) (k0_pay118 (k0_pay93 (rowsOf fa s))) fg fb
/-- The block stored at one grid point. -/
def blkOf (fa : Vec F S1024x1024 .f32) (fg fb : Vec F S1x1024 .f32) (f9 : Vec F S1024x5632 .bf16) (f10 : Vec F S2816x1024 .bf16) : Vec F S1024x1024 .f32 :=
  fun y => outOf fa fg fb f9 f10 ((y 0).val / 256) (ix2 (n0 := 256) (n1 := 1024) ⟨(y 0).val % 256, Nat.mod_lt _ (by decide)⟩ (y 1))

theorem rd_rows {e : EltTy} (M : Memref sig .tc .vmem S1024x1024 e) (hM : M.IsWhole) (fa : Vec F S1024x1024 e) (s o : ℕ) (ho : o = 256 * s) (hs : s < 4) (inb : ∀ a, (![o, 0] : Fin 2 → ℕ) a + S256x1024.size a ≤ S1024x1024.size a) :
    View.readAt (Elt F) M.view (Rect.unit (s := S1024x1024) ![o, 0] S256x1024.size inb).toLoadRect (hM.unread fa) = rowsOf fa s := by
  funext y
  refine (congrFun (hM.read_unread fa) _).trans (congrArg fa (funext fun a => ?_))
  have h0 : (y 0).val < 256 := (y 0).isLt
  match a with
  | ⟨0, _⟩ => exact Fin.ext (by show o + 1 * (y 0).val = (256 * s + (y 0).val) % 1024; omega)
  | ⟨1, _⟩ => exact Fin.ext (by show 0 + 1 * (y 1).val = (y 1).val; omega)

theorem rd_cols (M : Memref sig .tc .vmem S1024x5632 .bf16) (hM : M.IsWhole) (f9 : Vec F S1024x5632 .bf16) (k o : ℕ) (ho : o = 256 * k) (hk : k < 22) (inb : ∀ a, (![0, o] : Fin 2 → ℕ) a + S1024x256.size a ≤ S1024x5632.size a) :
    View.readAt (Elt F) M.view (Rect.unit (s := S1024x5632) ![0, o] S1024x256.size inb).toLoadRect (hM.unread f9) = colsOf f9 k := by
  funext y
  refine (congrFun (hM.read_unread f9) _).trans (congrArg f9 (funext fun a => ?_))
  have h0 : (y 1).val < 256 := (y 1).isLt
  match a with
  | ⟨0, _⟩ => exact Fin.ext (by show 0 + 1 * (y 0).val = (y 0).val; omega)
  | ⟨1, _⟩ => exact Fin.ext (by show o + 1 * (y 1).val = (256 * k + (y 1).val) % 5632; omega)

/-- A whole buffer read in one piece. -/
theorem rd_whole {S : Shape} {e : EltTy} (M : Memref sig .tc .vmem S e) (hM : M.IsWhole) (f : Vec F S e) (o : Fin S.rank → ℕ) (ho : ∀ a, o a = 0) (inb : ∀ a, o a + S.size a ≤ S.size a) :
    View.readAt (Elt F) M.view (Rect.unit (s := S) o S.size inb).toLoadRect (hM.unread f) = f := by
  funext y
  refine (congrFun (hM.read_unread f) _).trans (congrArg f (funext fun a => ?_))
  exact Fin.ext (by show o a + 1 * (y a).val = (y a).val; rw [ho a]; omega)

/-- A chunk of the hidden tile as it is stored. -/
theorem hidPiece (M : Memref sig .tc .vmem S1024x5632 .bf16) (hM : M.IsWhole) (fa : Vec F S1024x1024 .f32) (f9 : Vec F S1024x5632 .bf16) (s k o1 o2 sl : ℕ) (h1 : o1 = 256 * k) (h2 : o2 = 256 * (11 + k)) (hk : k < 11)
    (inb1 : ∀ a, (![0, o1] : Fin 2 → ℕ) a + S1024x256.size a ≤ S1024x5632.size a) (inb2 : ∀ a, (![0, o2] : Fin 2 → ℕ) a + S1024x256.size a ≤ S1024x5632.size a)
    (inb : ∀ a, (![sl, 0, o1] : Fin 3 → ℕ) a + S1x256x256.size a ≤ S2x256x2816.size a) (v : Vec F S1x256x1024 .bf16) (hv : v = xbOf fa s) (x : S1x256x256.Idx) :
    k0_pay66 v (View.readAt (Elt F) M.view (Rect.unit (s := S1024x5632) ![0, o1] S1024x256.size inb1).toLoadRect (hM.unread f9))
        (View.readAt (Elt F) M.view (Rect.unit (s := S1024x5632) ![0, o2] S1024x256.size inb2).toLoadRect (hM.unread f9)) x
      = hidOf fa f9 s ((Rect.unit (s := S2x256x2816) ![sl, 0, o1] S1x256x256.size inb).emb x 1) ((Rect.unit (s := S2x256x2816) ![sl, 0, o1] S1x256x256.size inb).emb x 2) := by
  subst hv
  rw [rd_cols M hM f9 k o1 h1 (by omega), rd_cols M hM f9 (11 + k) o2 h2 (by omega)]
  have hx0 : (x 0).val < 1 := (x 0).isLt
  have hx2 : (x 2).val < 256 := (x 2).isLt
  have e2 : ((Rect.unit (s := S2x256x2816) ![sl, 0, o1] S1x256x256.size inb).emb x 2).val = o1 + 1 * (x 2).val := rfl
  have e1 : ((Rect.unit (s := S2x256x2816) ![sl, 0, o1] S1x256x256.size inb).emb x 1).val = 0 + 1 * (x 1).val := rfl
  have hd : ((Rect.unit (s := S2x256x2816) ![sl, 0, o1] S1x256x256.size inb).emb x 2).val / 256 = k := by omega
  have hm : ((Rect.unit (s := S2x256x2816) ![sl, 0, o1] S1x256x256.size inb).emb x 2).val % 256 = (x 2).val := by omega
  unfold hidOf
  rw [hd]
  refine congrArg (k0_pay66 (xbOf fa s) (colsOf f9 k) (colsOf f9 (11 + k))) (funext fun a => ?_)
  match a with
  | ⟨0, _⟩ => exact Fin.ext (by show (x 0).val = 0; omega)
  | ⟨1, _⟩ => exact Fin.ext (by show (x 1).val = ((Rect.unit (s := S2x256x2816) ![sl, 0, o1] S1x256x256.size inb).emb x 1).val; omega)
  | ⟨2, _⟩ => exact Fin.ext hm.symm

/-- Peeling the latest store off a buffer filled piece by piece. -/
theorem canon_step {S : Shape} {e : EltTy} (G : S.Idx → Elt F e) (r : Rect S) (w : r.shape.Idx → Elt F e) (L : List (View.Piece (Elt F) S e)) (y : S.Idx)
    (hp : ∀ x, w x = G (r.emb x)) (h : y ∉ r.set → View.canon L y = G y) : View.canon (⟨r, w⟩ :: L) y = G y := by
  by_cases hy : y ∈ r.set
  · obtain ⟨x, rfl⟩ := r.exists_idx_of_mem hy
    exact (View.canon_cons_emb r w L x).trans (hp x)
  · exact (View.canon_cons_of_not_mem ⟨r, w⟩ L hy).trans (h hy)

/-- An index of a slot is in one of the slot's eleven chunks. -/
theorem slot_chunk (sl : ℕ) (y : S2x256x2816.Idx) (h0 : (y 0).val = sl) (o : ℕ) (inb : ∀ a, (![sl, 0, o] : Fin 3 → ℕ) a + S1x256x256.size a ≤ S2x256x2816.size a)
    (h : y ∉ (Rect.unit (s := S2x256x2816) ![sl, 0, o] S1x256x256.size inb).set) : (y 2).val < o ∨ o + 256 ≤ (y 2).val := by
  by_contra hc
  refine h (Rect.mem_set_unit.mpr fun a => ?_)
  have h1 : (y 1).val < 256 := (y 1).isLt
  match a with
  | ⟨0, _⟩ => exact ⟨by show sl ≤ (y 0).val; omega, by show (y 0).val < sl + 1; omega⟩
  | ⟨1, _⟩ => exact ⟨by show 0 ≤ (y 1).val; omega, by show (y 1).val < 0 + 256; omega⟩
  | ⟨2, _⟩ => exact ⟨by show o ≤ (y 2).val; omega, by show (y 2).val < o + 256; omega⟩

/-- A row tile as it is stored. -/
theorem outPiece (fa : Vec F S1024x1024 .f32) (fg fb : Vec F S1x1024 .f32) (f9 : Vec F S1024x5632 .bf16) (f10 : Vec F S2816x1024 .bf16) (s o : ℕ) (ho : o = 256 * s) (inb : ∀ a, (![o, 0] : Fin 2 → ℕ) a + S256x1024.size a ≤ S1024x1024.size a)
    (vr : Vec F S256x1024 .f32) (vh : Vec F S1x256x2816 .bf16) (vd : Vec F S2816x1024 .bf16) (vg vb : Vec F S1x1024 .f32)
    (hr : vr = rowsOf fa s) (hh : vh = hidVec fa f9 s) (hd : vd = f10) (hg : vg = fg) (hb : vb = fb) (x : S256x1024.Idx) :
    k0_pay119 (k0_pay117 vh vd) (k0_pay118 (k0_pay93 vr)) vg vb x = blkOf fa fg fb f9 f10 ((Rect.unit (s := S1024x1024) ![o, 0] S256x1024.size inb).emb x) := by
  subst hr hh hd hg hb
  have hx0 : (x 0).val < 256 := (x 0).isLt
  have e0 : ((Rect.unit (s := S1024x1024) ![o, 0] S256x1024.size inb).emb x 0).val = o + 1 * (x 0).val := rfl
  have e1 : ((Rect.unit (s := S1024x1024) ![o, 0] S256x1024.size inb).emb x 1).val = 0 + 1 * (x 1).val := rfl
  have hq : ((Rect.unit (s := S1024x1024) ![o, 0] S256x1024.size inb).emb x 0).val / 256 = s := by omega
  have hm : ((Rect.unit (s := S1024x1024) ![o, 0] S256x1024.size inb).emb x 0).val % 256 = (x 0).val := by omega
  unfold blkOf
  rw [hq]
  refine congrArg (outOf fa vg vb f9 vd s) (funext fun a => ?_)
  match a with
  | ⟨0, _⟩ => exact Fin.ext hm.symm
  | ⟨1, _⟩ => exact Fin.ext (by show (x 1).val = ((Rect.unit (s := S1024x1024) ![o, 0] S256x1024.size inb).emb x 1).val; omega)

/-- The rows after the attention's output projection and the first normalisation. -/
def x1Of (fa : Vec F S1024x1024 .f32) (fp fw : Vec F S1024x1024 .bf16) (fga fba : Vec F S1x1024 .f32) : Vec F S1024x1024 .f32 :=
  fun y => k0_pay55 (rowsOf fa ((y 0).val / 256)) (rowsOf fp ((y 0).val / 256)) fw fga fba (ix2 (n0 := 256) (n1 := 1024) ⟨(y 0).val % 256, Nat.mod_lt _ (by decide)⟩ (y 1))

/-- A row tile of them as it is stored. -/
theorem prePiece (fa : Vec F S1024x1024 .f32) (fp fw : Vec F S1024x1024 .bf16) (fga fba : Vec F S1x1024 .f32) (s o : ℕ) (ho : o = 256 * s) (inb : ∀ a, (![o, 0] : Fin 2 → ℕ) a + S256x1024.size a ≤ S1024x1024.size a)
    (vr : Vec F S256x1024 .f32) (vp : Vec F S256x1024 .bf16) (vw : Vec F S1024x1024 .bf16) (vg vb : Vec F S1x1024 .f32)
    (hr : vr = rowsOf fa s) (hp : vp = rowsOf fp s) (hw : vw = fw) (hg : vg = fga) (hb : vb = fba) (x : S256x1024.Idx) :
    k0_pay55 vr vp vw vg vb x = x1Of fa fp fw fga fba ((Rect.unit (s := S1024x1024) ![o, 0] S256x1024.size inb).emb x) := by
  subst hr hp hw hg hb
  have hx0 : (x 0).val < 256 := (x 0).isLt
  have e0 : ((Rect.unit (s := S1024x1024) ![o, 0] S256x1024.size inb).emb x 0).val = o + 1 * (x 0).val := rfl
  have e1 : ((Rect.unit (s := S1024x1024) ![o, 0] S256x1024.size inb).emb x 1).val = 0 + 1 * (x 1).val := rfl
  have hq : ((Rect.unit (s := S1024x1024) ![o, 0] S256x1024.size inb).emb x 0).val / 256 = s := by omega
  have hm : ((Rect.unit (s := S1024x1024) ![o, 0] S256x1024.size inb).emb x 0).val % 256 = (x 0).val := by omega
  unfold x1Of
  rw [hq]
  refine congrArg (k0_pay55 (rowsOf fa s) (rowsOf fp s) vw vg vb) (funext fun a => ?_)
  match a with
  | ⟨0, _⟩ => exact Fin.ext hm.symm
  | ⟨1, _⟩ => exact Fin.ext (by show (x 1).val = ((Rect.unit (s := S1024x1024) ![o, 0] S256x1024.size inb).emb x 1).val; omega)

/-- An index outside a row tile. -/
theorem rows_not (o : ℕ) (inb : ∀ a, (![o, 0] : Fin 2 → ℕ) a + S256x1024.size a ≤ S1024x1024.size a) (y : S1024x1024.Idx) (h : o + 256 ≤ (y 0).val) : y ∉ (Rect.unit (s := S1024x1024) ![o, 0] S256x1024.size inb).set := fun hm => by
  have h0 : (y 0).val < o + 256 := ((Rect.mem_set_unit.mp hm) 0).2
  omega
/-- An index a row tile does not hold. -/
theorem rows_of_not (o : ℕ) (inb : ∀ a, (![o, 0] : Fin 2 → ℕ) a + S256x1024.size a ≤ S1024x1024.size a) (y : S1024x1024.Idx) (h : y ∉ (Rect.unit (s := S1024x1024) ![o, 0] S256x1024.size inb).set) : (y 0).val < o ∨ o + 256 ≤ (y 0).val := by
  by_contra hc
  refine h (Rect.mem_set_unit.mpr fun a => ?_)
  have h1 : (y 1).val < 1024 := (y 1).isLt
  match a with
  | ⟨0, _⟩ => exact ⟨by show o ≤ (y 0).val; omega, by show (y 0).val < o + 256; omega⟩
  | ⟨1, _⟩ => exact ⟨by show 0 ≤ (y 1).val; omega, by show (y 1).val < 0 + 1024; omega⟩

/-- Four row tiles, read at any index. -/
theorem pre_read (G : S1024x1024.Idx → Elt F .f32) (i0 : ∀ a, (![0, 0] : Fin 2 → ℕ) a + S256x1024.size a ≤ S1024x1024.size a) (i1 : ∀ a, (![256, 0] : Fin 2 → ℕ) a + S256x1024.size a ≤ S1024x1024.size a) (i2 : ∀ a, (![512, 0] : Fin 2 → ℕ) a + S256x1024.size a ≤ S1024x1024.size a) (i3 : ∀ a, (![768, 0] : Fin 2 → ℕ) a + S256x1024.size a ≤ S1024x1024.size a) (w0 w1 w2 w3 : Vec F S256x1024 .f32)
    (h0 : ∀ x : S256x1024.Idx, w0 x = G ((Rect.unit (s := S1024x1024) ![0, 0] S256x1024.size i0).emb x)) (h1 : ∀ x : S256x1024.Idx, w1 x = G ((Rect.unit (s := S1024x1024) ![256, 0] S256x1024.size i1).emb x)) (h2 : ∀ x : S256x1024.Idx, w2 x = G ((Rect.unit (s := S1024x1024) ![512, 0] S256x1024.size i2).emb x)) (h3 : ∀ x : S256x1024.Idx, w3 x = G ((Rect.unit (s := S1024x1024) ![768, 0] S256x1024.size i3).emb x)) (y : S1024x1024.Idx) :
    View.canon ([⟨(Rect.unit (s := S1024x1024) ![768, 0] S256x1024.size i3), w3⟩, ⟨(Rect.unit (s := S1024x1024) ![512, 0] S256x1024.size i2), w2⟩, ⟨(Rect.unit (s := S1024x1024) ![256, 0] S256x1024.size i1), w1⟩, ⟨(Rect.unit (s := S1024x1024) ![0, 0] S256x1024.size i0), w0⟩] : List (View.Piece (Elt F) S1024x1024 .f32)) y = G y := by
  refine canon_step G _ _ _ y h3 (fun n3 => ?_)
  refine canon_step G _ _ _ y h2 (fun n2 => ?_)
  refine canon_step G _ _ _ y h1 (fun n1 => ?_)
  refine canon_step G _ _ _ y h0 (fun n0 => ?_)
  exfalso
  have hy : (y 0).val < 1024 := (y 0).isLt
  have := rows_of_not 0 i0 y n0
  have := rows_of_not 256 i1 y n1
  have := rows_of_not 512 i2 y n2
  have := rows_of_not 768 i3 y n3
  omega

/-- Peeling the latest store off a buffer's contents. -/
theorem writes_step {s : Shape} {e : EltTy} {sp : Space} (v : View sig .tc sp s e) (f : v.ty.Contents (Elt F)) (G : s.Idx → Elt F e) (r : Rect s) (w : r.shape.Idx → Elt F e) (L : List (View.Piece (Elt F) s e)) (y : s.Idx)
    (hp : ∀ x, w x = G (r.emb x)) (h : y ∉ r.set → v.read (Elt F) (v.writes (Elt F) f L) y = G y) : v.read (Elt F) (v.writes (Elt F) f (⟨r, w⟩ :: L)) y = G y := by
  by_cases hy : y ∈ r.set
  · obtain ⟨x, rfl⟩ := r.exists_idx_of_mem hy
    exact (View.read_writes_cons_emb v f r w L x).trans (hp x)
  · exact (View.read_writes_cons_miss v f ⟨r, w⟩ L y hy).trans (h hy)

/-- Four row tiles stored last, whatever was stored before them. -/
theorem out_read (v : View sig .tc .vmem S1024x1024 .f32) (f : v.ty.Contents (Elt F)) (G : S1024x1024.Idx → Elt F .f32) (i0 : ∀ a, (![0, 0] : Fin 2 → ℕ) a + S256x1024.size a ≤ S1024x1024.size a) (i1 : ∀ a, (![256, 0] : Fin 2 → ℕ) a + S256x1024.size a ≤ S1024x1024.size a) (i2 : ∀ a, (![512, 0] : Fin 2 → ℕ) a + S256x1024.size a ≤ S1024x1024.size a) (i3 : ∀ a, (![768, 0] : Fin 2 → ℕ) a + S256x1024.size a ≤ S1024x1024.size a) (w0 w1 w2 w3 : Vec F S256x1024 .f32) (L : List (View.Piece (Elt F) S1024x1024 .f32))
    (h0 : ∀ x : S256x1024.Idx, w0 x = G ((Rect.unit (s := S1024x1024) ![0, 0] S256x1024.size i0).emb x)) (h1 : ∀ x : S256x1024.Idx, w1 x = G ((Rect.unit (s := S1024x1024) ![256, 0] S256x1024.size i1).emb x)) (h2 : ∀ x : S256x1024.Idx, w2 x = G ((Rect.unit (s := S1024x1024) ![512, 0] S256x1024.size i2).emb x)) (h3 : ∀ x : S256x1024.Idx, w3 x = G ((Rect.unit (s := S1024x1024) ![768, 0] S256x1024.size i3).emb x)) (y : S1024x1024.Idx) :
    v.read (Elt F) (v.writes (Elt F) f (⟨(Rect.unit (s := S1024x1024) ![768, 0] S256x1024.size i3), w3⟩ :: ⟨(Rect.unit (s := S1024x1024) ![512, 0] S256x1024.size i2), w2⟩ :: ⟨(Rect.unit (s := S1024x1024) ![256, 0] S256x1024.size i1), w1⟩ :: ⟨(Rect.unit (s := S1024x1024) ![0, 0] S256x1024.size i0), w0⟩ :: L)) y = G y := by
  refine writes_step v f G _ _ _ y h3 (fun n3 => ?_)
  refine writes_step v f G _ _ _ y h2 (fun n2 => ?_)
  refine writes_step v f G _ _ _ y h1 (fun n1 => ?_)
  refine writes_step v f G _ _ _ y h0 (fun n0 => ?_)
  exfalso
  have hy : (y 0).val < 1024 := (y 0).isLt
  have := rows_of_not 0 i0 y n0
  have := rows_of_not 256 i1 y n1
  have := rows_of_not 512 i2 y n2
  have := rows_of_not 768 i3 y n3
  omega

end Cert.FfnPreIdeal.Hand

end
-- ==== Proof.FfnPreIdealPay.lean ====
/- The stored payloads, each split differently by the program text: all the same chunk, the same first normalisation, and the
   same tail. -/
module

public import proofs.«01_k».proof.Proof.FfnPreIdealBlk

@[expose] public section

set_option maxRecDepth 16384

noncomputable section

namespace Cert.FfnPreIdeal.Hand

open Cert.FfnPreIdeal Cert.FfnPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem chunk_eq_0_10 (v : Vec F S1x256x1024 .bf16) (a : Vec F S1024x256 .bf16) (b : Vec F S1024x256 .bf16) : k0_pay87 (k0_pay84 v a) (k0_pay85 v b) (k0_pay86 v a) = k0_pay66 v a b := rfl
theorem chunk_eq_0_9 (v : Vec F S1x256x1024 .bf16) (a : Vec F S1024x256 .bf16) (b : Vec F S1024x256 .bf16) : k0_pay82 v a b = k0_pay66 v a b := rfl
theorem chunk_eq_0_8 (v : Vec F S1x256x1024 .bf16) (a : Vec F S1024x256 .bf16) (b : Vec F S1024x256 .bf16) : k0_pay81 (k0_pay80 v a b) = k0_pay66 v a b := rfl
theorem chunk_eq_0_7 (v : Vec F S1x256x1024 .bf16) (a : Vec F S1024x256 .bf16) (b : Vec F S1024x256 .bf16) : k0_pay79 v a b = k0_pay66 v a b := rfl
theorem chunk_eq_0_6 (v : Vec F S1x256x1024 .bf16) (a : Vec F S1024x256 .bf16) (b : Vec F S1024x256 .bf16) : k0_pay78 v a b = k0_pay66 v a b := rfl
theorem chunk_eq_0_5 (v : Vec F S1x256x1024 .bf16) (a : Vec F S1024x256 .bf16) (b : Vec F S1024x256 .bf16) : k0_pay77 (k0_pay75 v) (k0_pay76 v a) b (constant S256x256 FTy.f32 0#32) = k0_pay66 v a b := rfl
theorem chunk_eq_0_4 (v : Vec F S1x256x1024 .bf16) (a : Vec F S1024x256 .bf16) (b : Vec F S1024x256 .bf16) : k0_pay74 v a b = k0_pay66 v a b := rfl
theorem chunk_eq_0_3 (v : Vec F S1x256x1024 .bf16) (a : Vec F S1024x256 .bf16) (b : Vec F S1024x256 .bf16) : k0_pay73 (k0_pay69 v a) (k0_pay70 v b) (k0_pay71 v a) k0_pay72 = k0_pay66 v a b := rfl
theorem chunk_eq_0_2 (v : Vec F S1x256x1024 .bf16) (a : Vec F S1024x256 .bf16) (b : Vec F S1024x256 .bf16) : k0_pay67 v a b = k0_pay66 v a b := rfl
theorem chunk_eq_0_1 (v : Vec F S1x256x1024 .bf16) (a : Vec F S1024x256 .bf16) (b : Vec F S1024x256 .bf16) : k0_pay66 v a b = k0_pay66 v a b := rfl
theorem chunk_eq_0_0 (v : Vec F S1x256x1024 .bf16) (a : Vec F S1024x256 .bf16) (b : Vec F S1024x256 .bf16) : k0_pay65 (k0_pay64 v) a (constant S256x256 FTy.f32 0#32) b = k0_pay66 v a b := rfl
theorem chunk_eq_1_10 (v : Vec F S1x256x1024 .bf16) (a : Vec F S1024x256 .bf16) (b : Vec F S1024x256 .bf16) : k0_pay116 v a b = k0_pay66 v a b := rfl
theorem chunk_eq_1_9 (v : Vec F S1x256x1024 .bf16) (a : Vec F S1024x256 .bf16) (b : Vec F S1024x256 .bf16) : k0_pay115 (k0_pay112 v a) (k0_pay113 v b) (k0_pay114 v a) (FloatOps.ofBits FTy.f32 1065353216#32) = k0_pay66 v a b := rfl
theorem chunk_eq_1_8 (v : Vec F S1x256x1024 .bf16) (a : Vec F S1024x256 .bf16) (b : Vec F S1024x256 .bf16) : k0_pay110 v a b = k0_pay66 v a b := rfl
theorem chunk_eq_1_7 (v : Vec F S1x256x1024 .bf16) (a : Vec F S1024x256 .bf16) (b : Vec F S1024x256 .bf16) : k0_pay109 (k0_pay108 v a b) = k0_pay66 v a b := rfl
theorem chunk_eq_1_6 (v : Vec F S1x256x1024 .bf16) (a : Vec F S1024x256 .bf16) (b : Vec F S1024x256 .bf16) : k0_pay107 (k0_pay106 v) a b = k0_pay66 v a b := rfl
theorem chunk_eq_1_5 (v : Vec F S1x256x1024 .bf16) (a : Vec F S1024x256 .bf16) (b : Vec F S1024x256 .bf16) : k0_pay105 v a b = k0_pay66 v a b := rfl
theorem chunk_eq_1_4 (v : Vec F S1x256x1024 .bf16) (a : Vec F S1024x256 .bf16) (b : Vec F S1024x256 .bf16) : k0_pay104 (k0_pay101 v a) (k0_pay102 v b) (k0_pay103 v a) = k0_pay66 v a b := rfl
theorem chunk_eq_1_3 (v : Vec F S1x256x1024 .bf16) (a : Vec F S1024x256 .bf16) (b : Vec F S1024x256 .bf16) : k0_pay99 v a b = k0_pay66 v a b := rfl
theorem chunk_eq_1_2 (v : Vec F S1x256x1024 .bf16) (a : Vec F S1024x256 .bf16) (b : Vec F S1024x256 .bf16) : k0_pay98 (k0_pay97 v a b) = k0_pay66 v a b := rfl
theorem chunk_eq_1_1 (v : Vec F S1x256x1024 .bf16) (a : Vec F S1024x256 .bf16) (b : Vec F S1024x256 .bf16) : k0_pay96 v a b = k0_pay66 v a b := rfl
theorem chunk_eq_1_0 (v : Vec F S1x256x1024 .bf16) (a : Vec F S1024x256 .bf16) (b : Vec F S1024x256 .bf16) : k0_pay95 v a b = k0_pay66 v a b := rfl
theorem chunk_eq_2_10 (v : Vec F S1x256x1024 .bf16) (a : Vec F S1024x256 .bf16) (b : Vec F S1024x256 .bf16) : k0_pay145 (k0_pay142 v a) (k0_pay143 v b) k0_pay144 = k0_pay66 v a b := rfl
theorem chunk_eq_2_9 (v : Vec F S1x256x1024 .bf16) (a : Vec F S1024x256 .bf16) (b : Vec F S1024x256 .bf16) : k0_pay140 v a b = k0_pay66 v a b := rfl
theorem chunk_eq_2_8 (v : Vec F S1x256x1024 .bf16) (a : Vec F S1024x256 .bf16) (b : Vec F S1024x256 .bf16) : k0_pay139 (k0_pay138 v a b) = k0_pay66 v a b := rfl
theorem chunk_eq_2_7 (v : Vec F S1x256x1024 .bf16) (a : Vec F S1024x256 .bf16) (b : Vec F S1024x256 .bf16) : k0_pay137 v a b = k0_pay66 v a b := rfl
theorem chunk_eq_2_6 (v : Vec F S1x256x1024 .bf16) (a : Vec F S1024x256 .bf16) (b : Vec F S1024x256 .bf16) : k0_pay136 v a b = k0_pay66 v a b := rfl
theorem chunk_eq_2_5 (v : Vec F S1x256x1024 .bf16) (a : Vec F S1024x256 .bf16) (b : Vec F S1024x256 .bf16) : k0_pay135 (k0_pay133 v) (k0_pay134 v a) b = k0_pay66 v a b := rfl
theorem chunk_eq_2_4 (v : Vec F S1x256x1024 .bf16) (a : Vec F S1024x256 .bf16) (b : Vec F S1024x256 .bf16) : k0_pay132 v a b = k0_pay66 v a b := rfl
theorem chunk_eq_2_3 (v : Vec F S1x256x1024 .bf16) (a : Vec F S1024x256 .bf16) (b : Vec F S1024x256 .bf16) : k0_pay131 (k0_pay128 v a) (k0_pay129 v b) (k0_pay130 v a) = k0_pay66 v a b := rfl
theorem chunk_eq_2_2 (v : Vec F S1x256x1024 .bf16) (a : Vec F S1024x256 .bf16) (b : Vec F S1024x256 .bf16) : k0_pay126 v a b = k0_pay66 v a b := rfl
theorem chunk_eq_2_1 (v : Vec F S1x256x1024 .bf16) (a : Vec F S1024x256 .bf16) (b : Vec F S1024x256 .bf16) : k0_pay125 (k0_pay124 v a b) = k0_pay66 v a b := rfl
theorem chunk_eq_2_0 (v : Vec F S1x256x1024 .bf16) (a : Vec F S1024x256 .bf16) (b : Vec F S1024x256 .bf16) : k0_pay123 (k0_pay122 v) a b = k0_pay66 v a b := rfl
theorem chunk_eq_3_10 (v : Vec F S1x256x1024 .bf16) (a : Vec F S1024x256 .bf16) (b : Vec F S1024x256 .bf16) : k0_pay177 v a b = k0_pay66 v a b := rfl
theorem chunk_eq_3_9 (v : Vec F S1x256x1024 .bf16) (a : Vec F S1024x256 .bf16) (b : Vec F S1024x256 .bf16) : k0_pay176 (k0_pay172 v a) (k0_pay173 v b) (k0_pay174 v a) k0_pay175 = k0_pay66 v a b := rfl
theorem chunk_eq_3_8 (v : Vec F S1x256x1024 .bf16) (a : Vec F S1024x256 .bf16) (b : Vec F S1024x256 .bf16) : k0_pay170 v a b = k0_pay66 v a b := rfl
theorem chunk_eq_3_7 (v : Vec F S1x256x1024 .bf16) (a : Vec F S1024x256 .bf16) (b : Vec F S1024x256 .bf16) : k0_pay169 (k0_pay168 v a b) = k0_pay66 v a b := rfl
theorem chunk_eq_3_6 (v : Vec F S1x256x1024 .bf16) (a : Vec F S1024x256 .bf16) (b : Vec F S1024x256 .bf16) : k0_pay167 (k0_pay166 v) a b = k0_pay66 v a b := rfl
theorem chunk_eq_3_5 (v : Vec F S1x256x1024 .bf16) (a : Vec F S1024x256 .bf16) (b : Vec F S1024x256 .bf16) : k0_pay165 v a b = k0_pay66 v a b := rfl
theorem chunk_eq_3_4 (v : Vec F S1x256x1024 .bf16) (a : Vec F S1024x256 .bf16) (b : Vec F S1024x256 .bf16) : k0_pay164 (k0_pay162 v a) (k0_pay163 v b) (FloatOps.ofBits FTy.f32 0#32) = k0_pay66 v a b := rfl
theorem chunk_eq_3_3 (v : Vec F S1x256x1024 .bf16) (a : Vec F S1024x256 .bf16) (b : Vec F S1024x256 .bf16) : k0_pay160 v a b = k0_pay66 v a b := rfl
theorem chunk_eq_3_2 (v : Vec F S1x256x1024 .bf16) (a : Vec F S1024x256 .bf16) (b : Vec F S1024x256 .bf16) : k0_pay159 (k0_pay157 v b) (k0_pay158 v a) = k0_pay66 v a b := rfl
theorem chunk_eq_3_1 (v : Vec F S1x256x1024 .bf16) (a : Vec F S1024x256 .bf16) (b : Vec F S1024x256 .bf16) : k0_pay155 v a b = k0_pay66 v a b := rfl
theorem chunk_eq_3_0 (v : Vec F S1x256x1024 .bf16) (a : Vec F S1024x256 .bf16) (b : Vec F S1024x256 .bf16) : k0_pay154 v a b = k0_pay66 v a b := rfl
theorem rows_eq_0 (r : Vec F S256x1024 .f32) : k0_pay63 r = k0_pay63 r := rfl
theorem rows_eq_1 (r : Vec F S256x1024 .f32) : k0_pay94 r = k0_pay63 r := rfl
theorem rows_eq_2 (r : Vec F S256x1024 .f32) : k0_pay121 r = k0_pay63 r := rfl
theorem rows_eq_3 (r : Vec F S256x1024 .f32) : k0_pay153 r = k0_pay63 r := rfl
theorem pre_eq_3 (r : Vec F S256x1024 .f32) (p : Vec F S256x1024 .bf16) (w : Vec F S1024x1024 .bf16) (ga : Vec F S1x1024 .f32) (ba : Vec F S1x1024 .f32) : k0_pay61 (k0_pay59 r) p (k0_pay60 w) (constant S256x1024 FTy.f32 0#32) ga ba = k0_pay55 r p w ga ba := rfl
theorem pre_eq_2 (r : Vec F S256x1024 .f32) (p : Vec F S256x1024 .bf16) (w : Vec F S1024x1024 .bf16) (ga : Vec F S1x1024 .f32) (ba : Vec F S1x1024 .f32) : k0_pay58 (k0_pay57 r) p w ga ba = k0_pay55 r p w ga ba := rfl
theorem pre_eq_1 (r : Vec F S256x1024 .f32) (p : Vec F S256x1024 .bf16) (w : Vec F S1024x1024 .bf16) (ga : Vec F S1x1024 .f32) (ba : Vec F S1x1024 .f32) : k0_pay56 r p w ga ba = k0_pay55 r p w ga ba := rfl
theorem pre_eq_0 (r : Vec F S256x1024 .f32) (p : Vec F S256x1024 .bf16) (w : Vec F S1024x1024 .bf16) (ga : Vec F S1x1024 .f32) (ba : Vec F S1x1024 .f32) : k0_pay55 r p w ga ba = k0_pay55 r p w ga ba := rfl
theorem tail_eq_0 (r : Vec F S256x1024 .f32) (h : Vec F S1x256x2816 .bf16) (d : Vec F S2816x1024 .bf16) (g : Vec F S1x1024 .f32) (bb : Vec F S1x1024 .f32) : k0_pay92 (k0_pay88 g) (k0_pay89 bb) (k0_pay90 (k0_pay62 r) h d) (k0_pay91 (k0_pay62 r) h d) = k0_pay119 (k0_pay117 h d) (k0_pay118 (k0_pay93 r)) g bb := rfl
theorem tail_eq_1 (r : Vec F S256x1024 .f32) (h : Vec F S1x256x2816 .bf16) (d : Vec F S2816x1024 .bf16) (g : Vec F S1x1024 .f32) (bb : Vec F S1x1024 .f32) : k0_pay119 (k0_pay117 h d) (k0_pay118 (k0_pay93 r)) g bb = k0_pay119 (k0_pay117 h d) (k0_pay118 (k0_pay93 r)) g bb := rfl
theorem tail_eq_2 (r : Vec F S256x1024 .f32) (h : Vec F S1x256x2816 .bf16) (d : Vec F S2816x1024 .bf16) (g : Vec F S1x1024 .f32) (bb : Vec F S1x1024 .f32) : k0_pay151 (k0_pay146 g) (k0_pay147 bb) (k0_pay148 (k0_pay120 r) h d) (k0_pay149 (k0_pay120 r) h d) k0_pay150 = k0_pay119 (k0_pay117 h d) (k0_pay118 (k0_pay93 r)) g bb := rfl
theorem tail_eq_3 (r : Vec F S256x1024 .f32) (h : Vec F S1x256x2816 .bf16) (d : Vec F S2816x1024 .bf16) (g : Vec F S1x1024 .f32) (bb : Vec F S1x1024 .f32) : k0_pay1 (k0_pay179 g) (k0_pay180 bb) (k0_pay181 (k0_pay152 r) (k0_pay178 h d) (FloatOps.ofBits FTy.f32 1071072509#32)) (k0_pay182 (k0_pay152 r) (k0_pay178 h d) (FloatOps.ofBits FTy.f32 1071072509#32)) (FloatOps.ofBits FTy.f32 1149239296#32) = k0_pay119 (k0_pay117 h d) (k0_pay118 (k0_pay93 r)) g bb := rfl

/-- A slot filled chunk by chunk, read at one of its indices. -/
theorem slot_read (G : S2x256x2816.Idx → Elt F .bf16) (sl : ℕ) (i0 : ∀ a, (![sl, 0, 0] : Fin 3 → ℕ) a + S1x256x256.size a ≤ S2x256x2816.size a) (i1 : ∀ a, (![sl, 0, 256] : Fin 3 → ℕ) a + S1x256x256.size a ≤ S2x256x2816.size a) (i2 : ∀ a, (![sl, 0, 512] : Fin 3 → ℕ) a + S1x256x256.size a ≤ S2x256x2816.size a) (i3 : ∀ a, (![sl, 0, 768] : Fin 3 → ℕ) a + S1x256x256.size a ≤ S2x256x2816.size a) (i4 : ∀ a, (![sl, 0, 1024] : Fin 3 → ℕ) a + S1x256x256.size a ≤ S2x256x2816.size a) (i5 : ∀ a, (![sl, 0, 1280] : Fin 3 → ℕ) a + S1x256x256.size a ≤ S2x256x2816.size a) (i6 : ∀ a, (![sl, 0, 1536] : Fin 3 → ℕ) a + S1x256x256.size a ≤ S2x256x2816.size a) (i7 : ∀ a, (![sl, 0, 1792] : Fin 3 → ℕ) a + S1x256x256.size a ≤ S2x256x2816.size a) (i8 : ∀ a, (![sl, 0, 2048] : Fin 3 → ℕ) a + S1x256x256.size a ≤ S2x256x2816.size a) (i9 : ∀ a, (![sl, 0, 2304] : Fin 3 → ℕ) a + S1x256x256.size a ≤ S2x256x2816.size a) (i10 : ∀ a, (![sl, 0, 2560] : Fin 3 → ℕ) a + S1x256x256.size a ≤ S2x256x2816.size a) (p0 p1 p2 p3 p4 p5 p6 p7 p8 p9 p10 : Vec F S1x256x256 .bf16) (L : List (View.Piece (Elt F) S2x256x2816 .bf16)) (h0 : ∀ x : S1x256x256.Idx, p0 x = G ((Rect.unit (s := S2x256x2816) ![sl, 0, 0] S1x256x256.size i0).emb x))
    (h1 : ∀ x : S1x256x256.Idx, p1 x = G ((Rect.unit (s := S2x256x2816) ![sl, 0, 256] S1x256x256.size i1).emb x))
    (h2 : ∀ x : S1x256x256.Idx, p2 x = G ((Rect.unit (s := S2x256x2816) ![sl, 0, 512] S1x256x256.size i2).emb x))
    (h3 : ∀ x : S1x256x256.Idx, p3 x = G ((Rect.unit (s := S2x256x2816) ![sl, 0, 768] S1x256x256.size i3).emb x))
    (h4 : ∀ x : S1x256x256.Idx, p4 x = G ((Rect.unit (s := S2x256x2816) ![sl, 0, 1024] S1x256x256.size i4).emb x))
    (h5 : ∀ x : S1x256x256.Idx, p5 x = G ((Rect.unit (s := S2x256x2816) ![sl, 0, 1280] S1x256x256.size i5).emb x))
    (h6 : ∀ x : S1x256x256.Idx, p6 x = G ((Rect.unit (s := S2x256x2816) ![sl, 0, 1536] S1x256x256.size i6).emb x))
    (h7 : ∀ x : S1x256x256.Idx, p7 x = G ((Rect.unit (s := S2x256x2816) ![sl, 0, 1792] S1x256x256.size i7).emb x))
    (h8 : ∀ x : S1x256x256.Idx, p8 x = G ((Rect.unit (s := S2x256x2816) ![sl, 0, 2048] S1x256x256.size i8).emb x))
    (h9 : ∀ x : S1x256x256.Idx, p9 x = G ((Rect.unit (s := S2x256x2816) ![sl, 0, 2304] S1x256x256.size i9).emb x))
    (h10 : ∀ x : S1x256x256.Idx, p10 x = G ((Rect.unit (s := S2x256x2816) ![sl, 0, 2560] S1x256x256.size i10).emb x))
    (y : S2x256x2816.Idx) (hy : (y 0).val = sl) :
    View.canon (⟨Rect.unit (s := S2x256x2816) ![sl, 0, 2560] S1x256x256.size i10, p10⟩ :: ⟨Rect.unit (s := S2x256x2816) ![sl, 0, 2304] S1x256x256.size i9, p9⟩ :: ⟨Rect.unit (s := S2x256x2816) ![sl, 0, 2048] S1x256x256.size i8, p8⟩ :: ⟨Rect.unit (s := S2x256x2816) ![sl, 0, 1792] S1x256x256.size i7, p7⟩ :: ⟨Rect.unit (s := S2x256x2816) ![sl, 0, 1536] S1x256x256.size i6, p6⟩ :: ⟨Rect.unit (s := S2x256x2816) ![sl, 0, 1280] S1x256x256.size i5, p5⟩ :: ⟨Rect.unit (s := S2x256x2816) ![sl, 0, 1024] S1x256x256.size i4, p4⟩ :: ⟨Rect.unit (s := S2x256x2816) ![sl, 0, 768] S1x256x256.size i3, p3⟩ :: ⟨Rect.unit (s := S2x256x2816) ![sl, 0, 512] S1x256x256.size i2, p2⟩ :: ⟨Rect.unit (s := S2x256x2816) ![sl, 0, 256] S1x256x256.size i1, p1⟩ :: ⟨Rect.unit (s := S2x256x2816) ![sl, 0, 0] S1x256x256.size i0, p0⟩ :: L) y = G y := by
  refine canon_step G _ _ _ y h10 (fun n10 => ?_)
  refine canon_step G _ _ _ y h9 (fun n9 => ?_)
  refine canon_step G _ _ _ y h8 (fun n8 => ?_)
  refine canon_step G _ _ _ y h7 (fun n7 => ?_)
  refine canon_step G _ _ _ y h6 (fun n6 => ?_)
  refine canon_step G _ _ _ y h5 (fun n5 => ?_)
  refine canon_step G _ _ _ y h4 (fun n4 => ?_)
  refine canon_step G _ _ _ y h3 (fun n3 => ?_)
  refine canon_step G _ _ _ y h2 (fun n2 => ?_)
  refine canon_step G _ _ _ y h1 (fun n1 => ?_)
  refine canon_step G _ _ _ y h0 (fun n0 => ?_)
  exfalso
  have hy2 : (y 2).val < 2816 := (y 2).isLt
  have := slot_chunk sl y hy 0 i0 n0
  have := slot_chunk sl y hy 256 i1 n1
  have := slot_chunk sl y hy 512 i2 n2
  have := slot_chunk sl y hy 768 i3 n3
  have := slot_chunk sl y hy 1024 i4 n4
  have := slot_chunk sl y hy 1280 i5 n5
  have := slot_chunk sl y hy 1536 i6 n6
  have := slot_chunk sl y hy 1792 i7 n7
  have := slot_chunk sl y hy 2048 i8 n8
  have := slot_chunk sl y hy 2304 i9 n9
  have := slot_chunk sl y hy 2560 i10 n10
  omega

end Cert.FfnPreIdeal.Hand

end
-- ==== Proof.FfnPreIdealComp.lean ====
/- The block at one grid point, run from the two weights held in VMEM. -/
module

public import proofs.«01_k».proof.Proof.FfnPreIdealPay

@[expose] public section

set_option maxRecDepth 16384

noncomputable section

namespace Cert.FfnPreIdeal.Hand

open Cert.FfnPreIdeal Cert.FfnPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The block's run: from its rows, the attention's rows, the three weights and the two normalisations' scales and shifts. -/
theorem comp (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2x256x1024 .bf16) (harg11 : arg11.IsWhole) (arg12 : Memref sig .tc .vmem S2x256x2816 .bf16) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S4x1024x256 .f32) (harg15 : arg15.IsWhole) (arg16 : Memref sig .tc .vmem S4x128x1024 .f32) (harg16 : arg16.IsWhole)
    (fa : Vec F S1024x1024 .f32) (fp fw : Vec F S1024x1024 .bf16) (fga fba fg fb : Vec F S1x1024 .f32) (f9 : Vec F S1024x5632 .bf16) (f10 : Vec F S2816x1024 .bf16) (W : Waits sig Unit) (K : PUnit → sProp 𝕄) :
    iprop((owns (c : Thread nD τ) arg1 fullShare fa ∗ owns (c : Thread nD τ) arg2 fullShare fp ∗ owns (c : Thread nD τ) arg3 fullShare fw ∗ owns (c : Thread nD τ) arg4 fullShare fga ∗ owns (c : Thread nD τ) arg5 fullShare fba ∗ owns (c : Thread nD τ) arg8 fullShare fg ∗ owns (c : Thread nD τ) arg9 fullShare fb ∗ (∃ d, owns (c : Thread nD τ) arg10 fullShare d) ∗ (∃ d, owns (c : Thread nD τ) arg11 fullShare d) ∗ (∃ d, owns (c : Thread nD τ) arg12 fullShare d) ∗ owns (c : Thread nD τ) arg13 fullShare f9 ∗ owns (c : Thread nD τ) arg14 fullShare f10)
        ∗ ((owns (c : Thread nD τ) arg1 fullShare fa ∗ owns (c : Thread nD τ) arg2 fullShare fp ∗ owns (c : Thread nD τ) arg3 fullShare fw ∗ owns (c : Thread nD τ) arg4 fullShare fga ∗ owns (c : Thread nD τ) arg5 fullShare fba ∗ owns (c : Thread nD τ) arg8 fullShare fg ∗ owns (c : Thread nD τ) arg9 fullShare fb ∗ owns (c : Thread nD τ) arg10 fullShare (blkOf (x1Of fa fp fw fga fba) fg fb f9 f10) ∗ (∃ d, owns (c : Thread nD τ) arg11 fullShare d) ∗ (∃ d, owns (c : Thread nD τ) arg12 fullShare d) ∗ owns (c : Thread nD τ) arg13 fullShare f9 ∗ owns (c : Thread nD τ) arg14 fullShare f10) -∗ K ⟨⟩))
      ⊢ wp frame (wpE (defs₀ (F := F)) Variants.none c none) Set.univ (compProg (F := F) i arg1 harg1 arg2 harg2 arg3 harg3 arg4 harg4 arg5 harg5 (Memref.whole main_arg5) (Memref.isWhole_whole _) (Memref.whole main_arg6) (Memref.isWhole_whole _) arg8 harg8 arg9 harg9 arg10 harg10 arg11 harg11 arg12 harg12 arg13 harg13 arg14 harg14 arg15 harg15 arg16 harg16 cc0_scratch6 cc0_scratch7) K := by
  unfold compProg compMid compHead
  simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
  unfold owns
  iintro ⟨⟨⟨%f1_, %h1_, HX⟩, ⟨%f2_, %h2_, HA⟩, ⟨%f3_, %h3_, HM⟩, ⟨%f4_, %h4_, HC⟩, ⟨%f5_, %h5_, HD⟩, ⟨%f8_, %h8_, HG⟩, ⟨%f9_, %h9_, HB⟩, ⟨%d6, %f6, -, HO⟩, ⟨%d7, %f7, -, HS0⟩, ⟨%d8, %f8, -, HS1⟩, ⟨%f9', %h9, HS2⟩, ⟨%f10', %h10, HS3⟩⟩, Hk⟩
  obtain rfl := harg1.eq_unread h1_
  obtain rfl := harg2.eq_unread h2_
  obtain rfl := harg3.eq_unread h3_
  obtain rfl := harg4.eq_unread h4_
  obtain rfl := harg5.eq_unread h5_
  obtain rfl := harg8.eq_unread h8_
  obtain rfl := harg9.eq_unread h9_
  obtain rfl := harg13.eq_unread h9
  obtain rfl := harg14.eq_unread h10
  sl_exec
  sl_step
  have hp_0 : ∀ y : S1024x1024.Idx, View.canon (comp.sl.HO_4 c arg1 harg1 arg2 harg2 arg3 harg3 arg4 harg4 arg5 harg5 fa fp fw fga fba) y = (x1Of fa fp fw fga fba) y := by
    intro y
    unfold comp.sl.HO_4
    exact pre_read (x1Of fa fp fw fga fba) _ _ _ _ _ _ _ _
      (fun x => (congrFun (pre_eq_0 (View.readAt (Elt F) arg1.view (Rect.unit (s := S1024x1024) ![0, 0] S256x1024.size inb_S1024x1024_S256x1024_0_0).toLoadRect (harg1.unread fa)) (View.readAt (Elt F) arg2.view (Rect.unit (s := S1024x1024) ![0, 0] S256x1024.size inb_S1024x1024_S256x1024_0_0).toLoadRect (harg2.unread fp)) (View.readAt (Elt F) arg3.view (Rect.unit (s := S1024x1024) ![0, 0] S1024x1024.size inb_S1024x1024_S1024x1024_0_0).toLoadRect (harg3.unread fw)) (View.readAt (Elt F) arg4.view (Rect.unit (s := S1x1024) ![0, 0] S1x1024.size inb_S1x1024_S1x1024_0_0).toLoadRect (harg4.unread fga)) (View.readAt (Elt F) arg5.view (Rect.unit (s := S1x1024) ![0, 0] S1x1024.size inb_S1x1024_S1x1024_0_0).toLoadRect (harg5.unread fba))) x).trans (prePiece fa fp fw fga fba 0 0 rfl inb_S1024x1024_S256x1024_0_0 _ _ _ _ _
        (rd_rows arg1 harg1 fa 0 0 rfl (by decide) inb_S1024x1024_S256x1024_0_0) (rd_rows arg2 harg2 fp 0 0 rfl (by decide) inb_S1024x1024_S256x1024_0_0) (rd_whole arg3 harg3 fw _ (by decide) _) (rd_whole arg4 harg4 fga _ (by decide) _) (rd_whole arg5 harg5 fba _ (by decide) _) x))
      (fun x => (congrFun (pre_eq_1 (View.readAt (Elt F) arg1.view (Rect.unit (s := S1024x1024) ![256, 0] S256x1024.size inb_S1024x1024_S256x1024_256_0).toLoadRect (harg1.unread fa)) (View.readAt (Elt F) arg2.view (Rect.unit (s := S1024x1024) ![256, 0] S256x1024.size inb_S1024x1024_S256x1024_256_0).toLoadRect (harg2.unread fp)) (View.readAt (Elt F) arg3.view (Rect.unit (s := S1024x1024) ![0, 0] S1024x1024.size inb_S1024x1024_S1024x1024_0_0).toLoadRect (harg3.unread fw)) (View.readAt (Elt F) arg4.view (Rect.unit (s := S1x1024) ![0, 0] S1x1024.size inb_S1x1024_S1x1024_0_0).toLoadRect (harg4.unread fga)) (View.readAt (Elt F) arg5.view (Rect.unit (s := S1x1024) ![0, 0] S1x1024.size inb_S1x1024_S1x1024_0_0).toLoadRect (harg5.unread fba))) x).trans (prePiece fa fp fw fga fba 1 256 rfl inb_S1024x1024_S256x1024_256_0 _ _ _ _ _
        (rd_rows arg1 harg1 fa 1 256 rfl (by decide) inb_S1024x1024_S256x1024_256_0) (rd_rows arg2 harg2 fp 1 256 rfl (by decide) inb_S1024x1024_S256x1024_256_0) (rd_whole arg3 harg3 fw _ (by decide) _) (rd_whole arg4 harg4 fga _ (by decide) _) (rd_whole arg5 harg5 fba _ (by decide) _) x))
      (fun x => (congrFun (pre_eq_2 (View.readAt (Elt F) arg1.view (Rect.unit (s := S1024x1024) ![512, 0] S256x1024.size inb_S1024x1024_S256x1024_512_0).toLoadRect (harg1.unread fa)) (View.readAt (Elt F) arg2.view (Rect.unit (s := S1024x1024) ![512, 0] S256x1024.size inb_S1024x1024_S256x1024_512_0).toLoadRect (harg2.unread fp)) (View.readAt (Elt F) arg3.view (Rect.unit (s := S1024x1024) ![0, 0] S1024x1024.size inb_S1024x1024_S1024x1024_0_0).toLoadRect (harg3.unread fw)) (View.readAt (Elt F) arg4.view (Rect.unit (s := S1x1024) ![0, 0] S1x1024.size inb_S1x1024_S1x1024_0_0).toLoadRect (harg4.unread fga)) (View.readAt (Elt F) arg5.view (Rect.unit (s := S1x1024) ![0, 0] S1x1024.size inb_S1x1024_S1x1024_0_0).toLoadRect (harg5.unread fba))) x).trans (prePiece fa fp fw fga fba 2 512 rfl inb_S1024x1024_S256x1024_512_0 _ _ _ _ _
        (rd_rows arg1 harg1 fa 2 512 rfl (by decide) inb_S1024x1024_S256x1024_512_0) (rd_rows arg2 harg2 fp 2 512 rfl (by decide) inb_S1024x1024_S256x1024_512_0) (rd_whole arg3 harg3 fw _ (by decide) _) (rd_whole arg4 harg4 fga _ (by decide) _) (rd_whole arg5 harg5 fba _ (by decide) _) x))
      (fun x => (congrFun (pre_eq_3 (View.readAt (Elt F) arg1.view (Rect.unit (s := S1024x1024) ![768, 0] S256x1024.size inb_S1024x1024_S256x1024_768_0).toLoadRect (harg1.unread fa)) (View.readAt (Elt F) arg2.view (Rect.unit (s := S1024x1024) ![768, 0] S256x1024.size inb_S1024x1024_S256x1024_768_0).toLoadRect (harg2.unread fp)) (View.readAt (Elt F) arg3.view (Rect.unit (s := S1024x1024) ![0, 0] S1024x1024.size inb_S1024x1024_S1024x1024_0_0).toLoadRect (harg3.unread fw)) (View.readAt (Elt F) arg4.view (Rect.unit (s := S1x1024) ![0, 0] S1x1024.size inb_S1x1024_S1x1024_0_0).toLoadRect (harg4.unread fga)) (View.readAt (Elt F) arg5.view (Rect.unit (s := S1x1024) ![0, 0] S1x1024.size inb_S1x1024_S1x1024_0_0).toLoadRect (harg5.unread fba))) x).trans (prePiece fa fp fw fga fba 3 768 rfl inb_S1024x1024_S256x1024_768_0 _ _ _ _ _
        (rd_rows arg1 harg1 fa 3 768 rfl (by decide) inb_S1024x1024_S256x1024_768_0) (rd_rows arg2 harg2 fp 3 768 rfl (by decide) inb_S1024x1024_S256x1024_768_0) (rd_whole arg3 harg3 fw _ (by decide) _) (rd_whole arg4 harg4 fga _ (by decide) _) (rd_whole arg5 harg5 fba _ (by decide) _) x))
      y
  have hp_1 : ∀ y : S1024x1024.Idx, 256 ≤ (y 0).val → View.canon (comp.sl.HO_5 c arg1 harg1 arg2 harg2 arg3 harg3 arg4 harg4 arg5 harg5 arg8 harg8 arg9 harg9 arg10 arg11 arg12 arg13 harg13 arg14 harg14 fa fp fw fga fba fg fb f9 f10) y = (x1Of fa fp fw fga fba) y := by
    intro y hy
    unfold comp.sl.HO_5
    exact (View.canon_cons_of_not_mem ⟨_, _⟩ _ (rows_not 0 inb_S1024x1024_S256x1024_0_0 y (by omega))).trans (hp_0 y)
  have hp_2 : ∀ y : S1024x1024.Idx, 512 ≤ (y 0).val → View.canon (comp.sl.HO_6 c arg1 harg1 arg2 harg2 arg3 harg3 arg4 harg4 arg5 harg5 arg8 harg8 arg9 harg9 arg10 arg11 arg12 arg13 harg13 arg14 harg14 fa fp fw fga fba fg fb f9 f10) y = (x1Of fa fp fw fga fba) y := by
    intro y hy
    unfold comp.sl.HO_6
    exact (View.canon_cons_of_not_mem ⟨_, _⟩ _ (rows_not 256 inb_S1024x1024_S256x1024_256_0 y (by omega))).trans (hp_1 y (by omega))
  have hp_3 : ∀ y : S1024x1024.Idx, 768 ≤ (y 0).val → View.canon (comp.sl.HO_7 c arg1 harg1 arg2 harg2 arg3 harg3 arg4 harg4 arg5 harg5 arg8 harg8 arg9 harg9 arg10 arg11 arg12 arg13 harg13 arg14 harg14 fa fp fw fga fba fg fb f9 f10) y = (x1Of fa fp fw fga fba) y := by
    intro y hy
    unfold comp.sl.HO_7
    exact (View.canon_cons_of_not_mem ⟨_, _⟩ _ (rows_not 512 inb_S1024x1024_S256x1024_512_0 y (by omega))).trans (hp_2 y (by omega))
  have hr_0 : comp.sl.v135 c arg1 harg1 arg2 harg2 arg3 harg3 arg4 harg4 arg5 harg5 arg10 fa fp fw fga fba = rowsOf (x1Of fa fp fw fga fba) 0 := by
    unfold comp.sl.v135
    rw [View.readCov_eq_canon']
    funext j
    have hj : (j 0).val < 256 := (j 0).isLt
    refine (hp_0 _).trans ?_
    unfold rowsOf
    refine congrArg (x1Of fa fp fw fga fba) (funext fun a => ?_)
    match a with
    | ⟨0, _⟩ => exact Fin.ext (by show 0 + 1 * (j 0).val = (256 * 0 + (j 0).val) % 1024; omega)
    | ⟨1, _⟩ => exact Fin.ext (by show 0 + 1 * (j 1).val = (j 1).val; omega)
  have hr_1 : comp.sl.v384 c arg1 harg1 arg2 harg2 arg3 harg3 arg4 harg4 arg5 harg5 arg8 harg8 arg9 harg9 arg10 arg11 arg12 arg13 harg13 arg14 harg14 fa fp fw fga fba fg fb f9 f10 = rowsOf (x1Of fa fp fw fga fba) 1 := by
    unfold comp.sl.v384
    rw [View.readCov_eq_canon']
    funext j
    have hj : (j 0).val < 256 := (j 0).isLt
    refine (hp_1 _ (by show 256 ≤ 256 + 1 * (j 0).val; omega)).trans ?_
    unfold rowsOf
    refine congrArg (x1Of fa fp fw fga fba) (funext fun a => ?_)
    match a with
    | ⟨0, _⟩ => exact Fin.ext (by show 256 + 1 * (j 0).val = (256 * 1 + (j 0).val) % 1024; omega)
    | ⟨1, _⟩ => exact Fin.ext (by show 0 + 1 * (j 1).val = (j 1).val; omega)
  have hr_2 : comp.sl.v633 c arg1 harg1 arg2 harg2 arg3 harg3 arg4 harg4 arg5 harg5 arg8 harg8 arg9 harg9 arg10 arg11 arg12 arg13 harg13 arg14 harg14 fa fp fw fga fba fg fb f9 f10 = rowsOf (x1Of fa fp fw fga fba) 2 := by
    unfold comp.sl.v633
    rw [View.readCov_eq_canon']
    funext j
    have hj : (j 0).val < 256 := (j 0).isLt
    refine (hp_2 _ (by show 512 ≤ 512 + 1 * (j 0).val; omega)).trans ?_
    unfold rowsOf
    refine congrArg (x1Of fa fp fw fga fba) (funext fun a => ?_)
    match a with
    | ⟨0, _⟩ => exact Fin.ext (by show 512 + 1 * (j 0).val = (256 * 2 + (j 0).val) % 1024; omega)
    | ⟨1, _⟩ => exact Fin.ext (by show 0 + 1 * (j 1).val = (j 1).val; omega)
  have hr_3 : comp.sl.v882 c arg1 harg1 arg2 harg2 arg3 harg3 arg4 harg4 arg5 harg5 arg8 harg8 arg9 harg9 arg10 arg11 arg12 arg13 harg13 arg14 harg14 fa fp fw fga fba fg fb f9 f10 = rowsOf (x1Of fa fp fw fga fba) 3 := by
    unfold comp.sl.v882
    rw [View.readCov_eq_canon']
    funext j
    have hj : (j 0).val < 256 := (j 0).isLt
    refine (hp_3 _ (by show 768 ≤ 768 + 1 * (j 0).val; omega)).trans ?_
    unfold rowsOf
    refine congrArg (x1Of fa fp fw fga fba) (funext fun a => ?_)
    match a with
    | ⟨0, _⟩ => exact Fin.ext (by show 768 + 1 * (j 0).val = (256 * 3 + (j 0).val) % 1024; omega)
    | ⟨1, _⟩ => exact Fin.ext (by show 0 + 1 * (j 1).val = (j 1).val; omega)
  have hx_v141 : comp.sl.v141 c arg1 harg1 arg2 harg2 arg3 harg3 arg4 harg4 arg5 harg5 arg10 arg11 fa fp fw fga fba = xbOf (x1Of fa fp fw fga fba) 0 := by
    unfold comp.sl.v141 comp.sl.HS0_1
    rw [View.readCov_cons_toLoadRect]
    exact (rows_eq_0 (comp.sl.v135 c arg1 harg1 arg2 harg2 arg3 harg3 arg4 harg4 arg5 harg5 arg10 fa fp fw fga fba)).trans (congrArg k0_pay63 hr_0)
  have hx_v390 : comp.sl.v390 c arg1 harg1 arg2 harg2 arg3 harg3 arg4 harg4 arg5 harg5 arg8 harg8 arg9 harg9 arg10 arg11 arg12 arg13 harg13 arg14 harg14 fa fp fw fga fba fg fb f9 f10 = xbOf (x1Of fa fp fw fga fba) 1 := by
    unfold comp.sl.v390 comp.sl.HS0_2
    rw [View.readCov_cons_toLoadRect]
    exact (rows_eq_1 (comp.sl.v384 c arg1 harg1 arg2 harg2 arg3 harg3 arg4 harg4 arg5 harg5 arg8 harg8 arg9 harg9 arg10 arg11 arg12 arg13 harg13 arg14 harg14 fa fp fw fga fba fg fb f9 f10)).trans (congrArg k0_pay63 hr_1)
  have hx_v639 : comp.sl.v639 c arg1 harg1 arg2 harg2 arg3 harg3 arg4 harg4 arg5 harg5 arg8 harg8 arg9 harg9 arg10 arg11 arg12 arg13 harg13 arg14 harg14 fa fp fw fga fba fg fb f9 f10 = xbOf (x1Of fa fp fw fga fba) 2 := by
    unfold comp.sl.v639 comp.sl.HS0_3
    rw [View.readCov_cons_toLoadRect]
    exact (rows_eq_2 (comp.sl.v633 c arg1 harg1 arg2 harg2 arg3 harg3 arg4 harg4 arg5 harg5 arg8 harg8 arg9 harg9 arg10 arg11 arg12 arg13 harg13 arg14 harg14 fa fp fw fga fba fg fb f9 f10)).trans (congrArg k0_pay63 hr_2)
  have hx_v888 : comp.sl.v888 c arg1 harg1 arg2 harg2 arg3 harg3 arg4 harg4 arg5 harg5 arg8 harg8 arg9 harg9 arg10 arg11 arg12 arg13 harg13 arg14 harg14 fa fp fw fga fba fg fb f9 f10 = xbOf (x1Of fa fp fw fga fba) 3 := by
    unfold comp.sl.v888 comp.sl.HS0_4
    rw [View.readCov_cons_toLoadRect]
    exact (rows_eq_3 (comp.sl.v882 c arg1 harg1 arg2 harg2 arg3 harg3 arg4 harg4 arg5 harg5 arg8 harg8 arg9 harg9 arg10 arg11 arg12 arg13 harg13 arg14 harg14 fa fp fw fga fba fg fb f9 f10)).trans (congrArg k0_pay63 hr_3)
  have hs_v350 : ∀ y : S2x256x2816.Idx, (y 0).val = 0 → View.canon (comp.sl.HS1_11 c arg1 harg1 arg2 harg2 arg3 harg3 arg4 harg4 arg5 harg5 arg10 arg11 arg13 harg13 fa fp fw fga fba f9) y = hidOf (x1Of fa fp fw fga fba) f9 0 (y 1) (y 2) := by
    intro y hy
    unfold comp.sl.HS1_11
    exact slot_read (fun y => hidOf (x1Of fa fp fw fga fba) f9 0 (y 1) (y 2)) 0 _ _ _ _ _ _ _ _ _ _ _  _ _ _ _ _ _ _ _ _ _ _ _
      (fun x => (congrFun (chunk_eq_0_0 (comp.sl.v141 c arg1 harg1 arg2 harg2 arg3 harg3 arg4 harg4 arg5 harg5 arg10 arg11 fa fp fw fga fba) _ _) x).trans (hidPiece arg13 harg13 (x1Of fa fp fw fga fba) f9 0 0 0 2816 0 rfl rfl (by decide) inb_S1024x5632_S1024x256_0_0 inb_S1024x5632_S1024x256_0_2816 inb_S2x256x2816_S1x256x256_0_0_0 _ hx_v141 x))
      (fun x => (congrFun (chunk_eq_0_1 (comp.sl.v141 c arg1 harg1 arg2 harg2 arg3 harg3 arg4 harg4 arg5 harg5 arg10 arg11 fa fp fw fga fba) _ _) x).trans (hidPiece arg13 harg13 (x1Of fa fp fw fga fba) f9 0 1 256 3072 0 rfl rfl (by decide) inb_S1024x5632_S1024x256_0_256 inb_S1024x5632_S1024x256_0_3072 inb_S2x256x2816_S1x256x256_0_0_256 _ hx_v141 x))
      (fun x => (congrFun (chunk_eq_0_2 (comp.sl.v141 c arg1 harg1 arg2 harg2 arg3 harg3 arg4 harg4 arg5 harg5 arg10 arg11 fa fp fw fga fba) _ _) x).trans (hidPiece arg13 harg13 (x1Of fa fp fw fga fba) f9 0 2 512 3328 0 rfl rfl (by decide) inb_S1024x5632_S1024x256_0_512 inb_S1024x5632_S1024x256_0_3328 inb_S2x256x2816_S1x256x256_0_0_512 _ hx_v141 x))
      (fun x => (congrFun (chunk_eq_0_3 (comp.sl.v141 c arg1 harg1 arg2 harg2 arg3 harg3 arg4 harg4 arg5 harg5 arg10 arg11 fa fp fw fga fba) _ _) x).trans (hidPiece arg13 harg13 (x1Of fa fp fw fga fba) f9 0 3 768 3584 0 rfl rfl (by decide) inb_S1024x5632_S1024x256_0_768 inb_S1024x5632_S1024x256_0_3584 inb_S2x256x2816_S1x256x256_0_0_768 _ hx_v141 x))
      (fun x => (congrFun (chunk_eq_0_4 (comp.sl.v141 c arg1 harg1 arg2 harg2 arg3 harg3 arg4 harg4 arg5 harg5 arg10 arg11 fa fp fw fga fba) _ _) x).trans (hidPiece arg13 harg13 (x1Of fa fp fw fga fba) f9 0 4 1024 3840 0 rfl rfl (by decide) inb_S1024x5632_S1024x256_0_1024 inb_S1024x5632_S1024x256_0_3840 inb_S2x256x2816_S1x256x256_0_0_1024 _ hx_v141 x))
      (fun x => (congrFun (chunk_eq_0_5 (comp.sl.v141 c arg1 harg1 arg2 harg2 arg3 harg3 arg4 harg4 arg5 harg5 arg10 arg11 fa fp fw fga fba) _ _) x).trans (hidPiece arg13 harg13 (x1Of fa fp fw fga fba) f9 0 5 1280 4096 0 rfl rfl (by decide) inb_S1024x5632_S1024x256_0_1280 inb_S1024x5632_S1024x256_0_4096 inb_S2x256x2816_S1x256x256_0_0_1280 _ hx_v141 x))
      (fun x => (congrFun (chunk_eq_0_6 (comp.sl.v141 c arg1 harg1 arg2 harg2 arg3 harg3 arg4 harg4 arg5 harg5 arg10 arg11 fa fp fw fga fba) _ _) x).trans (hidPiece arg13 harg13 (x1Of fa fp fw fga fba) f9 0 6 1536 4352 0 rfl rfl (by decide) inb_S1024x5632_S1024x256_0_1536 inb_S1024x5632_S1024x256_0_4352 inb_S2x256x2816_S1x256x256_0_0_1536 _ hx_v141 x))
      (fun x => (congrFun (chunk_eq_0_7 (comp.sl.v141 c arg1 harg1 arg2 harg2 arg3 harg3 arg4 harg4 arg5 harg5 arg10 arg11 fa fp fw fga fba) _ _) x).trans (hidPiece arg13 harg13 (x1Of fa fp fw fga fba) f9 0 7 1792 4608 0 rfl rfl (by decide) inb_S1024x5632_S1024x256_0_1792 inb_S1024x5632_S1024x256_0_4608 inb_S2x256x2816_S1x256x256_0_0_1792 _ hx_v141 x))
      (fun x => (congrFun (chunk_eq_0_8 (comp.sl.v141 c arg1 harg1 arg2 harg2 arg3 harg3 arg4 harg4 arg5 harg5 arg10 arg11 fa fp fw fga fba) _ _) x).trans (hidPiece arg13 harg13 (x1Of fa fp fw fga fba) f9 0 8 2048 4864 0 rfl rfl (by decide) inb_S1024x5632_S1024x256_0_2048 inb_S1024x5632_S1024x256_0_4864 inb_S2x256x2816_S1x256x256_0_0_2048 _ hx_v141 x))
      (fun x => (congrFun (chunk_eq_0_9 (comp.sl.v141 c arg1 harg1 arg2 harg2 arg3 harg3 arg4 harg4 arg5 harg5 arg10 arg11 fa fp fw fga fba) _ _) x).trans (hidPiece arg13 harg13 (x1Of fa fp fw fga fba) f9 0 9 2304 5120 0 rfl rfl (by decide) inb_S1024x5632_S1024x256_0_2304 inb_S1024x5632_S1024x256_0_5120 inb_S2x256x2816_S1x256x256_0_0_2304 _ hx_v141 x))
      (fun x => (congrFun (chunk_eq_0_10 (comp.sl.v141 c arg1 harg1 arg2 harg2 arg3 harg3 arg4 harg4 arg5 harg5 arg10 arg11 fa fp fw fga fba) _ _) x).trans (hidPiece arg13 harg13 (x1Of fa fp fw fga fba) f9 0 10 2560 5376 0 rfl rfl (by decide) inb_S1024x5632_S1024x256_0_2560 inb_S1024x5632_S1024x256_0_5376 inb_S2x256x2816_S1x256x256_0_0_2560 _ hx_v141 x))
      y hy
  have hh_v350 : comp.sl.v350 c arg1 harg1 arg2 harg2 arg3 harg3 arg4 harg4 arg5 harg5 arg10 arg11 arg12 arg13 harg13 fa fp fw fga fba f9 = hidVec (x1Of fa fp fw fga fba) f9 0 := by
    unfold comp.sl.v350
    rw [View.readCov_eq_canon']
    funext j
    have hj0 : (j 0).val < 1 := (j 0).isLt
    refine (hs_v350 _ (by show 0 + 1 * (j 0).val = 0; omega)).trans ?_
    unfold hidVec
    refine congrArg₂ (hidOf (x1Of fa fp fw fga fba) f9 0) (Fin.ext ?_) (Fin.ext ?_)
    · show 0 + 1 * (j 1).val = (j 1).val; omega
    · show 0 + 1 * (j 2).val = (j 2).val; omega
  have hs_v599 : ∀ y : S2x256x2816.Idx, (y 0).val = 1 → View.canon (comp.sl.HS1_22 c arg1 harg1 arg2 harg2 arg3 harg3 arg4 harg4 arg5 harg5 arg8 harg8 arg9 harg9 arg10 arg11 arg12 arg13 harg13 arg14 harg14 fa fp fw fga fba fg fb f9 f10) y = hidOf (x1Of fa fp fw fga fba) f9 1 (y 1) (y 2) := by
    intro y hy
    unfold comp.sl.HS1_22
    exact slot_read (fun y => hidOf (x1Of fa fp fw fga fba) f9 1 (y 1) (y 2)) 1 _ _ _ _ _ _ _ _ _ _ _  _ _ _ _ _ _ _ _ _ _ _ _
      (fun x => (congrFun (chunk_eq_1_0 (comp.sl.v390 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 1 0 0 2816 1 rfl rfl (by decide) inb_S1024x5632_S1024x256_0_0 inb_S1024x5632_S1024x256_0_2816 inb_S2x256x2816_S1x256x256_1_0_0 _ hx_v390 x))
      (fun x => (congrFun (chunk_eq_1_1 (comp.sl.v390 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 1 1 256 3072 1 rfl rfl (by decide) inb_S1024x5632_S1024x256_0_256 inb_S1024x5632_S1024x256_0_3072 inb_S2x256x2816_S1x256x256_1_0_256 _ hx_v390 x))
      (fun x => (congrFun (chunk_eq_1_2 (comp.sl.v390 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 1 2 512 3328 1 rfl rfl (by decide) inb_S1024x5632_S1024x256_0_512 inb_S1024x5632_S1024x256_0_3328 inb_S2x256x2816_S1x256x256_1_0_512 _ hx_v390 x))
      (fun x => (congrFun (chunk_eq_1_3 (comp.sl.v390 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 1 3 768 3584 1 rfl rfl (by decide) inb_S1024x5632_S1024x256_0_768 inb_S1024x5632_S1024x256_0_3584 inb_S2x256x2816_S1x256x256_1_0_768 _ hx_v390 x))
      (fun x => (congrFun (chunk_eq_1_4 (comp.sl.v390 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 1 4 1024 3840 1 rfl rfl (by decide) inb_S1024x5632_S1024x256_0_1024 inb_S1024x5632_S1024x256_0_3840 inb_S2x256x2816_S1x256x256_1_0_1024 _ hx_v390 x))
      (fun x => (congrFun (chunk_eq_1_5 (comp.sl.v390 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 1 5 1280 4096 1 rfl rfl (by decide) inb_S1024x5632_S1024x256_0_1280 inb_S1024x5632_S1024x256_0_4096 inb_S2x256x2816_S1x256x256_1_0_1280 _ hx_v390 x))
      (fun x => (congrFun (chunk_eq_1_6 (comp.sl.v390 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 1 6 1536 4352 1 rfl rfl (by decide) inb_S1024x5632_S1024x256_0_1536 inb_S1024x5632_S1024x256_0_4352 inb_S2x256x2816_S1x256x256_1_0_1536 _ hx_v390 x))
      (fun x => (congrFun (chunk_eq_1_7 (comp.sl.v390 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 1 7 1792 4608 1 rfl rfl (by decide) inb_S1024x5632_S1024x256_0_1792 inb_S1024x5632_S1024x256_0_4608 inb_S2x256x2816_S1x256x256_1_0_1792 _ hx_v390 x))
      (fun x => (congrFun (chunk_eq_1_8 (comp.sl.v390 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 1 8 2048 4864 1 rfl rfl (by decide) inb_S1024x5632_S1024x256_0_2048 inb_S1024x5632_S1024x256_0_4864 inb_S2x256x2816_S1x256x256_1_0_2048 _ hx_v390 x))
      (fun x => (congrFun (chunk_eq_1_9 (comp.sl.v390 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 1 9 2304 5120 1 rfl rfl (by decide) inb_S1024x5632_S1024x256_0_2304 inb_S1024x5632_S1024x256_0_5120 inb_S2x256x2816_S1x256x256_1_0_2304 _ hx_v390 x))
      (fun x => (congrFun (chunk_eq_1_10 (comp.sl.v390 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 1 10 2560 5376 1 rfl rfl (by decide) inb_S1024x5632_S1024x256_0_2560 inb_S1024x5632_S1024x256_0_5376 inb_S2x256x2816_S1x256x256_1_0_2560 _ hx_v390 x))
      y hy
  have hh_v599 : comp.sl.v599 c arg1 harg1 arg2 harg2 arg3 harg3 arg4 harg4 arg5 harg5 arg8 harg8 arg9 harg9 arg10 arg11 arg12 arg13 harg13 arg14 harg14 fa fp fw fga fba fg fb f9 f10 = hidVec (x1Of fa fp fw fga fba) f9 1 := by
    unfold comp.sl.v599
    rw [View.readCov_eq_canon']
    funext j
    have hj0 : (j 0).val < 1 := (j 0).isLt
    refine (hs_v599 _ (by show 1 + 1 * (j 0).val = 1; omega)).trans ?_
    unfold hidVec
    refine congrArg₂ (hidOf (x1Of fa fp fw fga fba) f9 1) (Fin.ext ?_) (Fin.ext ?_)
    · show 0 + 1 * (j 1).val = (j 1).val; omega
    · show 0 + 1 * (j 2).val = (j 2).val; omega
  have hs_v848 : ∀ y : S2x256x2816.Idx, (y 0).val = 0 → View.canon (comp.sl.HS1_33 c arg1 harg1 arg2 harg2 arg3 harg3 arg4 harg4 arg5 harg5 arg8 harg8 arg9 harg9 arg10 arg11 arg12 arg13 harg13 arg14 harg14 fa fp fw fga fba fg fb f9 f10) y = hidOf (x1Of fa fp fw fga fba) f9 2 (y 1) (y 2) := by
    intro y hy
    unfold comp.sl.HS1_33 comp.sl.HS1_23
    exact slot_read (fun y => hidOf (x1Of fa fp fw fga fba) f9 2 (y 1) (y 2)) 0 _ _ _ _ _ _ _ _ _ _ _  _ _ _ _ _ _ _ _ _ _ _ _
      (fun x => (congrFun (chunk_eq_2_0 (comp.sl.v639 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 2 0 0 2816 0 rfl rfl (by decide) inb_S1024x5632_S1024x256_0_0 inb_S1024x5632_S1024x256_0_2816 inb_S2x256x2816_S1x256x256_0_0_0 _ hx_v639 x))
      (fun x => (congrFun (chunk_eq_2_1 (comp.sl.v639 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 2 1 256 3072 0 rfl rfl (by decide) inb_S1024x5632_S1024x256_0_256 inb_S1024x5632_S1024x256_0_3072 inb_S2x256x2816_S1x256x256_0_0_256 _ hx_v639 x))
      (fun x => (congrFun (chunk_eq_2_2 (comp.sl.v639 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 2 2 512 3328 0 rfl rfl (by decide) inb_S1024x5632_S1024x256_0_512 inb_S1024x5632_S1024x256_0_3328 inb_S2x256x2816_S1x256x256_0_0_512 _ hx_v639 x))
      (fun x => (congrFun (chunk_eq_2_3 (comp.sl.v639 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 2 3 768 3584 0 rfl rfl (by decide) inb_S1024x5632_S1024x256_0_768 inb_S1024x5632_S1024x256_0_3584 inb_S2x256x2816_S1x256x256_0_0_768 _ hx_v639 x))
      (fun x => (congrFun (chunk_eq_2_4 (comp.sl.v639 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 2 4 1024 3840 0 rfl rfl (by decide) inb_S1024x5632_S1024x256_0_1024 inb_S1024x5632_S1024x256_0_3840 inb_S2x256x2816_S1x256x256_0_0_1024 _ hx_v639 x))
      (fun x => (congrFun (chunk_eq_2_5 (comp.sl.v639 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 2 5 1280 4096 0 rfl rfl (by decide) inb_S1024x5632_S1024x256_0_1280 inb_S1024x5632_S1024x256_0_4096 inb_S2x256x2816_S1x256x256_0_0_1280 _ hx_v639 x))
      (fun x => (congrFun (chunk_eq_2_6 (comp.sl.v639 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 2 6 1536 4352 0 rfl rfl (by decide) inb_S1024x5632_S1024x256_0_1536 inb_S1024x5632_S1024x256_0_4352 inb_S2x256x2816_S1x256x256_0_0_1536 _ hx_v639 x))
      (fun x => (congrFun (chunk_eq_2_7 (comp.sl.v639 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 2 7 1792 4608 0 rfl rfl (by decide) inb_S1024x5632_S1024x256_0_1792 inb_S1024x5632_S1024x256_0_4608 inb_S2x256x2816_S1x256x256_0_0_1792 _ hx_v639 x))
      (fun x => (congrFun (chunk_eq_2_8 (comp.sl.v639 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 2 8 2048 4864 0 rfl rfl (by decide) inb_S1024x5632_S1024x256_0_2048 inb_S1024x5632_S1024x256_0_4864 inb_S2x256x2816_S1x256x256_0_0_2048 _ hx_v639 x))
      (fun x => (congrFun (chunk_eq_2_9 (comp.sl.v639 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 2 9 2304 5120 0 rfl rfl (by decide) inb_S1024x5632_S1024x256_0_2304 inb_S1024x5632_S1024x256_0_5120 inb_S2x256x2816_S1x256x256_0_0_2304 _ hx_v639 x))
      (fun x => (congrFun (chunk_eq_2_10 (comp.sl.v639 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 2 10 2560 5376 0 rfl rfl (by decide) inb_S1024x5632_S1024x256_0_2560 inb_S1024x5632_S1024x256_0_5376 inb_S2x256x2816_S1x256x256_0_0_2560 _ hx_v639 x))
      y hy
  have hh_v848 : comp.sl.v848 c arg1 harg1 arg2 harg2 arg3 harg3 arg4 harg4 arg5 harg5 arg8 harg8 arg9 harg9 arg10 arg11 arg12 arg13 harg13 arg14 harg14 fa fp fw fga fba fg fb f9 f10 = hidVec (x1Of fa fp fw fga fba) f9 2 := by
    unfold comp.sl.v848
    rw [View.readCov_eq_canon']
    funext j
    have hj0 : (j 0).val < 1 := (j 0).isLt
    refine (hs_v848 _ (by show 0 + 1 * (j 0).val = 0; omega)).trans ?_
    unfold hidVec
    refine congrArg₂ (hidOf (x1Of fa fp fw fga fba) f9 2) (Fin.ext ?_) (Fin.ext ?_)
    · show 0 + 1 * (j 1).val = (j 1).val; omega
    · show 0 + 1 * (j 2).val = (j 2).val; omega
  have hs_v1097 : ∀ y : S2x256x2816.Idx, (y 0).val = 1 → View.canon (comp.sl.HS1_44 c arg1 harg1 arg2 harg2 arg3 harg3 arg4 harg4 arg5 harg5 arg8 harg8 arg9 harg9 arg10 arg11 arg12 arg13 harg13 arg14 harg14 fa fp fw fga fba fg fb f9 f10) y = hidOf (x1Of fa fp fw fga fba) f9 3 (y 1) (y 2) := by
    intro y hy
    unfold comp.sl.HS1_44
    exact slot_read (fun y => hidOf (x1Of fa fp fw fga fba) f9 3 (y 1) (y 2)) 1 _ _ _ _ _ _ _ _ _ _ _  _ _ _ _ _ _ _ _ _ _ _ _
      (fun x => (congrFun (chunk_eq_3_0 (comp.sl.v888 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 3 0 0 2816 1 rfl rfl (by decide) inb_S1024x5632_S1024x256_0_0 inb_S1024x5632_S1024x256_0_2816 inb_S2x256x2816_S1x256x256_1_0_0 _ hx_v888 x))
      (fun x => (congrFun (chunk_eq_3_1 (comp.sl.v888 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 3 1 256 3072 1 rfl rfl (by decide) inb_S1024x5632_S1024x256_0_256 inb_S1024x5632_S1024x256_0_3072 inb_S2x256x2816_S1x256x256_1_0_256 _ hx_v888 x))
      (fun x => (congrFun (chunk_eq_3_2 (comp.sl.v888 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 3 2 512 3328 1 rfl rfl (by decide) inb_S1024x5632_S1024x256_0_512 inb_S1024x5632_S1024x256_0_3328 inb_S2x256x2816_S1x256x256_1_0_512 _ hx_v888 x))
      (fun x => (congrFun (chunk_eq_3_3 (comp.sl.v888 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 3 3 768 3584 1 rfl rfl (by decide) inb_S1024x5632_S1024x256_0_768 inb_S1024x5632_S1024x256_0_3584 inb_S2x256x2816_S1x256x256_1_0_768 _ hx_v888 x))
      (fun x => (congrFun (chunk_eq_3_4 (comp.sl.v888 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 3 4 1024 3840 1 rfl rfl (by decide) inb_S1024x5632_S1024x256_0_1024 inb_S1024x5632_S1024x256_0_3840 inb_S2x256x2816_S1x256x256_1_0_1024 _ hx_v888 x))
      (fun x => (congrFun (chunk_eq_3_5 (comp.sl.v888 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 3 5 1280 4096 1 rfl rfl (by decide) inb_S1024x5632_S1024x256_0_1280 inb_S1024x5632_S1024x256_0_4096 inb_S2x256x2816_S1x256x256_1_0_1280 _ hx_v888 x))
      (fun x => (congrFun (chunk_eq_3_6 (comp.sl.v888 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 3 6 1536 4352 1 rfl rfl (by decide) inb_S1024x5632_S1024x256_0_1536 inb_S1024x5632_S1024x256_0_4352 inb_S2x256x2816_S1x256x256_1_0_1536 _ hx_v888 x))
      (fun x => (congrFun (chunk_eq_3_7 (comp.sl.v888 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 3 7 1792 4608 1 rfl rfl (by decide) inb_S1024x5632_S1024x256_0_1792 inb_S1024x5632_S1024x256_0_4608 inb_S2x256x2816_S1x256x256_1_0_1792 _ hx_v888 x))
      (fun x => (congrFun (chunk_eq_3_8 (comp.sl.v888 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 3 8 2048 4864 1 rfl rfl (by decide) inb_S1024x5632_S1024x256_0_2048 inb_S1024x5632_S1024x256_0_4864 inb_S2x256x2816_S1x256x256_1_0_2048 _ hx_v888 x))
      (fun x => (congrFun (chunk_eq_3_9 (comp.sl.v888 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 3 9 2304 5120 1 rfl rfl (by decide) inb_S1024x5632_S1024x256_0_2304 inb_S1024x5632_S1024x256_0_5120 inb_S2x256x2816_S1x256x256_1_0_2304 _ hx_v888 x))
      (fun x => (congrFun (chunk_eq_3_10 (comp.sl.v888 c arg1 harg1 arg2 harg2 arg3 harg3 arg4 harg4 arg5 harg5 arg8 harg8 arg9 harg9 arg10 arg11 arg12 arg13 harg13 arg14 harg14 fa fp fw fga fba fg fb f9 f10) _ _) x).trans (hidPiece arg13 harg13 (x1Of fa fp fw fga fba) f9 3 10 2560 5376 1 rfl rfl (by decide) inb_S1024x5632_S1024x256_0_2560 inb_S1024x5632_S1024x256_0_5376 inb_S2x256x2816_S1x256x256_1_0_2560 _ hx_v888 x))
      y hy
  have hh_v1097 : comp.sl.v1097 c arg1 harg1 arg2 harg2 arg3 harg3 arg4 harg4 arg5 harg5 arg8 harg8 arg9 harg9 arg10 arg11 arg12 arg13 harg13 arg14 harg14 fa fp fw fga fba fg fb f9 f10 = hidVec (x1Of fa fp fw fga fba) f9 3 := by
    unfold comp.sl.v1097
    rw [View.readCov_eq_canon']
    funext j
    have hj0 : (j 0).val < 1 := (j 0).isLt
    refine (hs_v1097 _ (by show 1 + 1 * (j 0).val = 1; omega)).trans ?_
    unfold hidVec
    refine congrArg₂ (hidOf (x1Of fa fp fw fga fba) f9 3) (Fin.ext ?_) (Fin.ext ?_)
    · show 0 + 1 * (j 1).val = (j 1).val; omega
    · show 0 + 1 * (j 2).val = (j 2).val; omega
  iapply Hk
  isplitl [HX]
  · iexists _
    isplitr; swap; · iexact HX
    ipureintro; exact h1_
  isplitl [HA]
  · iexists _
    isplitr; swap; · iexact HA
    ipureintro; exact h2_
  isplitl [HM]
  · iexists _
    isplitr; swap; · iexact HM
    ipureintro; exact h3_
  isplitl [HC]
  · iexists _
    isplitr; swap; · iexact HC
    ipureintro; exact h4_
  isplitl [HD]
  · iexists _
    isplitr; swap; · iexact HD
    ipureintro; exact h5_
  isplitl [HG]
  · iexists _
    isplitr; swap; · iexact HG
    ipureintro; exact h8_
  isplitl [HB]
  · iexists _
    isplitr; swap; · iexact HB
    ipureintro; exact h9_
  isplitl [HO]
  · iexists _
    isplitr; swap; · iexact HO
    ipureintro
    funext y
    unfold comp.sl.HO_7 comp.sl.HO_6 comp.sl.HO_5
    exact out_read _ _ (blkOf (x1Of fa fp fw fga fba) fg fb f9 f10) _ _ _ _ _ _ _ _ _
      (fun x => (congrFun (tail_eq_0 (comp.sl.v135 c arg1 harg1 arg2 harg2 arg3 harg3 arg4 harg4 arg5 harg5 arg10 fa fp fw fga fba) (comp.sl.v350 c arg1 harg1 arg2 harg2 arg3 harg3 arg4 harg4 arg5 harg5 arg10 arg11 arg12 arg13 harg13 fa fp fw fga fba f9) (View.readAt (Elt F) arg14.view (Rect.unit (s := S2816x1024) ![0, 0] S2816x1024.size inb_S2816x1024_S2816x1024_0_0).toLoadRect (harg14.unread f10)) (View.readAt (Elt F) arg8.view (Rect.unit (s := S1x1024) ![0, 0] S1x1024.size inb_S1x1024_S1x1024_0_0).toLoadRect (harg8.unread fg)) (View.readAt (Elt F) arg9.view (Rect.unit (s := S1x1024) ![0, 0] S1x1024.size inb_S1x1024_S1x1024_0_0).toLoadRect (harg9.unread fb))) x).trans (outPiece (x1Of fa fp fw fga fba) fg fb f9 f10 0 0 rfl inb_S1024x1024_S256x1024_0_0 _ _ _ _ _
        hr_0 hh_v350 (rd_whole arg14 harg14 f10 _ (by decide) _) (rd_whole arg8 harg8 fg _ (by decide) _) (rd_whole arg9 harg9 fb _ (by decide) _) x))
      (fun x => (congrFun (tail_eq_1 (comp.sl.v384 c arg1 harg1 arg2 harg2 arg3 harg3 arg4 harg4 arg5 harg5 arg8 harg8 arg9 harg9 arg10 arg11 arg12 arg13 harg13 arg14 harg14 fa fp fw fga fba fg fb f9 f10) (comp.sl.v599 c arg1 harg1 arg2 harg2 arg3 harg3 arg4 harg4 arg5 harg5 arg8 harg8 arg9 harg9 arg10 arg11 arg12 arg13 harg13 arg14 harg14 fa fp fw fga fba fg fb f9 f10) (View.readAt (Elt F) arg14.view (Rect.unit (s := S2816x1024) ![0, 0] S2816x1024.size inb_S2816x1024_S2816x1024_0_0).toLoadRect (harg14.unread f10)) (View.readAt (Elt F) arg8.view (Rect.unit (s := S1x1024) ![0, 0] S1x1024.size inb_S1x1024_S1x1024_0_0).toLoadRect (harg8.unread fg)) (View.readAt (Elt F) arg9.view (Rect.unit (s := S1x1024) ![0, 0] S1x1024.size inb_S1x1024_S1x1024_0_0).toLoadRect (harg9.unread fb))) x).trans (outPiece (x1Of fa fp fw fga fba) fg fb f9 f10 1 256 rfl inb_S1024x1024_S256x1024_256_0 _ _ _ _ _
        hr_1 hh_v599 (rd_whole arg14 harg14 f10 _ (by decide) _) (rd_whole arg8 harg8 fg _ (by decide) _) (rd_whole arg9 harg9 fb _ (by decide) _) x))
      (fun x => (congrFun (tail_eq_2 (comp.sl.v633 c arg1 harg1 arg2 harg2 arg3 harg3 arg4 harg4 arg5 harg5 arg8 harg8 arg9 harg9 arg10 arg11 arg12 arg13 harg13 arg14 harg14 fa fp fw fga fba fg fb f9 f10) (comp.sl.v848 c arg1 harg1 arg2 harg2 arg3 harg3 arg4 harg4 arg5 harg5 arg8 harg8 arg9 harg9 arg10 arg11 arg12 arg13 harg13 arg14 harg14 fa fp fw fga fba fg fb f9 f10) (View.readAt (Elt F) arg14.view (Rect.unit (s := S2816x1024) ![0, 0] S2816x1024.size inb_S2816x1024_S2816x1024_0_0).toLoadRect (harg14.unread f10)) (View.readAt (Elt F) arg8.view (Rect.unit (s := S1x1024) ![0, 0] S1x1024.size inb_S1x1024_S1x1024_0_0).toLoadRect (harg8.unread fg)) (View.readAt (Elt F) arg9.view (Rect.unit (s := S1x1024) ![0, 0] S1x1024.size inb_S1x1024_S1x1024_0_0).toLoadRect (harg9.unread fb))) x).trans (outPiece (x1Of fa fp fw fga fba) fg fb f9 f10 2 512 rfl inb_S1024x1024_S256x1024_512_0 _ _ _ _ _
        hr_2 hh_v848 (rd_whole arg14 harg14 f10 _ (by decide) _) (rd_whole arg8 harg8 fg _ (by decide) _) (rd_whole arg9 harg9 fb _ (by decide) _) x))
      (fun x => (congrFun (tail_eq_3 (comp.sl.v882 c arg1 harg1 arg2 harg2 arg3 harg3 arg4 harg4 arg5 harg5 arg8 harg8 arg9 harg9 arg10 arg11 arg12 arg13 harg13 arg14 harg14 fa fp fw fga fba fg fb f9 f10) (comp.sl.v1097 c arg1 harg1 arg2 harg2 arg3 harg3 arg4 harg4 arg5 harg5 arg8 harg8 arg9 harg9 arg10 arg11 arg12 arg13 harg13 arg14 harg14 fa fp fw fga fba fg fb f9 f10) (View.readAt (Elt F) arg14.view (Rect.unit (s := S2816x1024) ![0, 0] S2816x1024.size inb_S2816x1024_S2816x1024_0_0).toLoadRect (harg14.unread f10)) (View.readAt (Elt F) arg8.view (Rect.unit (s := S1x1024) ![0, 0] S1x1024.size inb_S1x1024_S1x1024_0_0).toLoadRect (harg8.unread fg)) (View.readAt (Elt F) arg9.view (Rect.unit (s := S1x1024) ![0, 0] S1x1024.size inb_S1x1024_S1x1024_0_0).toLoadRect (harg9.unread fb))) x).trans (outPiece (x1Of fa fp fw fga fba) fg fb f9 f10 3 768 rfl inb_S1024x1024_S256x1024_768_0 _ _ _ _ _
        hr_3 hh_v1097 (rd_whole arg14 harg14 f10 _ (by decide) _) (rd_whole arg8 harg8 fg _ (by decide) _) (rd_whole arg9 harg9 fb _ (by decide) _) x))
      y
  isplitl [HS0]
  · iexists _; iexists _
    isplitr; swap; · iexact HS0
    ipureintro; rfl
  isplitl [HS1]
  · iexists _; iexists _
    isplitr; swap; · iexact HS1
    ipureintro; rfl
  isplitl [HS2]
  · iexists _
    isplitr; swap; · iexact HS2
    ipureintro; exact h9
  iexists _
  isplitr; swap; · iexact HS3
  ipureintro; exact h10

end Cert.FfnPreIdeal.Hand

end
-- ==== Proof.FfnPreIdealStage.lean ====
/- The copies at the first grid point, run to their end. -/
module

public import proofs.«01_k».proof.Proof.FfnPreIdealChunk

@[expose] public section

set_option maxRecDepth 16384

noncomputable section

namespace Cert.FfnPreIdeal.Hand

open Cert.FfnPreIdeal Cert.FfnPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in set_option sl_exec.dmaWindow true in set_option sl_exec.dmaWindowSet true in
/-- The copies, run: both weight buffers end at the rounded weights, the copy cells at zero. -/
theorem stage (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2x256x1024 .bf16) (harg11 : arg11.IsWhole) (arg12 : Memref sig .tc .vmem S2x256x2816 .bf16) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S4x1024x256 .f32) (harg15 : arg15.IsWhole) (arg16 : Memref sig .tc .vmem S4x128x1024 .f32) (harg16 : arg16.IsWhole)
    (fh0 : HbBuf (F := F) c hb0) (fh1 : HbBuf (F := F) c hb1) (W : Waits sig Unit) (K : PUnit → sProp 𝕄) :
    iprop(((∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt c hb0 fh0 ∗ hbPt c hb1 fh1 ∗ owes (c : Thread nD τ) 0 W)
        ∗ ((owns (c : Thread nD τ) arg13 fullShare (guW c fh0) ∗ owns (c : Thread nD τ) arg14 fullShare (dnW c fh1) ∗ (∃ d, owns (c : Thread nD τ) arg15 fullShare d) ∗ (∃ d, owns (c : Thread nD τ) arg16 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt c hb0 fh0 ∗ hbPt c hb1 fh1 ∗ (∃ W', owes (c : Thread nD τ) 0 W')) -∗ K ⟨⟩))
      ⊢ wp frame (wpE (defs₀ (F := F)) Variants.none c none) Set.univ (stageProg (F := F) i arg1 harg1 arg2 harg2 arg3 harg3 arg4 harg4 arg5 harg5 (Memref.whole main_arg5) (Memref.isWhole_whole _) (Memref.whole main_arg6) (Memref.isWhole_whole _) arg8 harg8 arg9 harg9 arg10 harg10 arg11 harg11 arg12 harg12 arg13 harg13 arg14 harg14 arg15 harg15 arg16 harg16 cc0_scratch6 cc0_scratch7) K := by
  unfold stageProg
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold owns
  iintro ⟨⟨⟨%d2, %f2, -, HS2⟩, ⟨%d3, %f3, -, HS3⟩, ⟨%d4, %f4, %hf4, HS4⟩, ⟨%d5, %f5, %hf5, HS5⟩, Hq0, Hq1, Hq2, Hq3, Hq4, Hq5, Hq6, Hq7, Hh0, Hh1, HW⟩, Hk⟩
  obtain rfl := harg15.eq_unread hf4
  obtain rfl := harg16.eq_unread hf5
  sl_exec
  sl_step
  iapply Hk
  isplitl [HS2]
  · iexists _
    isplitr; swap; · iexact HS2
    ipureintro
    funext y
    refine View.read_writes_apply_of_pieces _ _ (guW c fh0) _ ?_ y (View.cover_of_tiledL (s := S1024x5632) _ ![1024, 256] (by sl_kernel_rfl) y)
    refine List.forall_mem_cons.mpr ⟨fun x => guPiece c _ _ _ _ _ (fun y => by unfold stage.sl.v1565; simp (disch := decide) only [guSlot_skip, guSlot_read, guSlot_skip', guSlot_read']; rfl) x, ?_⟩
    refine List.forall_mem_cons.mpr ⟨fun x => guPiece c _ _ _ _ _ (fun y => by unfold stage.sl.v1552; simp (disch := decide) only [guSlot_skip, guSlot_read, guSlot_skip', guSlot_read']; rfl) x, ?_⟩
    refine List.forall_mem_cons.mpr ⟨fun x => guPiece c _ _ _ _ _ (fun y => by unfold stage.sl.v1539; simp (disch := decide) only [guSlot_skip, guSlot_read, guSlot_skip', guSlot_read']; rfl) x, ?_⟩
    refine List.forall_mem_cons.mpr ⟨fun x => guPiece c _ _ _ _ _ (fun y => by unfold stage.sl.v1526; simp (disch := decide) only [guSlot_skip, guSlot_read, guSlot_skip', guSlot_read']; rfl) x, ?_⟩
    refine List.forall_mem_cons.mpr ⟨fun x => guPiece c _ _ _ _ _ (fun y => by unfold stage.sl.v1506; simp (disch := decide) only [guSlot_skip, guSlot_read, guSlot_skip', guSlot_read']; rfl) x, ?_⟩
    refine List.forall_mem_cons.mpr ⟨fun x => guPiece c _ _ _ _ _ (fun y => by unfold stage.sl.v1486; simp (disch := decide) only [guSlot_skip, guSlot_read, guSlot_skip', guSlot_read']; rfl) x, ?_⟩
    refine List.forall_mem_cons.mpr ⟨fun x => guPiece c _ _ _ _ _ (fun y => by unfold stage.sl.v1466; simp (disch := decide) only [guSlot_skip, guSlot_read, guSlot_skip', guSlot_read']; rfl) x, ?_⟩
    refine List.forall_mem_cons.mpr ⟨fun x => guPiece c _ _ _ _ _ (fun y => by unfold stage.sl.v1446; simp (disch := decide) only [guSlot_skip, guSlot_read, guSlot_skip', guSlot_read']; rfl) x, ?_⟩
    refine List.forall_mem_cons.mpr ⟨fun x => guPiece c _ _ _ _ _ (fun y => by unfold stage.sl.v1426; simp (disch := decide) only [guSlot_skip, guSlot_read, guSlot_skip', guSlot_read']; rfl) x, ?_⟩
    refine List.forall_mem_cons.mpr ⟨fun x => guPiece c _ _ _ _ _ (fun y => by unfold stage.sl.v1406; simp (disch := decide) only [guSlot_skip, guSlot_read, guSlot_skip', guSlot_read']; rfl) x, ?_⟩
    refine List.forall_mem_cons.mpr ⟨fun x => guPiece c _ _ _ _ _ (fun y => by unfold stage.sl.v1386; simp (disch := decide) only [guSlot_skip, guSlot_read, guSlot_skip', guSlot_read']; rfl) x, ?_⟩
    refine List.forall_mem_cons.mpr ⟨fun x => guPiece c _ _ _ _ _ (fun y => by unfold stage.sl.v1366; simp (disch := decide) only [guSlot_skip, guSlot_read, guSlot_skip', guSlot_read']; rfl) x, ?_⟩
    refine List.forall_mem_cons.mpr ⟨fun x => guPiece c _ _ _ _ _ (fun y => by unfold stage.sl.v1346; simp (disch := decide) only [guSlot_skip, guSlot_read, guSlot_skip', guSlot_read']; rfl) x, ?_⟩
    refine List.forall_mem_cons.mpr ⟨fun x => guPiece c _ _ _ _ _ (fun y => by unfold stage.sl.v1326; simp (disch := decide) only [guSlot_skip, guSlot_read, guSlot_skip', guSlot_read']; rfl) x, ?_⟩
    refine List.forall_mem_cons.mpr ⟨fun x => guPiece c _ _ _ _ _ (fun y => by unfold stage.sl.v1306; simp (disch := decide) only [guSlot_skip, guSlot_read, guSlot_skip', guSlot_read']; rfl) x, ?_⟩
    refine List.forall_mem_cons.mpr ⟨fun x => guPiece c _ _ _ _ _ (fun y => by unfold stage.sl.v1286; simp (disch := decide) only [guSlot_skip, guSlot_read, guSlot_skip', guSlot_read']; rfl) x, ?_⟩
    refine List.forall_mem_cons.mpr ⟨fun x => guPiece c _ _ _ _ _ (fun y => by unfold stage.sl.v1266; simp (disch := decide) only [guSlot_skip, guSlot_read, guSlot_skip', guSlot_read']; rfl) x, ?_⟩
    refine List.forall_mem_cons.mpr ⟨fun x => guPiece c _ _ _ _ _ (fun y => by unfold stage.sl.v1246; simp (disch := decide) only [guSlot_skip, guSlot_read, guSlot_skip', guSlot_read']; rfl) x, ?_⟩
    refine List.forall_mem_cons.mpr ⟨fun x => guPiece c _ _ _ _ _ (fun y => by unfold stage.sl.v1226; simp (disch := decide) only [guSlot_skip, guSlot_read, guSlot_skip', guSlot_read']; rfl) x, ?_⟩
    refine List.forall_mem_cons.mpr ⟨fun x => guPiece c _ _ _ _ _ (fun y => by unfold stage.sl.v1206; simp (disch := decide) only [guSlot_skip, guSlot_read, guSlot_skip', guSlot_read']; rfl) x, ?_⟩
    refine List.forall_mem_cons.mpr ⟨fun x => guPiece c _ _ _ _ _ (fun y => by unfold stage.sl.v1186; simp (disch := decide) only [guSlot_skip, guSlot_read, guSlot_skip', guSlot_read']; rfl) x, ?_⟩
    refine List.forall_mem_cons.mpr ⟨fun x => guPiece c _ _ _ _ _ (fun y => by unfold stage.sl.v1166; simp (disch := decide) only [guSlot_skip, guSlot_read, guSlot_skip', guSlot_read']; rfl) x, ?_⟩
    exact fun _ h => absurd h List.not_mem_nil
  isplitl [HS3]
  · iexists _
    isplitr; swap; · iexact HS3
    ipureintro
    funext y
    refine View.read_writes_apply_of_pieces _ _ (dnW c fh1) _ ?_ y (View.cover_of_tiledL (s := S2816x1024) _ ![128, 1024] (by sl_kernel_rfl) y)
    refine List.forall_mem_cons.mpr ⟨fun x => dnPiece c _ _ _ _ _ (fun y => by unfold stage.sl.v2005; simp (disch := decide) only [dnSlot_skip, dnSlot_read, dnSlot_skip', dnSlot_read']; rfl) x, ?_⟩
    refine List.forall_mem_cons.mpr ⟨fun x => dnPiece c _ _ _ _ _ (fun y => by unfold stage.sl.v1992; simp (disch := decide) only [dnSlot_skip, dnSlot_read, dnSlot_skip', dnSlot_read']; rfl) x, ?_⟩
    refine List.forall_mem_cons.mpr ⟨fun x => dnPiece c _ _ _ _ _ (fun y => by unfold stage.sl.v1979; simp (disch := decide) only [dnSlot_skip, dnSlot_read, dnSlot_skip', dnSlot_read']; rfl) x, ?_⟩
    refine List.forall_mem_cons.mpr ⟨fun x => dnPiece c _ _ _ _ _ (fun y => by unfold stage.sl.v1966; simp (disch := decide) only [dnSlot_skip, dnSlot_read, dnSlot_skip', dnSlot_read']; rfl) x, ?_⟩
    refine List.forall_mem_cons.mpr ⟨fun x => dnPiece c _ _ _ _ _ (fun y => by unfold stage.sl.v1946; simp (disch := decide) only [dnSlot_skip, dnSlot_read, dnSlot_skip', dnSlot_read']; rfl) x, ?_⟩
    refine List.forall_mem_cons.mpr ⟨fun x => dnPiece c _ _ _ _ _ (fun y => by unfold stage.sl.v1926; simp (disch := decide) only [dnSlot_skip, dnSlot_read, dnSlot_skip', dnSlot_read']; rfl) x, ?_⟩
    refine List.forall_mem_cons.mpr ⟨fun x => dnPiece c _ _ _ _ _ (fun y => by unfold stage.sl.v1906; simp (disch := decide) only [dnSlot_skip, dnSlot_read, dnSlot_skip', dnSlot_read']; rfl) x, ?_⟩
    refine List.forall_mem_cons.mpr ⟨fun x => dnPiece c _ _ _ _ _ (fun y => by unfold stage.sl.v1886; simp (disch := decide) only [dnSlot_skip, dnSlot_read, dnSlot_skip', dnSlot_read']; rfl) x, ?_⟩
    refine List.forall_mem_cons.mpr ⟨fun x => dnPiece c _ _ _ _ _ (fun y => by unfold stage.sl.v1866; simp (disch := decide) only [dnSlot_skip, dnSlot_read, dnSlot_skip', dnSlot_read']; rfl) x, ?_⟩
    refine List.forall_mem_cons.mpr ⟨fun x => dnPiece c _ _ _ _ _ (fun y => by unfold stage.sl.v1846; simp (disch := decide) only [dnSlot_skip, dnSlot_read, dnSlot_skip', dnSlot_read']; rfl) x, ?_⟩
    refine List.forall_mem_cons.mpr ⟨fun x => dnPiece c _ _ _ _ _ (fun y => by unfold stage.sl.v1826; simp (disch := decide) only [dnSlot_skip, dnSlot_read, dnSlot_skip', dnSlot_read']; rfl) x, ?_⟩
    refine List.forall_mem_cons.mpr ⟨fun x => dnPiece c _ _ _ _ _ (fun y => by unfold stage.sl.v1806; simp (disch := decide) only [dnSlot_skip, dnSlot_read, dnSlot_skip', dnSlot_read']; rfl) x, ?_⟩
    refine List.forall_mem_cons.mpr ⟨fun x => dnPiece c _ _ _ _ _ (fun y => by unfold stage.sl.v1786; simp (disch := decide) only [dnSlot_skip, dnSlot_read, dnSlot_skip', dnSlot_read']; rfl) x, ?_⟩
    refine List.forall_mem_cons.mpr ⟨fun x => dnPiece c _ _ _ _ _ (fun y => by unfold stage.sl.v1766; simp (disch := decide) only [dnSlot_skip, dnSlot_read, dnSlot_skip', dnSlot_read']; rfl) x, ?_⟩
    refine List.forall_mem_cons.mpr ⟨fun x => dnPiece c _ _ _ _ _ (fun y => by unfold stage.sl.v1746; simp (disch := decide) only [dnSlot_skip, dnSlot_read, dnSlot_skip', dnSlot_read']; rfl) x, ?_⟩
    refine List.forall_mem_cons.mpr ⟨fun x => dnPiece c _ _ _ _ _ (fun y => by unfold stage.sl.v1726; simp (disch := decide) only [dnSlot_skip, dnSlot_read, dnSlot_skip', dnSlot_read']; rfl) x, ?_⟩
    refine List.forall_mem_cons.mpr ⟨fun x => dnPiece c _ _ _ _ _ (fun y => by unfold stage.sl.v1706; simp (disch := decide) only [dnSlot_skip, dnSlot_read, dnSlot_skip', dnSlot_read']; rfl) x, ?_⟩
    refine List.forall_mem_cons.mpr ⟨fun x => dnPiece c _ _ _ _ _ (fun y => by unfold stage.sl.v1686; simp (disch := decide) only [dnSlot_skip, dnSlot_read, dnSlot_skip', dnSlot_read']; rfl) x, ?_⟩
    refine List.forall_mem_cons.mpr ⟨fun x => dnPiece c _ _ _ _ _ (fun y => by unfold stage.sl.v1666; simp (disch := decide) only [dnSlot_skip, dnSlot_read, dnSlot_skip', dnSlot_read']; rfl) x, ?_⟩
    refine List.forall_mem_cons.mpr ⟨fun x => dnPiece c _ _ _ _ _ (fun y => by unfold stage.sl.v1646; simp (disch := decide) only [dnSlot_skip, dnSlot_read, dnSlot_skip', dnSlot_read']; rfl) x, ?_⟩
    refine List.forall_mem_cons.mpr ⟨fun x => dnPiece c _ _ _ _ _ (fun y => by unfold stage.sl.v1626; simp (disch := decide) only [dnSlot_skip, dnSlot_read, dnSlot_skip', dnSlot_read']; rfl) x, ?_⟩
    refine List.forall_mem_cons.mpr ⟨fun x => dnPiece c _ _ _ _ _ (fun y => by unfold stage.sl.v1606; simp (disch := decide) only [dnSlot_skip, dnSlot_read, dnSlot_skip', dnSlot_read']; rfl) x, ?_⟩
    exact fun _ h => absurd h List.not_mem_nil
  isplitl [HS4]
  · iexists _; iexists _
    isplitr; swap; · iexact HS4
    ipureintro; rfl
  isplitl [HS5]
  · iexists _; iexists _
    isplitr; swap; · iexact HS5
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  iexists _
  iexact HW

end Cert.FfnPreIdeal.Hand

end
-- ==== Proof.FfnPreIdealFrame.lean ====
/- The feed-forward kernel's whole run: the invariant between grid points keeps the two rounded weights in VMEM, every
   point leaves its block of the output, and the launch gives the arrays at the end and the unchanged arguments. -/
module

public import proofs.«01_k».proof.Proof.FfnPreIdealComp
public import proofs.«01_k».proof.Proof.FfnPreIdealStage
public import Idealize.ShloMosaic.Lib.Pipeline.FrameValue

@[expose] public section

set_option maxRecDepth 16384

noncomputable section

namespace Cert.FfnPreIdeal.Hand

open Cert.FfnPreIdeal Cert.FfnPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own copy cells, and the arrays it reads in HBM. -/
abbrev osem0 : Fin 8 → SemLoc sig := fun j => (![SemLoc.dma 11, SemLoc.dma 12, SemLoc.dma 13, SemLoc.dma 14, SemLoc.dma 15, SemLoc.dma 16, SemLoc.dma 17, SemLoc.dma 18] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7] (by decide) (by decide)]; rfl
def H0 : Finset (Ref sig .tc) := {main_arg5, main_arg6}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hb0 (V m c main_arg5) ∗ hbPt c hb1 (V m c main_arg6)) := by
  rw [BI.bigSep_eq_bigSepL_of_eq [main_arg5, main_arg6] (by decide) (by decide)]; rfl

/-- What the launch hands the region, conjunct by conjunct. -/
theorem PhiD0_eq (c : Dev nD) :
    (Pipeline.ΦD osem0 spec0 H0 (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt c hb0 (V m c main_arg5) ∗ hbPt c hb1 (V m c main_arg6))) := by
  rw [Pipeline.ΦD_eq, scopedRest0_eq, ownSems00_eq, hbmPts0_eq]; simp only [sc0, sc1, sc2, sc3, sc4, sc5, owns_whole]; try rfl

/-- @main up to the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- After a point: the two weights of the layer, rounded, in their VMEM buffers. -/
def Inv (c : Dev nD) : sProp 𝕄 :=
  iprop(iprop((∃ d, owns (c : Thread nD τ) sc0 fullShare d) ∗ (∃ d, owns (c : Thread nD τ) sc1 fullShare d) ∗ owns (c : Thread nD τ) sc2 fullShare (guW c (V m c main_arg5)) ∗ owns (c : Thread nD τ) sc3 fullShare (dnW c (V m c main_arg6)) ∗ (∃ d, owns (c : Thread nD τ) sc4 fullShare d) ∗ (∃ d, owns (c : Thread nD τ) sc5 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt c hb0 (V m c main_arg5) ∗ hbPt c hb1 (V m c main_arg6)))

/-- The invariant before position `n`: what the launch hands over at first, the weights in place afterwards. -/
def PhiS (c : Dev nD) : (n : ℕ) → n ≤ cfg0.N → sProp 𝕄
  | 0, _ => Pipeline.ΦD osem0 spec0 H0 (V m) c
  | _ + 1, _ => Inv m c
theorem PhiS_zero (c : Dev nD) (n : ℕ) (h : n ≤ cfg0.N) (hz : n = 0) : PhiS m c n h = Pipeline.ΦD osem0 spec0 H0 (V m) c := by
  subst hz; rfl
theorem PhiS_pos (c : Dev nD) (n : ℕ) (h : n ≤ cfg0.N) (hz : n ≠ 0) : PhiS m c n h = Inv m c := by
  cases n with
  | zero => exact absurd rfl hz
  | succ n => rfl

/-- The block the body leaves in the output window at point `t`. -/
def oblk (c : Dev nD) (t : Fin cfg0.N) : Vec F S1024x1024 .f32 := blkOf (x1Of (iblk m c 0 t) (iblk m c 1 t) (iblk m c 2 t) (iblk m c 3 t) (iblk m c 4 t)) (iblk m c 5 t) (iblk m c 6 t) (guW c (V m c main_arg5)) (dnW c (V m c main_arg6))

/-- The proof data: each input window at its block, the output window at `oblk`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oblk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = oblk m c t := by dsimp only [dats]
/-- Input window 0 holds its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input window 1 holds its block at every point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input window 2 holds its block at every point. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Input window 3 holds its block at every point. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Input window 4 holds its block at every point. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Input window 5 holds its block at every point. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- Input window 6 holds its block at every point. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Inv m c from rfl, after0_0, after0_1, after0_2, after0_3, after0_4, after0_5, after0_6, after0_7]
  unfold Dat.owesAt Pipeline.owesWithin
  rw [show (dats m 0 c).owed t.castSucc = 0 from rfl, show (dats m 0 c).owed t.succ = 0 from rfl]
  unfold Inv oblk
  by_cases hz : t.val = 0
  · rw [PhiS_castSucc m c t, PhiS_zero m c _ _ hz, PhiD0_eq]
    rw [body_first (h := (isFirst_iff t).mpr hz), wp_bind]
    iintro ⟨⟨⟨HS0, HS1, HS2, HS3, HS4, HS5⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%dO, HO⟩⟩
    iapply (stage c (grid0.coords t) _ _ _ _ _ _ _ _ _ _ _ _ _ _ _ _ _ _ _ _ _ _ _ _ _ _ _ _ (V m c main_arg5) (V m c main_arg6) W _)
    isplitl [HS2 HS3 HS4 HS5 Hq0 Hq1 Hq2 Hq3 Hq4 Hq5 Hq6 Hq7 Hh0 Hh1 HW]
    · isplitl [HS2]; · iexact HS2
      isplitl [HS3]; · iexact HS3
      isplitl [HS4]; · iexact HS4
      isplitl [HS5]; · iexact HS5
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [Hh1]; · iexact Hh1
      iexact HW
    iintro ⟨HS2, HS3, HS4, HS5, Hq0, Hq1, Hq2, Hq3, Hq4, Hq5, Hq6, Hq7, Hh0, Hh1, ⟨%W', HW⟩⟩
    iapply (comp c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (guW c (V m c main_arg5)) (dnW c (V m c main_arg6)) W' _)
    isplitl [H0 H1 H2 H3 H4 H5 H6 HO HS0 HS1 HS2 HS3]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexists _; iexact HO
      isplitl [HS0]; · iexact HS0
      isplitl [HS1]; · iexact HS1
      isplitl [HS2]; · iexact HS2
      iexact HS3
    iintro ⟨H0, H1, H2, H3, H4, H5, H6, HO, HS0, HS1, HS2, HS3⟩
    isplitl [HS0 HS1 HS2 HS3 HS4 HS5 Hg Hq0 Hq1 Hq2 Hq3 Hq4 Hq5 Hq6 Hq7 Hh0 Hh1]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [Hh0]; · iexact Hh0
      iexact Hh1
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HO
  · rw [PhiS_castSucc m c t, PhiS_pos m c _ _ hz]
    unfold Inv
    rw [body_rest (h := fun h => hz ((isFirst_iff t).mp h))]
    iintro ⟨⟨⟨HS0, HS1, HS2, HS3, HS4, HS5⟩, Hg, ⟨Hq0, Hq1, Hq2, Hq3, Hq4, Hq5, Hq6, Hq7⟩, ⟨Hh0, Hh1⟩⟩, ⟨%W', -, HW⟩, ⟨%d0, H0⟩, ⟨%d1, H1⟩, ⟨%d2, H2⟩, ⟨%d3, H3⟩, ⟨%d4, H4⟩, ⟨%d5, H5⟩, ⟨%d6, H6⟩, ⟨%dO, HO⟩⟩
    iapply (comp c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (guW c (V m c main_arg5)) (dnW c (V m c main_arg6)) W' _)
    isplitl [H0 H1 H2 H3 H4 H5 H6 HO HS0 HS1 HS2 HS3]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HO]; · iexists _; iexact HO
      isplitl [HS0]; · iexact HS0
      isplitl [HS1]; · iexact HS1
      isplitl [HS2]; · iexact HS2
      iexact HS3
    iintro ⟨H0, H1, H2, H3, H4, H5, H6, HO, HS0, HS1, HS2, HS3⟩
    isplitl [HS0 HS1 HS2 HS3 HS4 HS5 Hg Hq0 Hq1 Hq2 Hq3 Hq4 Hq5 Hq6 Hq7 Hh0 Hh1]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [Hh0]; · iexact Hh0
      iexact Hh1
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HO

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- At the end the weights' contents are forgotten again. -/
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiD0_eq]
  unfold Inv
  iintro ⟨⟨HS0, HS1, HS2, HS3, HS4, HS5⟩, Hg, Hq, Hh⟩
  isplitl [HS0 HS1 HS2 HS3 HS4 HS5]
  · isplitl [HS0]; · iexact HS0
    isplitl [HS1]; · iexact HS1
    isplitl [HS2]; · iexists _; iexact HS2
    isplitl [HS3]; · iexists _; iexact HS3
    isplitl [HS4]; · iexact HS4
    iexact HS5
  isplitl [Hg]; · iexact Hg
  isplitl [Hq]; · iexact Hq
  iexact Hh

set_option backward.isDefEq.respectTransparency.types false in
/-- The launch: the arrays at the end, every other buffer unchanged, every counter at zero. -/
theorem run_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

/-- The argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_quiescent m ρ)

/-- The output array ends at what the points' blocks make of it. -/
theorem out_run : θ_run defs (onTc (τ := τ) (main (F := F))) (s₀ m ρ)
    (fun r => ∀ c : Dev nD, r.2.mem ((c.tc : Thread nD τ).loc (Pipeline.arrRef spec0 7)) = (dats m 0 c).arrAt 7 cfg0.N) :=
  (θ_run defs _ _).mono (fun _ h c => (h.1 c).1 7) (run_quiescent m ρ)

end Cert.FfnPreIdeal.Hand

end
-- ==== Proof.FfnPreBits.lean ====
/- The feed-forward layer with the projection in front on bit patterns: the kernel and the kernel on the extended reals are one program, so that
   the frame holds of the one by the other's. -/
module

public import proofs.«01_k».proof.Proof.FfnPreIdealFrame
public import proofs.«01_k».proof.Defs
public import proofs.«01_k».proof.Proof.Gen.FfnPre

@[expose] public section

set_option maxRecDepth 100000
set_option maxHeartbeats 2000000

noncomputable section

namespace Cert.FfnPre.Hand

open Idealize.ShloMosaic Idealize.SL.Sem Cert.FfnPre Cert.FfnPre.Gen

variable {F : FTy → Type} [FloatOps F]

theorem body_eq (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .hbm S4x2x1024x5632 .f32) (harg6 : arg6.IsWhole) (arg7 : Memref sig .tc .hbm S4x2x2816x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2x256x1024 .bf16) (harg11 : arg11.IsWhole) (arg12 : Memref sig .tc .vmem S2x256x2816 .bf16) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S4x1024x256 .f32) (harg15 : arg15.IsWhole) (arg16 : Memref sig .tc .vmem S4x128x1024 .f32) (harg16 : arg16.IsWhole) (arg17 : DmaSems sig S4) (arg18 : DmaSems sig S4) :
    Cert.FfnPre.cc0_ffn_pre (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 = Cert.FfnPreIdeal.cc0_ffn_pre (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 := rfl

theorem calls_eq : haveI := Cert.FfnPre.Gen.facts; Cert.FfnPre.defs₀ (F := F) = Cert.FfnPreIdeal.defs₀ (F := F) := by
  unfold Cert.FfnPre.defs₀ Cert.FfnPreIdeal.defs₀
  refine congrArg Defs.onTc (funext fun l => funext fun a => ?_)
  match l, a with
  | 0, (t, s) => exact body_eq ..

theorem defs_eq : haveI := Cert.FfnPre.Gen.facts; Cert.FfnPre.defs (F := F) = Cert.FfnPreIdeal.defs (F := F) := by
  unfold Cert.FfnPre.defs Cert.FfnPreIdeal.defs
  exact congrArg (Pipeline.defs pcfgs) calls_eq

/-- The kernel runs, keeps its arguments, and leaves every semaphore at zero. -/
theorem frame : haveI := Cert.FfnPre.Gen.facts; Cert.quiescent_FfnPre := fun m g _ => by
  rw [defs_eq]
  exact Cert.FfnPreIdeal.Hand.frame (F := Bits) m g

end Cert.FfnPre.Hand

end
-- ==== Proof.FfnPreIdealFinal.lean ====
/- The kernel's result, entry by entry: the block of each token's row, after the attention's output projection. -/
module

public import proofs.«01_k».proof.Proof.FfnPreIdealFrame
public import proofs.«01_k».proof.Proof.FfnIdealFinal

@[expose] public section

set_option maxRecDepth 16384

noncomputable section

namespace Cert.FfnPreIdeal.Hand

open Idealize.ShloMosaic Idealize.SL.Sem Idealize.ShloMosaic.Pipeline
open Cert.FfnPreIdeal Cert.FfnPreIdeal.Gen

theorem pay63_at (x : Vec Ideal S256x1024 .f32) (r : Fin 256) (k : Fin 1024) : k0_pay63 (F := Ideal) x (ix3 0 r k) = x (ix2 r k) := by
  pointwise [k0_pay63, k0_pay62]

theorem pay66_at (v : Vec Ideal S1x256x1024 .bf16) (a b : Vec Ideal S1024x256 .bf16) (r : Fin 256) (k : Fin 256) :
    k0_pay66 (F := Ideal) v a b (ix3 0 r k) = Cert.FfnMath.silu (∑ i : Fin 1024, v (ix3 0 r i) * a (ix2 i k)) * ∑ i : Fin 1024, v (ix3 0 r i) * b (ix2 i k) := by
  pointwise [k0_pay66]
  unfold Cert.FfnMath.silu
  rw [zero_sub]

theorem tail_eq (x : Vec Ideal S256x1024 .f32) (h : Vec Ideal S1x256x2816 .bf16) (d : Vec Ideal S2816x1024 .bf16) (g b : Vec Ideal S1x1024 .f32) :
    k0_pay119 (F := Ideal) (k0_pay117 h d) (k0_pay118 (k0_pay93 x)) g b = Cert.FfnIdeal.Gen.k0_pay77 (F := Ideal) (Cert.FfnIdeal.Gen.k0_pay76 x h d) g b := by
  funext y
  obtain ⟨r, k, rfl⟩ : ∃ r k, y = ix2 r k := ⟨y 0, y 1, eq_ix2 y⟩
  rw [Cert.FfnIdeal.Hand.pay77_at]
  simp only [Cert.FfnIdeal.Hand.pay76_at]
  pointwise [k0_pay119, k0_pay117, k0_pay118, k0_pay93]
  rfl

theorem hidOf_eq (fa : Vec Ideal S1024x1024 .f32) (f9 : Vec Ideal S1024x5632 .bf16) (s : ℕ) (r : Fin 256) (j : Fin 2816) :
    hidOf (F := Ideal) fa f9 s r j = Cert.FfnIdeal.Hand.hidOf (F := Ideal) fa f9 s r j := by
  unfold hidOf Cert.FfnIdeal.Hand.hidOf
  rw [pay66_at, Cert.FfnIdeal.Hand.pay56_at]
  unfold xbOf Cert.FfnIdeal.Hand.xbOf
  simp only [pay63_at, Cert.FfnIdeal.Hand.pay55_at]
  rfl

theorem hidVec_eq (fa : Vec Ideal S1024x1024 .f32) (f9 : Vec Ideal S1024x5632 .bf16) (s : ℕ) :
    hidVec (F := Ideal) fa f9 s = Cert.FfnIdeal.Hand.hidVec (F := Ideal) fa f9 s :=
  funext fun y => hidOf_eq fa f9 s (y 1) (y 2)

/-- From the rows it works on, the block is the block of the call with nothing in front. -/
theorem blk_eq (fa : Vec Ideal S1024x1024 .f32) (fg fb : Vec Ideal S1x1024 .f32) (f9 : Vec Ideal S1024x5632 .bf16) (f10 : Vec Ideal S2816x1024 .bf16) :
    blkOf (F := Ideal) fa fg fb f9 f10 = Cert.FfnIdeal.Hand.blkOf (F := Ideal) fa fg fb f9 f10 := by
  funext y
  unfold blkOf Cert.FfnIdeal.Hand.blkOf outOf Cert.FfnIdeal.Hand.outOf
  rw [tail_eq, hidVec_eq]
  rfl

theorem pre_at (x : Vec Ideal S256x1024 .f32) (a : Vec Ideal S256x1024 .bf16) (w : Vec Ideal S1024x1024 .bf16) (g b : Vec Ideal S1x1024 .f32) (r : Fin 256) (q : Fin 1024) :
    k0_pay55 (F := Ideal) x a w g b (ix2 r q) = Cert.PoolIdeal.Hand.lnRow (fun p => Ideal.ofBits FTy.f32 1071072509#32 * x (ix2 r p) + ∑ i : Fin 1024, a (ix2 r i) * w (ix2 i p)) (g (ix2 0 q)) (b (ix2 0 q)) q := by
  pointwise [k0_pay55]
  rfl

theorem x1_at (fa : Vec Ideal S1024x1024 .f32) (fp fw : Vec Ideal S1024x1024 .bf16) (fga fba : Vec Ideal S1x1024 .f32) (r : Fin 1024) (q : Fin 1024) :
    x1Of (F := Ideal) fa fp fw fga fba (ix2 r q) = Cert.PoolIdeal.Hand.lnRow (fun p => Ideal.ofBits FTy.f32 1071072509#32 * fa (ix2 r p) + ∑ i : Fin 1024, fp (ix2 r i) * fw (ix2 i p)) (fga (ix2 0 q)) (fba (ix2 0 q)) q := by
  have hr := r.isLt
  show k0_pay55 (F := Ideal) (rowsOf fa (r.val / 256)) (rowsOf fp (r.val / 256)) fw fga fba (ix2 ⟨r.val % 256, Nat.mod_lt _ (by decide)⟩ q) = _
  rw [pre_at]
  have hx : ∀ p : Fin 1024, rowsOf (F := Ideal) fa (r.val / 256) (ix2 ⟨r.val % 256, Nat.mod_lt _ (by decide)⟩ p) = fa (ix2 r p) := fun p =>
    congrArg fa (congrArg (fun n => ix2 n p) (Fin.ext (show (256 * (r.val / 256) + r.val % 256) % 1024 = r.val by omega)))
  have hp : ∀ p : Fin 1024, rowsOf (F := Ideal) fp (r.val / 256) (ix2 ⟨r.val % 256, Nat.mod_lt _ (by decide)⟩ p) = fp (ix2 r p) := fun p =>
    congrArg fp (congrArg (fun n => ix2 n p) (Fin.ext (show (256 * (r.val / 256) + r.val % 256) % 1024 = r.val by omega)))
  simp only [hx, hp]

/-! ## The two weights -/

theorem guRaw_at (c : Dev nD) (f : HbBuf (F := Ideal) c hb0) (i : Fin 1024) (j : Fin 5632) : guRaw (F := Ideal) c f (ix2 i j) = f (ix4 0 1 i j) := by
  have key : ∀ v : FVec Ideal S1x1x1024x5632 .f32, shapeCast S1024x5632 v (Shape.Squeezes.numel_eq squeezes_S1x1x1024x5632_S1024x5632) (ix2 i j) = v (ix4 0 0 i j) := by
    intro v
    pointwise
  refine (key (fun z => f ((Rect.unit (s := S4x2x1024x5632) ![0, 1, 0, 0] S1x1x1024x5632.size inb_S4x2x1024x5632_S1x1x1024x5632_0_1_0_0).emb z))).trans (congrArg f ?_)
  funext a
  apply Fin.ext
  fin_cases a <;> simp [Rect.emb, Rect.unit, ix4]

theorem guW_at (c : Dev nD) (f : HbBuf (F := Ideal) c hb0) (i : Fin 1024) (j : Fin 5632) : guW (F := Ideal) c f (ix2 i j) = f (ix4 0 1 i j) :=
  guRaw_at c f i j

theorem dnRaw_at (c : Dev nD) (f : HbBuf (F := Ideal) c hb1) (i : Fin 2816) (j : Fin 1024) : dnRaw (F := Ideal) c f (ix2 i j) = f (ix4 0 1 i j) := by
  have key : ∀ v : FVec Ideal S1x1x2816x1024 .f32, shapeCast S2816x1024 v (Shape.Squeezes.numel_eq squeezes_S1x1x2816x1024_S2816x1024) (ix2 i j) = v (ix4 0 0 i j) := by
    intro v
    pointwise
  refine (key (fun z => f ((Rect.unit (s := S4x2x2816x1024) ![0, 1, 0, 0] S1x1x2816x1024.size inb_S4x2x2816x1024_S1x1x2816x1024_0_1_0_0).emb z))).trans (congrArg f ?_)
  funext a
  apply Fin.ext
  fin_cases a <;> simp [Rect.emb, Rect.unit, ix4]

theorem dnW_at (c : Dev nD) (f : HbBuf (F := Ideal) c hb1) (i : Fin 2816) (j : Fin 1024) : dnW (F := Ideal) c f (ix2 i j) = f (ix4 0 1 i j) :=
  dnRaw_at c f i j

/-! ## The blocks the windows hold, and the array at the end -/

theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] := by decide +kernel

variable (m : (ℓ : Loc nD τ sig) → Buf (Elt Ideal) ℓ) (c : Dev nD)

theorem blk0 (t : Fin cfg0.N) (r : Fin 1024) (j : Fin 1024) :
    iblk m c 0 t (ix2 r j) = m ((c.tc : Thread nD τ).loc main_arg0) (ix2 ⟨t.val * 1024 + r.val, by have : t.val < 16 := t.isLt; omega⟩ j) := by
  blk_point [iblk, V, idx t]
theorem blk1 (t : Fin cfg0.N) (r : Fin 1024) (j : Fin 1024) :
    iblk m c 1 t (ix2 r j) = m ((c.tc : Thread nD τ).loc main_arg1) (ix2 ⟨t.val * 1024 + r.val, by have : t.val < 16 := t.isLt; omega⟩ j) := by
  blk_point [iblk, V, idx t]
theorem blk2 (t : Fin cfg0.N) (r : Fin 1024) (j : Fin 1024) : iblk m c 2 t (ix2 r j) = m ((c.tc : Thread nD τ).loc main_arg2) (ix2 r j) := by
  blk_point [iblk, V, idx t]
theorem blk3 (t : Fin cfg0.N) (r : Fin 1) (j : Fin 1024) : iblk m c 3 t (ix2 r j) = m ((c.tc : Thread nD τ).loc main_arg3) (ix1 j) := by
  blk_point [iblk, V, idx t]
theorem blk4 (t : Fin cfg0.N) (r : Fin 1) (j : Fin 1024) : iblk m c 4 t (ix2 r j) = m ((c.tc : Thread nD τ).loc main_arg4) (ix1 j) := by
  blk_point [iblk, V, idx t]
theorem blk5 (t : Fin cfg0.N) (r : Fin 1) (j : Fin 1024) : iblk m c 5 t (ix2 r j) = m ((c.tc : Thread nD τ).loc main_arg7) (ix1 j) := by
  blk_point [iblk, V, idx t]
theorem blk6 (t : Fin cfg0.N) (r : Fin 1) (j : Fin 1024) : iblk m c 6 t (ix2 r j) = m ((c.tc : Thread nD τ).loc main_arg8) (ix1 j) := by
  blk_point [iblk, V, idx t]

/-- What the layer leaves at row `R`, lane `k`. -/
def preOut (x a : S16384x1024.Idx → EReal) (w : S1024x1024.Idx → EReal) (ga ba : S1024.Idx → EReal) (gu : S4x2x1024x5632.Idx → EReal) (dn : S4x2x2816x1024.Idx → EReal) (g b : S1024.Idx → EReal) (R : Fin 16384) (k : Fin 1024) : EReal :=
  Cert.FfnMath.out (fun q => Cert.PoolIdeal.Hand.lnRow (fun p => Ideal.ofBits FTy.f32 1071072509#32 * x (ix2 R p) + ∑ i : Fin 1024, a (ix2 R i) * w (ix2 i p)) (ga (ix1 q)) (ba (ix1 q)) q)
    (fun i j => gu (ix4 0 1 i j)) (fun i j => dn (ix4 0 1 i j)) (fun q => g (ix1 q)) (fun q => b (ix1 q)) k

theorem final : (dats m 0 c).arrAt 7 (cfgs 0).N = fun i : S16384x1024.Idx => preOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0) (i 1) := by
  refine (dats m 0 c).arrAt_eq_of_covers 7 _ (by decide +kernel) fun t _ y => ?_
  blk_simp
  rw [after0_7]
  change S1024x1024.Idx at y
  idx_vars y
  have hrow : (((View.whole main_v5).slice (win0_7.rect t)).emb (ix2 y0 y1) : S16384x1024.Idx) = ix2 ⟨t.val * 1024 + y0.val, by have : t.val < 16 := t.isLt; omega⟩ y1 := by
    blk_ext [idx t]
  rw [hrow]
  unfold oblk
  rw [blk_eq]
  refine (Cert.FfnIdeal.Hand.blk_at _ _ _ _ _ y0 y1).trans ?_
  unfold preOut
  simp only [x1_at, blk0, blk1, blk2, blk3, blk4, blk5, blk6, guW_at, dnW_at]
  rw [V_main_arg5, V_main_arg6]
  rfl

/-- The kernel's run: the output array, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v5) = (fun i : S16384x1024.Idx => preOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).trans (final m c), h.2.1 c⟩) (θ_run_and (out_run m ρ) (frame m ρ))

end Cert.FfnPreIdeal.Hand
-- ==== Proof.FfnPreRef.lean ====
/- The reference of the block with the attention's output projection: its run, and its result entry by entry. -/
module

public import proofs.«01_k».proof.Proof.FfnMath
public import proofs.«01_k».proof.Proof.Gen.FfnPreRefIdeal
public import Idealize.ShloMosaic.Lib.StableHlo.Run
public import Idealize.ShloMosaic.Lib.Pointwise
public import Idealize.ShloMosaic.Lib.Claim

@[expose] public section

set_option maxRecDepth 16384

noncomputable section

namespace Cert.FfnPreRefIdeal.Hand

open Idealize.ShloMosaic Idealize.ShloMosaic.TcCoe Idealize.SL.Sem Idealize.ShloMosaic.StableHlo
open Cert.FfnPreRefIdeal Cert.FfnPreRefIdeal.Facts Cert.FfnPreRefIdeal.Gen

section
variable {F : FTy → Type} [FloatOps F]

/-- The reference's operations, in order. -/
abbrev ops : List (HloOp τ sig (Elt F)) :=
  [ nullary main_cst (constant S_ .f32 0x3FD744FD#32),
    unary main_cst main_v0 (broadcastInDim S16384x1024 ![] bcast_S_S16384x1024 : (⟨S_, .f32⟩ : BufTy).Contents (Elt F) → (⟨S16384x1024, .f32⟩ : BufTy).Contents (Elt F)),
    binary main_v0 main_arg0 main_v1 (mulf : (⟨S16384x1024, .f32⟩ : BufTy).Contents (Elt F) → (⟨S16384x1024, .f32⟩ : BufTy).Contents (Elt F) → (⟨S16384x1024, .f32⟩ : BufTy).Contents (Elt F)),
    unary main_arg1 main_v2 ((extf .f32 · bitsLt_bf16_f32) : (⟨S16384x1024, .bf16⟩ : BufTy).Contents (Elt F) → (⟨S16384x1024, .f32⟩ : BufTy).Contents (Elt F)),
    binary main_v2 main_arg2 main_v3 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    binary main_v1 main_v3 main_v4 (addf : (⟨S16384x1024, .f32⟩ : BufTy).Contents (Elt F) → (⟨S16384x1024, .f32⟩ : BufTy).Contents (Elt F) → (⟨S16384x1024, .f32⟩ : BufTy).Contents (Elt F)),
    nullary main_cst_0 (constant S_ .f32 0x00000000#32),
    binary main_v4 main_cst_0 main_v5 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v5 main_v6 (broadcastInDim S16384x1 ![0] bcast_S16384_S16384x1_0 : (⟨S16384, .f32⟩ : BufTy).Contents (Elt F) → (⟨S16384x1, .f32⟩ : BufTy).Contents (Elt F)),
    nullary main_cst_1 (constant S_ .f32 0x44800000#32),
    unary main_cst_1 main_v7 (broadcastInDim S16384x1 ![] bcast_S_S16384x1 : (⟨S_, .f32⟩ : BufTy).Contents (Elt F) → (⟨S16384x1, .f32⟩ : BufTy).Contents (Elt F)),
    binary main_v6 main_v7 main_v8 (Host.divf : (⟨S16384x1, .f32⟩ : BufTy).Contents (Elt F) → (⟨S16384x1, .f32⟩ : BufTy).Contents (Elt F) → (⟨S16384x1, .f32⟩ : BufTy).Contents (Elt F)),
    unary main_v8 main_v9 (broadcastInDim S16384x1024 ![0, 1] bcast_S16384x1_S16384x1024_0_1 : (⟨S16384x1, .f32⟩ : BufTy).Contents (Elt F) → (⟨S16384x1024, .f32⟩ : BufTy).Contents (Elt F)),
    binary main_v4 main_v9 main_v10 (subf : (⟨S16384x1024, .f32⟩ : BufTy).Contents (Elt F) → (⟨S16384x1024, .f32⟩ : BufTy).Contents (Elt F) → (⟨S16384x1024, .f32⟩ : BufTy).Contents (Elt F)),
    binary main_v10 main_v10 main_v11 (mulf : (⟨S16384x1024, .f32⟩ : BufTy).Contents (Elt F) → (⟨S16384x1024, .f32⟩ : BufTy).Contents (Elt F) → (⟨S16384x1024, .f32⟩ : BufTy).Contents (Elt F)),
    nullary main_cst_2 (constant S_ .f32 0x00000000#32),
    binary main_v11 main_cst_2 main_v12 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v12 main_v13 (broadcastInDim S16384x1 ![0] bcast_S16384_S16384x1_0 : (⟨S16384, .f32⟩ : BufTy).Contents (Elt F) → (⟨S16384x1, .f32⟩ : BufTy).Contents (Elt F)),
    nullary main_cst_3 (constant S_ .f32 0x44800000#32),
    unary main_cst_3 main_v14 (broadcastInDim S16384x1 ![] bcast_S_S16384x1 : (⟨S_, .f32⟩ : BufTy).Contents (Elt F) → (⟨S16384x1, .f32⟩ : BufTy).Contents (Elt F)),
    binary main_v13 main_v14 main_v15 (Host.divf : (⟨S16384x1, .f32⟩ : BufTy).Contents (Elt F) → (⟨S16384x1, .f32⟩ : BufTy).Contents (Elt F) → (⟨S16384x1, .f32⟩ : BufTy).Contents (Elt F)),
    unary main_v8 main_v16 (broadcastInDim S16384x1024 ![0, 1] bcast_S16384x1_S16384x1024_0_1 : (⟨S16384x1, .f32⟩ : BufTy).Contents (Elt F) → (⟨S16384x1024, .f32⟩ : BufTy).Contents (Elt F)),
    binary main_v4 main_v16 main_v17 (subf : (⟨S16384x1024, .f32⟩ : BufTy).Contents (Elt F) → (⟨S16384x1024, .f32⟩ : BufTy).Contents (Elt F) → (⟨S16384x1024, .f32⟩ : BufTy).Contents (Elt F)),
    nullary main_cst_4 (constant S_ .f32 0x3727C5AC#32),
    unary main_cst_4 main_v18 (broadcastInDim S16384x1 ![] bcast_S_S16384x1 : (⟨S_, .f32⟩ : BufTy).Contents (Elt F) → (⟨S16384x1, .f32⟩ : BufTy).Contents (Elt F)),
    binary main_v15 main_v18 main_v19 (addf : (⟨S16384x1, .f32⟩ : BufTy).Contents (Elt F) → (⟨S16384x1, .f32⟩ : BufTy).Contents (Elt F) → (⟨S16384x1, .f32⟩ : BufTy).Contents (Elt F)),
    unary main_v19 main_v20 (Host.rsqrt : (⟨S16384x1, .f32⟩ : BufTy).Contents (Elt F) → (⟨S16384x1, .f32⟩ : BufTy).Contents (Elt F)),
    unary main_v20 main_v21 (broadcastInDim S16384x1024 ![0, 1] bcast_S16384x1_S16384x1024_0_1 : (⟨S16384x1, .f32⟩ : BufTy).Contents (Elt F) → (⟨S16384x1024, .f32⟩ : BufTy).Contents (Elt F)),
    binary main_v17 main_v21 main_v22 (mulf : (⟨S16384x1024, .f32⟩ : BufTy).Contents (Elt F) → (⟨S16384x1024, .f32⟩ : BufTy).Contents (Elt F) → (⟨S16384x1024, .f32⟩ : BufTy).Contents (Elt F)),
    unary main_arg3 main_v23 (broadcastInDim S1x1024 ![1] bcast_S1024_S1x1024_1 : (⟨S1024, .f32⟩ : BufTy).Contents (Elt F) → (⟨S1x1024, .f32⟩ : BufTy).Contents (Elt F)),
    unary main_v23 main_v24 (broadcastInDim S16384x1024 ![0, 1] bcast_S1x1024_S16384x1024_0_1 : (⟨S1x1024, .f32⟩ : BufTy).Contents (Elt F) → (⟨S16384x1024, .f32⟩ : BufTy).Contents (Elt F)),
    binary main_v22 main_v24 main_v25 (mulf : (⟨S16384x1024, .f32⟩ : BufTy).Contents (Elt F) → (⟨S16384x1024, .f32⟩ : BufTy).Contents (Elt F) → (⟨S16384x1024, .f32⟩ : BufTy).Contents (Elt F)),
    unary main_arg4 main_v26 (broadcastInDim S1x1024 ![1] bcast_S1024_S1x1024_1 : (⟨S1024, .f32⟩ : BufTy).Contents (Elt F) → (⟨S1x1024, .f32⟩ : BufTy).Contents (Elt F)),
    unary main_v26 main_v27 (broadcastInDim S16384x1024 ![0, 1] bcast_S1x1024_S16384x1024_0_1 : (⟨S1x1024, .f32⟩ : BufTy).Contents (Elt F) → (⟨S16384x1024, .f32⟩ : BufTy).Contents (Elt F)),
    binary main_v25 main_v27 main_v28 (addf : (⟨S16384x1024, .f32⟩ : BufTy).Contents (Elt F) → (⟨S16384x1024, .f32⟩ : BufTy).Contents (Elt F) → (⟨S16384x1024, .f32⟩ : BufTy).Contents (Elt F)),
    nullary main_cst_5 (constant S_ .f32 0x3FD744FD#32),
    unary main_cst_5 main_v29 (broadcastInDim S16384x1024 ![] bcast_S_S16384x1024 : (⟨S_, .f32⟩ : BufTy).Contents (Elt F) → (⟨S16384x1024, .f32⟩ : BufTy).Contents (Elt F)),
    binary main_v29 main_v28 main_v30 (mulf : (⟨S16384x1024, .f32⟩ : BufTy).Contents (Elt F) → (⟨S16384x1024, .f32⟩ : BufTy).Contents (Elt F) → (⟨S16384x1024, .f32⟩ : BufTy).Contents (Elt F)),
    unary main_arg5 main_v31 ((extractStridedSlice S1x1x1024x5632 ![0, 1, 0, 0] · slices_S4x2x1024x5632_S1x1x1024x5632_0_1_0_0) : (⟨S4x2x1024x5632, .f32⟩ : BufTy).Contents (Elt F) → (⟨S1x1x1024x5632, .f32⟩ : BufTy).Contents (Elt F)),
    reshape main_v31 main_v32 (rfl : (.f32 : EltTy) = .f32) shapeCasts_S1x1x1024x5632_S1024x5632,
    unary main_arg6 main_v33 ((extractStridedSlice S1x1x2816x1024 ![0, 1, 0, 0] · slices_S4x2x2816x1024_S1x1x2816x1024_0_1_0_0) : (⟨S4x2x2816x1024, .f32⟩ : BufTy).Contents (Elt F) → (⟨S1x1x2816x1024, .f32⟩ : BufTy).Contents (Elt F)),
    reshape main_v33 main_v34 (rfl : (.f32 : EltTy) = .f32) shapeCasts_S1x1x2816x1024_S2816x1024,
    binary main_v28 main_v32 main_v35 ((fun l r => Host.dotGeneral dot_S16384x1024_S1024x5632_S16384x5632_1_0_0_1_n_n none l r) : (⟨S16384x1024, .f32⟩ : BufTy).Contents (Elt F) → (⟨S1024x5632, .f32⟩ : BufTy).Contents (Elt F) → (⟨S16384x5632, .f32⟩ : BufTy).Contents (Elt F)),
    unary main_v35 main_v36 ((extractStridedSlice S16384x2816 ![0, 0] · slices_S16384x5632_S16384x2816_0_0) : (⟨S16384x5632, .f32⟩ : BufTy).Contents (Elt F) → (⟨S16384x2816, .f32⟩ : BufTy).Contents (Elt F)),
    unary main_v35 main_v37 ((extractStridedSlice S16384x2816 ![0, 2816] · slices_S16384x5632_S16384x2816_0_2816) : (⟨S16384x5632, .f32⟩ : BufTy).Contents (Elt F) → (⟨S16384x2816, .f32⟩ : BufTy).Contents (Elt F)),
    TRef.unary (TRef.of (T := ⟨S16384x2816, .f32⟩) main_v36) (TRef.of (T := ⟨S16384x2816, .f32⟩) main_call0_v0) Host.negf,
    TRef.unary (TRef.of (T := ⟨S16384x2816, .f32⟩) main_call0_v0) (TRef.of (T := ⟨S16384x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S16384x2816, .f32⟩) main_call0_v2) (broadcastInDim S16384x2816 ![] bcast_S_S16384x2816),
    TRef.binary (TRef.of (T := ⟨S16384x2816, .f32⟩) main_call0_v2) (TRef.of (T := ⟨S16384x2816, .f32⟩) main_call0_v1) (TRef.of (T := ⟨S16384x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S16384x2816, .f32⟩) main_call0_v4) (broadcastInDim S16384x2816 ![] bcast_S_S16384x2816),
    TRef.binary (TRef.of (T := ⟨S16384x2816, .f32⟩) main_call0_v4) (TRef.of (T := ⟨S16384x2816, .f32⟩) main_call0_v3) (TRef.of (T := ⟨S16384x2816, .f32⟩) main_call0_v5) Host.divf,
    TRef.binary (TRef.of (T := ⟨S16384x2816, .f32⟩) main_v36) (TRef.of (T := ⟨S16384x2816, .f32⟩) main_call0_v5) (TRef.of (T := ⟨S16384x2816, .f32⟩) main_v38) mulf,
    binary main_v38 main_v37 main_v39 (mulf : (⟨S16384x2816, .f32⟩ : BufTy).Contents (Elt F) → (⟨S16384x2816, .f32⟩ : BufTy).Contents (Elt F) → (⟨S16384x2816, .f32⟩ : BufTy).Contents (Elt F)),
    binary main_v39 main_v34 main_v40 ((fun l r => Host.dotGeneral dot_S16384x2816_S2816x1024_S16384x1024_1_0_0_1_n_n none l r) : (⟨S16384x2816, .f32⟩ : BufTy).Contents (Elt F) → (⟨S2816x1024, .f32⟩ : BufTy).Contents (Elt F) → (⟨S16384x1024, .f32⟩ : BufTy).Contents (Elt F)),
    nullary main_cst_6 (constant S_ .f32 0x3F000000#32),
    unary main_cst_6 main_v41 (broadcastInDim S16384x1024 ![] bcast_S_S16384x1024 : (⟨S_, .f32⟩ : BufTy).Contents (Elt F) → (⟨S16384x1024, .f32⟩ : BufTy).Contents (Elt F)),
    binary main_v41 main_v40 main_v42 (mulf : (⟨S16384x1024, .f32⟩ : BufTy).Contents (Elt F) → (⟨S16384x1024, .f32⟩ : BufTy).Contents (Elt F) → (⟨S16384x1024, .f32⟩ : BufTy).Contents (Elt F)),
    binary main_v30 main_v42 main_v43 (addf : (⟨S16384x1024, .f32⟩ : BufTy).Contents (Elt F) → (⟨S16384x1024, .f32⟩ : BufTy).Contents (Elt F) → (⟨S16384x1024, .f32⟩ : BufTy).Contents (Elt F)),
    nullary main_cst_7 (constant S_ .f32 0x00000000#32),
    binary main_v43 main_cst_7 main_v44 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v44 main_v45 (broadcastInDim S16384x1 ![0] bcast_S16384_S16384x1_0 : (⟨S16384, .f32⟩ : BufTy).Contents (Elt F) → (⟨S16384x1, .f32⟩ : BufTy).Contents (Elt F)),
    nullary main_cst_8 (constant S_ .f32 0x44800000#32),
    unary main_cst_8 main_v46 (broadcastInDim S16384x1 ![] bcast_S_S16384x1 : (⟨S_, .f32⟩ : BufTy).Contents (Elt F) → (⟨S16384x1, .f32⟩ : BufTy).Contents (Elt F)),
    binary main_v45 main_v46 main_v47 (Host.divf : (⟨S16384x1, .f32⟩ : BufTy).Contents (Elt F) → (⟨S16384x1, .f32⟩ : BufTy).Contents (Elt F) → (⟨S16384x1, .f32⟩ : BufTy).Contents (Elt F)),
    unary main_v47 main_v48 (broadcastInDim S16384x1024 ![0, 1] bcast_S16384x1_S16384x1024_0_1 : (⟨S16384x1, .f32⟩ : BufTy).Contents (Elt F) → (⟨S16384x1024, .f32⟩ : BufTy).Contents (Elt F)),
    binary main_v43 main_v48 main_v49 (subf : (⟨S16384x1024, .f32⟩ : BufTy).Contents (Elt F) → (⟨S16384x1024, .f32⟩ : BufTy).Contents (Elt F) → (⟨S16384x1024, .f32⟩ : BufTy).Contents (Elt F)),
    binary main_v49 main_v49 main_v50 (mulf : (⟨S16384x1024, .f32⟩ : BufTy).Contents (Elt F) → (⟨S16384x1024, .f32⟩ : BufTy).Contents (Elt F) → (⟨S16384x1024, .f32⟩ : BufTy).Contents (Elt F)),
    nullary main_cst_9 (constant S_ .f32 0x00000000#32),
    binary main_v50 main_cst_9 main_v51 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v51 main_v52 (broadcastInDim S16384x1 ![0] bcast_S16384_S16384x1_0 : (⟨S16384, .f32⟩ : BufTy).Contents (Elt F) → (⟨S16384x1, .f32⟩ : BufTy).Contents (Elt F)),
    nullary main_cst_10 (constant S_ .f32 0x44800000#32),
    unary main_cst_10 main_v53 (broadcastInDim S16384x1 ![] bcast_S_S16384x1 : (⟨S_, .f32⟩ : BufTy).Contents (Elt F) → (⟨S16384x1, .f32⟩ : BufTy).Contents (Elt F)),
    binary main_v52 main_v53 main_v54 (Host.divf : (⟨S16384x1, .f32⟩ : BufTy).Contents (Elt F) → (⟨S16384x1, .f32⟩ : BufTy).Contents (Elt F) → (⟨S16384x1, .f32⟩ : BufTy).Contents (Elt F)),
    unary main_v47 main_v55 (broadcastInDim S16384x1024 ![0, 1] bcast_S16384x1_S16384x1024_0_1 : (⟨S16384x1, .f32⟩ : BufTy).Contents (Elt F) → (⟨S16384x1024, .f32⟩ : BufTy).Contents (Elt F)),
    binary main_v43 main_v55 main_v56 (subf : (⟨S16384x1024, .f32⟩ : BufTy).Contents (Elt F) → (⟨S16384x1024, .f32⟩ : BufTy).Contents (Elt F) → (⟨S16384x1024, .f32⟩ : BufTy).Contents (Elt F)),
    nullary main_cst_11 (constant S_ .f32 0x3727C5AC#32),
    unary main_cst_11 main_v57 (broadcastInDim S16384x1 ![] bcast_S_S16384x1 : (⟨S_, .f32⟩ : BufTy).Contents (Elt F) → (⟨S16384x1, .f32⟩ : BufTy).Contents (Elt F)),
    binary main_v54 main_v57 main_v58 (addf : (⟨S16384x1, .f32⟩ : BufTy).Contents (Elt F) → (⟨S16384x1, .f32⟩ : BufTy).Contents (Elt F) → (⟨S16384x1, .f32⟩ : BufTy).Contents (Elt F)),
    unary main_v58 main_v59 (Host.rsqrt : (⟨S16384x1, .f32⟩ : BufTy).Contents (Elt F) → (⟨S16384x1, .f32⟩ : BufTy).Contents (Elt F)),
    unary main_v59 main_v60 (broadcastInDim S16384x1024 ![0, 1] bcast_S16384x1_S16384x1024_0_1 : (⟨S16384x1, .f32⟩ : BufTy).Contents (Elt F) → (⟨S16384x1024, .f32⟩ : BufTy).Contents (Elt F)),
    binary main_v56 main_v60 main_v61 (mulf : (⟨S16384x1024, .f32⟩ : BufTy).Contents (Elt F) → (⟨S16384x1024, .f32⟩ : BufTy).Contents (Elt F) → (⟨S16384x1024, .f32⟩ : BufTy).Contents (Elt F)),
    unary main_arg7 main_v62 (broadcastInDim S1x1024 ![1] bcast_S1024_S1x1024_1 : (⟨S1024, .f32⟩ : BufTy).Contents (Elt F) → (⟨S1x1024, .f32⟩ : BufTy).Contents (Elt F)),
    unary main_v62 main_v63 (broadcastInDim S16384x1024 ![0, 1] bcast_S1x1024_S16384x1024_0_1 : (⟨S1x1024, .f32⟩ : BufTy).Contents (Elt F) → (⟨S16384x1024, .f32⟩ : BufTy).Contents (Elt F)),
    binary main_v61 main_v63 main_v64 (mulf : (⟨S16384x1024, .f32⟩ : BufTy).Contents (Elt F) → (⟨S16384x1024, .f32⟩ : BufTy).Contents (Elt F) → (⟨S16384x1024, .f32⟩ : BufTy).Contents (Elt F)),
    unary main_arg8 main_v65 (broadcastInDim S1x1024 ![1] bcast_S1024_S1x1024_1 : (⟨S1024, .f32⟩ : BufTy).Contents (Elt F) → (⟨S1x1024, .f32⟩ : BufTy).Contents (Elt F)),
    unary main_v65 main_v66 (broadcastInDim S16384x1024 ![0, 1] bcast_S1x1024_S16384x1024_0_1 : (⟨S1x1024, .f32⟩ : BufTy).Contents (Elt F) → (⟨S16384x1024, .f32⟩ : BufTy).Contents (Elt F)),
    binary main_v64 main_v66 main_v67 (addf : (⟨S16384x1024, .f32⟩ : BufTy).Contents (Elt F) → (⟨S16384x1024, .f32⟩ : BufTy).Contents (Elt F) → (⟨S16384x1024, .f32⟩ : BufTy).Contents (Elt F)) ]

set_option maxRecDepth 8192 in
set_option maxHeartbeats 2000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
end

/-- Gate and up projections of every row, side by side. -/
def refGU (x : FVec Ideal S16384x1024 .f32) (gu : FVec Ideal S4x2x1024x5632 .f32) : FVec Ideal S16384x5632 .f32 :=
  Host.dotGeneral dot_S16384x1024_S1024x5632_S16384x5632_1_0_0_1_n_n none x (shapeCast _ (extractStridedSlice S1x1x1024x5632 ![0, 1, 0, 0] gu slices_S4x2x1024x5632_S1x1x1024x5632_0_1_0_0) shapeCasts_S1x1x1024x5632_S1024x5632)

/-- The hidden rows, of the two projections. -/
def refH (p : FVec Ideal S16384x5632 .f32) : FVec Ideal S16384x2816 .f32 :=
  mulf (mulf (extractStridedSlice S16384x2816 ![0, 0] p slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] p slices_S16384x5632_S16384x2816_0_0)))))) (extractStridedSlice S16384x2816 ![0, 2816] p slices_S16384x5632_S16384x2816_0_2816)

/-- The residual sum. -/
def refZ (x : FVec Ideal S16384x1024 .f32) (h : FVec Ideal S16384x2816 .f32) (dn : FVec Ideal S4x2x2816x1024 .f32) : FVec Ideal S16384x1024 .f32 :=
  addf (mulf (broadcastInDim S16384x1024 ![] bcast_S_S16384x1024 (constant S_ .f32 0x3FD744FD#32)) x) (mulf (broadcastInDim S16384x1024 ![] bcast_S_S16384x1024 (constant S_ .f32 0x3F000000#32)) (Host.dotGeneral dot_S16384x2816_S2816x1024_S16384x1024_1_0_0_1_n_n none h (shapeCast _ (extractStridedSlice S1x1x2816x1024 ![0, 1, 0, 0] dn slices_S4x2x2816x1024_S1x1x2816x1024_0_1_0_0) shapeCasts_S1x1x2816x1024_S2816x1024)))

/-- The rows' means, one column. -/
def refMean (z : FVec Ideal S16384x1024 .f32) : FVec Ideal S16384x1 .f32 :=
  Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))

/-- The rows less their means. -/
def refDev (z : FVec Ideal S16384x1024 .f32) : FVec Ideal S16384x1024 .f32 :=
  subf z (broadcastInDim S16384x1024 ![0, 1] bcast_S16384x1_S16384x1024_0_1 (refMean z))

/-- The layer norm. -/
def refLN (z : FVec Ideal S16384x1024 .f32) (g b : FVec Ideal S1024 .f32) : FVec Ideal S16384x1024 .f32 :=
  addf (mulf (mulf (refDev z) (broadcastInDim S16384x1024 ![0, 1] bcast_S16384x1_S16384x1024_0_1 (Host.rsqrt (addf (refMean (mulf (refDev z) (refDev z))) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-- The first residual sum: the layer's rows and the attention's, projected. -/
def refY (x : FVec Ideal S16384x1024 .f32) (a : FVec Ideal S16384x1024 .bf16) (w : FVec Ideal S1024x1024 .f32) : FVec Ideal S16384x1024 .f32 :=
  addf (mulf (broadcastInDim S16384x1024 ![] bcast_S_S16384x1024 (constant S_ .f32 0x3FD744FD#32)) x) (Host.dotGeneral dot_S16384x1024_S1024x1024_S16384x1024_1_0_0_1_n_n none (extf .f32 a bitsLt_bf16_f32) w)

/-- The reference as one composition. -/
def refOut (x : FVec Ideal S16384x1024 .f32) (a : FVec Ideal S16384x1024 .bf16) (w : FVec Ideal S1024x1024 .f32) (ga ba : FVec Ideal S1024 .f32) (gu : FVec Ideal S4x2x1024x5632 .f32) (dn : FVec Ideal S4x2x2816x1024 .f32) (g b : FVec Ideal S1024 .f32) : FVec Ideal S16384x1024 .f32 :=
  refLN (refZ (refLN (refY x a w) ga ba) (refH (refGU (refLN (refY x a w) ga ba) gu)) dn) g b

set_option maxRecDepth 16384 in
set_option maxHeartbeats 2000000 in
/-- The reference's run: its result is that composition of the arguments, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v67).trans (by simp only [ops, TRef.binary, TRef.nullary, TRef.unary, TRef.toBuf, TRef.ofBuf, cast_eq]; after_results_simp <;> rfl <;> rfl),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl),
      (h c main_arg6).trans (by simp only [ops, TRef.binary, TRef.nullary, TRef.unary, TRef.toBuf, TRef.ofBuf, cast_eq]; after_results_simp <;> rfl),
      (h c main_arg7).trans (by simp only [ops, TRef.binary, TRef.nullary, TRef.unary, TRef.toBuf, TRef.ofBuf, cast_eq]; after_results_simp <;> rfl),
      (h c main_arg8).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

theorem refGU_at (x : FVec Ideal S16384x1024 .f32) (gu : FVec Ideal S4x2x1024x5632 .f32) (R : Fin 16384) (j : Fin 5632) :
    refGU x gu (ix2 R j) = ∑ i : Fin 1024, x (ix2 R i) * gu (ix4 0 1 i j) := by
  pointwise [refGU]

theorem refH_at (p : FVec Ideal S16384x5632 .f32) (R : Fin 16384) (j : Fin 2816) :
    refH p (ix2 R j) = Cert.FfnMath.silu (p (ix2 R ⟨j.val, by omega⟩)) * p (ix2 R ⟨2816 + j.val, by omega⟩) := by
  pointwise [refH]
  rfl

theorem refZ_at (x : FVec Ideal S16384x1024 .f32) (h : FVec Ideal S16384x2816 .f32) (dn : FVec Ideal S4x2x2816x1024 .f32) (R : Fin 16384) (q : Fin 1024) :
    refZ x h dn (ix2 R q) = Ideal.ofBits FTy.f32 1071072509#32 * x (ix2 R q) + Ideal.ofBits FTy.f32 1056964608#32 * ∑ j : Fin 2816, h (ix2 R j) * dn (ix4 0 1 j q) := by
  pointwise [refZ]

theorem refLN_at (z : FVec Ideal S16384x1024 .f32) (g b : FVec Ideal S1024 .f32) (R : Fin 16384) (k : Fin 1024) :
    refLN z g b (ix2 R k) = Cert.PoolIdeal.Hand.lnRow (fun q => z (ix2 R q)) (g (ix1 k)) (b (ix1 k)) k := by
  pointwise [refLN, refDev, refMean]
  rfl

theorem refY_at (x : FVec Ideal S16384x1024 .f32) (a : FVec Ideal S16384x1024 .bf16) (w : FVec Ideal S1024x1024 .f32) (R : Fin 16384) (q : Fin 1024) :
    refY x a w (ix2 R q) = Ideal.ofBits FTy.f32 1071072509#32 * x (ix2 R q) + ∑ i : Fin 1024, a (ix2 R i) * w (ix2 i q) := by
  pointwise [refY]

theorem refOut_at (x : FVec Ideal S16384x1024 .f32) (a : FVec Ideal S16384x1024 .bf16) (w : FVec Ideal S1024x1024 .f32) (ga ba : FVec Ideal S1024 .f32) (gu : FVec Ideal S4x2x1024x5632 .f32) (dn : FVec Ideal S4x2x2816x1024 .f32) (g b : FVec Ideal S1024 .f32) (R : Fin 16384) (k : Fin 1024) :
    refOut x a w ga ba gu dn g b (ix2 R k)
      = Cert.FfnMath.out (fun q => Cert.PoolIdeal.Hand.lnRow (fun p => Ideal.ofBits FTy.f32 1071072509#32 * x (ix2 R p) + ∑ i : Fin 1024, a (ix2 R i) * w (ix2 i p)) (ga (ix1 q)) (ba (ix1 q)) q)
          (fun i j => gu (ix4 0 1 i j)) (fun i j => dn (ix4 0 1 i j)) (fun q => g (ix1 q)) (fun q => b (ix1 q)) k := by
  unfold refOut Cert.FfnMath.out
  have hx : ∀ q : Fin 1024, refLN (refY x a w) ga ba (ix2 R q) = Cert.PoolIdeal.Hand.lnRow (fun p => Ideal.ofBits FTy.f32 1071072509#32 * x (ix2 R p) + ∑ i : Fin 1024, a (ix2 R i) * w (ix2 i p)) (ga (ix1 q)) (ba (ix1 q)) q := by
    intro q
    rw [refLN_at]
    exact congrArg (fun z => Cert.PoolIdeal.Hand.lnRow z (ga (ix1 q)) (ba (ix1 q)) q) (funext fun p => refY_at x a w R p)
  rw [refLN_at]
  refine congrArg (fun z => Cert.PoolIdeal.Hand.lnRow z (g (ix1 k)) (b (ix1 k)) k) (funext fun q => ?_)
  rw [refZ_at]
  unfold Cert.FfnMath.res
  rw [hx]
  refine congrArg₂ (fun y s => Ideal.ofBits FTy.f32 1071072509#32 * y + Ideal.ofBits FTy.f32 1056964608#32 * s) rfl (Finset.sum_congr rfl fun j _ => ?_)
  rw [refH_at, refGU_at, refGU_at]
  unfold Cert.FfnMath.hid
  simp only [hx]

end Cert.FfnPreRefIdeal.Hand

end
-- ==== Proof.QkvRef.lean ====
/- The attention's input projection: what the reference's two results are, entry by entry. -/
module

public import proofs.«01_k».proof.Proof.Gen.QkvRefIdeal.Run
public import Idealize.ShloMosaic.Lib.Pointwise
public import Idealize.ShloMosaic.Lib.IdealHost
public import Idealize.ShloMosaic.Lib.Claim

@[expose] public section

set_option maxRecDepth 16384

noncomputable section

namespace Cert.QkvRefIdeal.Hand

open Idealize.ShloMosaic Idealize.SL.Sem
open Cert.QkvRefIdeal Cert.QkvRefIdeal.Facts Cert.QkvRefIdeal.Gen

/-- Entry `k` of a row's product with the weight. -/
def proj (x : S16384x1024.Idx → EReal) (w : S1024x3072.Idx → EReal) (R : Fin 16384) (k : Fin 3072) : EReal :=
  ∑ j : Fin 1024, x (ix2 R j) * w (ix2 j k)

/-- The queries, scaled, and the keys, side by side. -/
def qkAt (x : S16384x1024.Idx → EReal) (w : S1024x3072.Idx → EReal) (R : Fin 16384) (k : Fin 2048) : EReal :=
  if k.val < 1024 then proj x w R ⟨k.val, by omega⟩ * Ideal.ofBits FTy.f32 0x3E0293EE#32 else proj x w R ⟨k.val, by omega⟩

/-- The values, a head's lanes along the rows, with sixteen rows of ones behind each head. -/
def vtAt (x : S16384x1024.Idx → EReal) (w : S1024x3072.Idx → EReal) (b : Fin 4) (r : Fin 1152) (s : Fin 4096) : EReal :=
  if r.val % 144 < 128 then proj x w ⟨b.val * 4096 + s.val, by omega⟩ ⟨2048 + (r.val / 144 * 128 + r.val % 144 % 128), by omega⟩ else 1

def refP (x : FVec Ideal S16384x1024 .f32) (w : FVec Ideal S1024x3072 .f32) : FVec Ideal S16384x3072 .f32 :=
  Host.dotGeneral dot_S16384x1024_S1024x3072_S16384x3072_1_0_0_1_n_n none x w

def refQk (x : FVec Ideal S16384x1024 .f32) (w : FVec Ideal S1024x3072 .f32) : FVec Ideal S16384x2048 .bf16 :=
  truncf .bf16 (concatenate S16384x2048 1 [⟨S16384x1024, (mulf (extractStridedSlice S16384x1024 ![0, 0] (refP x w) slices_S16384x3072_S16384x1024_0_0) (broadcastInDim S16384x1024 ![] bcast_S_S16384x1024 (constant S_ .f32 0x3E0293EE#32)))⟩, ⟨S16384x1024, (extractStridedSlice S16384x1024 ![0, 1024] (refP x w) slices_S16384x3072_S16384x1024_0_1024)⟩] concatenates_S16384x1024_S16384x1024_S16384x2048_d1) bitsLt_bf16_f32

def refV (x : FVec Ideal S16384x1024 .f32) (w : FVec Ideal S1024x3072 .f32) : FVec Ideal S4x8x128x4096 .f32 :=
  transpose S4x8x128x4096 [0, 2, 3, 1] (shapeCast S4x4096x8x128 (extractStridedSlice S16384x1024 ![0, 2048] (refP x w) slices_S16384x3072_S16384x1024_0_2048) shapeCasts_S16384x1024_S4x4096x8x128) transposes_S4x4096x8x128_S4x8x128x4096_0_2_3_1

def refCat (x : FVec Ideal S16384x1024 .f32) (w : FVec Ideal S1024x3072 .f32) : FVec Ideal S4x8x144x4096 .f32 :=
  concatenate S4x8x144x4096 2 [⟨S4x8x128x4096, refV x w⟩, ⟨S4x8x16x4096, (broadcastInDim S4x8x16x4096 ![] bcast_S_S4x8x16x4096 (constant S_ .f32 0x3F800000#32))⟩] concatenates_S4x8x128x4096_S4x8x16x4096_S4x8x144x4096_d2

def refVt (x : FVec Ideal S16384x1024 .f32) (w : FVec Ideal S1024x3072 .f32) : FVec Ideal S4x1152x4096 .bf16 :=
  truncf .bf16 (shapeCast S4x1152x4096 (refCat x w) shapeCasts_S4x8x144x4096_S4x1152x4096) bitsLt_bf16_f32

theorem refP_at (x : FVec Ideal S16384x1024 .f32) (w : FVec Ideal S1024x3072 .f32) (R : Fin 16384) (k : Fin 3072) :
    refP x w (ix2 R k) = proj x w R k := by
  unfold proj
  pointwise [refP]

theorem refQk_at (x : FVec Ideal S16384x1024 .f32) (w : FVec Ideal S1024x3072 .f32) (R : Fin 16384) (k : Fin 2048) :
    refQk x w (ix2 R k) = qkAt x w R k := by
  unfold qkAt
  simp only [← refP_at]
  pointwise [refQk]
  by_cases h : k.val < 1024
  · rw [dif_pos h, if_pos h]
  · rw [dif_neg h, if_neg h]
    exact congrArg (fun n => refP x w (ix2 R n)) (Fin.ext (show 1024 + (k.val - 1024) = k.val by omega))

/-- Two middle axes merged into one. -/
theorem cast_merge {α : Type} {a b c e n : ℕ} (x : (⟨4, ![a, b, c, e]⟩ : Shape).Idx → α) (h : (⟨4, ![a, b, c, e]⟩ : Shape).ShapeCasts ⟨3, ![a, n, e]⟩) (hn : n = b * c)
    (i : Fin a) (j : Fin n) (l : Fin e) (jb : Fin b) (jc : Fin c) (hj : j.val = jb.val * c + jc.val) :
    shapeCast ⟨3, ![a, n, e]⟩ x h (ix3 i j l) = x (ix4 i jb jc l) :=
  shapeCast_apply x h _ _ (by
    rw [Shape.rowMajor_val_four, Shape.rowMajor_val_three]
    show ((i.val * b + jb.val) * c + jc.val) * e + l.val = (i.val * n + j.val) * e + l.val
    rw [hj, hn]
    ring)

/-- Both axes split in two. -/
theorem cast_split {α : Type} {a b c e n k : ℕ} (x : (⟨2, ![n, k]⟩ : Shape).Idx → α) (h : (⟨2, ![n, k]⟩ : Shape).ShapeCasts ⟨4, ![a, b, c, e]⟩) (hk : k = c * e)
    (i : Fin a) (j : Fin b) (p : Fin c) (q : Fin e) (R : Fin n) (C : Fin k) (hR : R.val = i.val * b + j.val) (hC : C.val = p.val * e + q.val) :
    shapeCast ⟨4, ![a, b, c, e]⟩ x h (ix4 i j p q) = x (ix2 R C) :=
  shapeCast_apply x h _ _ (by
    rw [Shape.rowMajor_val_four, Shape.rowMajor_val_two]
    show R.val * k + C.val = ((i.val * b + j.val) * c + p.val) * e + q.val
    rw [hR, hC, hk]
    ring)

/-- The axes rotated, the first left in place. -/
theorem turn {α : Type} {a b c e : ℕ} (x : (⟨4, ![a, b, c, e]⟩ : Shape).Idx → α) (h : (⟨4, ![a, b, c, e]⟩ : Shape).Transposes [0, 2, 3, 1] ⟨4, ![a, c, e, b]⟩)
    (i : Fin a) (j : Fin b) (p : Fin c) (q : Fin e) :
    transpose ⟨4, ![a, c, e, b]⟩ [0, 2, 3, 1] x h (ix4 i p q j) = x (ix4 i j p q) :=
  transpose_apply _ x h _ _ fun d => match d with | ⟨0, _⟩ => rfl | ⟨1, _⟩ => rfl | ⟨2, _⟩ => rfl | ⟨3, _⟩ => rfl

theorem cut_at (p : FVec Ideal S16384x3072 .f32) (R : Fin 16384) (k : Fin 1024) :
    extractStridedSlice S16384x1024 ![0, 2048] p slices_S16384x3072_S16384x1024_0_2048 (ix2 R k) = p (ix2 R ⟨2048 + k.val, by omega⟩) := by
  pointwise

theorem refV_at (x : FVec Ideal S16384x1024 .f32) (w : FVec Ideal S1024x3072 .f32) (b : Fin 4) (h : Fin 8) (r : Fin 128) (s : Fin 4096) :
    refV x w (ix4 b h r s) = proj x w ⟨b.val * 4096 + s.val, by omega⟩ ⟨2048 + (h.val * 128 + r.val), by omega⟩ := by
  unfold refV
  refine (turn _ transposes_S4x4096x8x128_S4x8x128x4096_0_2_3_1 b s h r).trans ?_
  refine (cast_split _ shapeCasts_S16384x1024_S4x4096x8x128 (by norm_num) b s h r ⟨b.val * 4096 + s.val, by omega⟩ ⟨h.val * 128 + r.val, by omega⟩ rfl rfl).trans ?_
  rw [cut_at, refP_at]

theorem refCat_at (x : FVec Ideal S16384x1024 .f32) (w : FVec Ideal S1024x3072 .f32) (b : Fin 4) (h : Fin 8) (r : Fin 144) (s : Fin 4096) :
    refCat x w (ix4 b h r s) = if hr : r.val < 128 then refV x w (ix4 b h ⟨r.val, hr⟩ s) else 1 := by
  pointwise [refCat]

theorem trunc_at (v : FVec Ideal S4x1152x4096 .f32) (i : S4x1152x4096.Idx) : (truncf .bf16 v bitsLt_bf16_f32 : FVec Ideal S4x1152x4096 .bf16) i = v i := rfl

theorem refMerge_at (v : FVec Ideal S4x8x144x4096 .f32) (b : Fin 4) (r : Fin 1152) (s : Fin 4096) (p : Fin 8) (q : Fin 144) (h : r.val = p.val * 144 + q.val) :
    shapeCast S4x1152x4096 v shapeCasts_S4x8x144x4096_S4x1152x4096 (ix3 b r s) = v (ix4 b p q s) :=
  cast_merge v shapeCasts_S4x8x144x4096_S4x1152x4096 (by norm_num) b r s p q h

theorem refVt_at (x : FVec Ideal S16384x1024 .f32) (w : FVec Ideal S1024x3072 .f32) (b : Fin 4) (r : Fin 1152) (s : Fin 4096) :
    refVt x w (ix3 b r s) = vtAt x w b r s := by
  have hr : r.val / 144 < 8 := by omega
  have hm : r.val % 144 < 144 := Nat.mod_lt _ (by decide)
  have hd : r.val = r.val / 144 * 144 + r.val % 144 := by omega
  unfold refVt
  rw [trunc_at, refMerge_at (refCat x w) b r s ⟨r.val / 144, hr⟩ ⟨r.val % 144, hm⟩ hd, refCat_at]
  unfold vtAt
  by_cases h : r.val % 144 < 128
  · rw [dif_pos h, if_pos h, refV_at]
    exact congrArg (proj x w _) (Fin.ext (show 2048 + (r.val / 144 * 128 + r.val % 144) = 2048 + (r.val / 144 * 128 + r.val % 144 % 128) by omega))
  · rw [dif_neg h, if_neg h]

/-- The reference's run: its two results, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = (fun i : S16384x2048.Idx => qkAt (m ((c.tc : Thread nD τ).loc main_arg0)) (m ((c.tc : Thread nD τ).loc main_arg1)) (i 0) (i 1))
      ∧ r.2.mem ((c.tc : Thread nD τ).loc main_v13) = (fun i : S4x1152x4096.Idx => vtAt (m ((c.tc : Thread nD τ).loc main_arg0)) (m ((c.tc : Thread nD τ).loc main_arg1)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ?_) (Value.run m ρ)
  refine ⟨(h c).1.trans (funext fun i => ?_), (h c).2.1.trans (funext fun i => ?_), (h c).2.2⟩
  · obtain ⟨R, k, rfl⟩ : ∃ R k, i = ix2 R k := ⟨i 0, i 1, eq_ix2 i⟩
    exact refQk_at _ _ R k
  · obtain ⟨b, q, s, rfl⟩ : ∃ b q s, i = ix3 b q s := ⟨i 0, i 1, i 2, eq_ix3 i⟩
    exact refVt_at _ _ b q s

end Cert.QkvRefIdeal.Hand

end
-- ==== Proof.QkvFinal.lean ====
/- The attention's input projection: what the kernel's two results are, entry by entry. -/
module

public import proofs.«01_k».proof.Proof.QkvRef
public import proofs.«01_k».proof.Proof.Gen.QkvIdeal.Value
public import Idealize.ShloMosaic.Lib.Pipeline.ValueKit

@[expose] public section

set_option maxRecDepth 16384

noncomputable section

namespace Cert.QkvIdeal.Hand

open Idealize.ShloMosaic Idealize.SL.Sem Idealize.ShloMosaic.Pipeline
open Cert.QkvIdeal Cert.QkvIdeal.Gen
open Cert.QkvRefIdeal.Hand (proj qkAt vtAt)

theorem pay7_at (x : Vec Ideal S1024x1024 .f32) (w : Vec Ideal S1024x2048 .bf16) (r : Fin 1024) (k : Fin 2048) :
    k0_pay7 (F := Ideal) x w (ix2 r k) = ∑ j : Fin 1024, x (ix2 r j) * w (ix2 j k) := by
  pointwise [k0_pay7, k0_pay6]

theorem pay8_at (x : Vec Ideal S1024x1024 .f32) (w : Vec Ideal S1024x1024 .bf16) (r : Fin 1024) (k : Fin 1024) :
    k0_pay8 (F := Ideal) x w (ix2 r k) = ∑ j : Fin 1024, w (ix2 r j) * x (ix2 k j) := by
  pointwise [k0_pay8, k0_pay6]

/-- The second result's block of a product's rows: each head's 128 rows, then sixteen of ones. -/
def vtBlk (p : S1024x1024.Idx → EReal) (r : Fin 1152) (s : Fin 1024) : EReal :=
  if r.val % 144 < 128 then p (ix2 ⟨r.val / 144 * 128 + r.val % 144 % 128, by omega⟩ s) else 1

theorem vtBlk_lane (p : S1024x1024.Idx → EReal) (r : Fin 1152) (s : Fin 1024) (h q : ℕ) (hq : q < 128) (hr : r.val = 144 * h + q) (R : Fin 1024) (hR : R.val = 128 * h + q) :
    p (ix2 R s) = vtBlk p r s := by
  unfold vtBlk
  rw [if_pos (by omega)]
  exact congrArg (fun n => p (ix2 n s)) (Fin.ext (by show R.val = r.val / 144 * 128 + r.val % 144 % 128; omega))

theorem vtBlk_one (p : S1024x1024.Idx → EReal) (r : Fin 1152) (s : Fin 1024) (h q : ℕ) (hq : q < 16) (hr : r.val = 144 * h + 128 + q) :
    (1 : EReal) = vtBlk p r s := by
  unfold vtBlk
  rw [if_neg (by omega)]

theorem val9_at (X0 : Vec Ideal S1024x1024 .f32) (X2 : Vec Ideal S1024x1024 .bf16) (a : Fin 1) (b : Fin 128) (s : Fin 1024) :
    k0_pay9 (F := Ideal) X0 X2 (ix3 a b s) = k0_pay8 (F := Ideal) X0 X2 (ix2 ⟨b.val, by omega⟩ s) := by
  pointwise [k0_pay9]

theorem val11_at (X0 : Vec Ideal S1024x1024 .f32) (X2 : Vec Ideal S1024x1024 .bf16) (a : Fin 1) (b : Fin 128) (s : Fin 1024) :
    k0_pay11 (F := Ideal) X0 X2 (ix3 a b s) = k0_pay8 (F := Ideal) X0 X2 (ix2 ⟨128 + b.val, by omega⟩ s) := by
  pointwise [k0_pay11]

theorem val14_at (X0 : Vec Ideal S1024x1024 .f32) (X2 : Vec Ideal S1024x1024 .bf16) (a : Fin 1) (b : Fin 128) (s : Fin 1024) :
    k0_pay14 (F := Ideal) (k0_pay13 X0 X2) (ix3 a b s) = k0_pay8 (F := Ideal) X0 X2 (ix2 ⟨256 + b.val, by omega⟩ s) := by
  pointwise [k0_pay14, k0_pay13]

theorem val16_at (V : FVec Ideal S1024x1024 .bf16) (a : Fin 1) (b : Fin 128) (s : Fin 1024) :
    k0_pay16 (F := Ideal) V (ix3 a b s) = V (ix2 ⟨384 + b.val, by omega⟩ s) := by
  pointwise [k0_pay16]

theorem val18_at (V : FVec Ideal S1024x1024 .bf16) (a : Fin 1) (b : Fin 128) (s : Fin 1024) :
    k0_pay18 (F := Ideal) V (ix3 a b s) = V (ix2 ⟨512 + b.val, by omega⟩ s) := by
  pointwise [k0_pay18]

theorem val20_at (V : FVec Ideal S1024x1024 .bf16) (a : Fin 1) (b : Fin 128) (s : Fin 1024) :
    k0_pay20 (F := Ideal) V (ix3 a b s) = V (ix2 ⟨640 + b.val, by omega⟩ s) := by
  pointwise [k0_pay20]

theorem val2_at (V : FVec Ideal S1024x1024 .bf16) (a : Fin 1) (b : Fin 128) (s : Fin 1024) :
    k0_pay2 (F := Ideal) V (ix3 a b s) = V (ix2 ⟨768 + b.val, by omega⟩ s) := by
  pointwise [k0_pay2]

theorem val4_at (V : FVec Ideal S1024x1024 .bf16) (a : Fin 1) (b : Fin 128) (s : Fin 1024) :
    k0_pay4 (F := Ideal) V (ix3 a b s) = V (ix2 ⟨896 + b.val, by omega⟩ s) := by
  pointwise [k0_pay4]

theorem one10_at (x : S1x16x1024.Idx) : k0_pay10 (F := Ideal) x = 1 := by
  rw [eq_ix3 x]
  pointwise [k0_pay10]

theorem one12_at (x : S1x16x1024.Idx) : k0_pay12 (F := Ideal) x = 1 := by
  rw [eq_ix3 x]
  pointwise [k0_pay12]

theorem one15_at (x : S1x16x1024.Idx) : k0_pay15 (F := Ideal) x = 1 := by
  rw [eq_ix3 x]
  pointwise [k0_pay15]

theorem one17_at (x : S1x16x1024.Idx) : k0_pay17 (F := Ideal) x = 1 := by
  rw [eq_ix3 x]
  pointwise [k0_pay17]

theorem one19_at (x : S1x16x1024.Idx) : k0_pay19 (F := Ideal) x = 1 := by
  rw [eq_ix3 x]
  pointwise [k0_pay19]

theorem one1_at (x : S1x16x1024.Idx) : k0_pay1 (F := Ideal) k0_pay21 x = 1 := by
  rw [eq_ix3 x]
  pointwise [k0_pay1, k0_pay21]

theorem one3_at (x : S1x16x1024.Idx) : k0_pay3 (F := Ideal) x = 1 := by
  rw [eq_ix3 x]
  pointwise [k0_pay3]

theorem one5_at (x : S1x16x1024.Idx) : k0_pay5 (F := Ideal) x = 1 := by
  rw [eq_ix3 x]
  pointwise [k0_pay5]

/-- The sixteen stores of one block. -/
def pieces (X0 : Vec Ideal S1024x1024 .f32) (X2 : Vec Ideal S1024x1024 .bf16) : List (View.Piece (Elt Ideal) S1x1152x1024 .bf16) :=
  [⟨Rect.unit ![0, 1136, 0] ![1, 16, 1024] inb_S1x1152x1024_S1x16x1024_0_1136_0, k0_pay5 (F := Ideal)⟩,
    ⟨Rect.unit ![0, 1008, 0] ![1, 128, 1024] inb_S1x1152x1024_S1x128x1024_0_1008_0, k0_pay4 (k0_pay8 X0 X2)⟩,
    ⟨Rect.unit ![0, 992, 0] ![1, 16, 1024] inb_S1x1152x1024_S1x16x1024_0_992_0, k0_pay3 (F := Ideal)⟩,
    ⟨Rect.unit ![0, 864, 0] ![1, 128, 1024] inb_S1x1152x1024_S1x128x1024_0_864_0, k0_pay2 (k0_pay8 X0 X2)⟩,
    ⟨Rect.unit ![0, 848, 0] ![1, 16, 1024] inb_S1x1152x1024_S1x16x1024_0_848_0, k0_pay1 (F := Ideal) k0_pay21⟩,
    ⟨Rect.unit ![0, 720, 0] ![1, 128, 1024] inb_S1x1152x1024_S1x128x1024_0_720_0, k0_pay20 (k0_pay8 X0 X2)⟩,
    ⟨Rect.unit ![0, 704, 0] ![1, 16, 1024] inb_S1x1152x1024_S1x16x1024_0_704_0, k0_pay19 (F := Ideal)⟩,
    ⟨Rect.unit ![0, 576, 0] ![1, 128, 1024] inb_S1x1152x1024_S1x128x1024_0_576_0, k0_pay18 (k0_pay8 X0 X2)⟩,
    ⟨Rect.unit ![0, 560, 0] ![1, 16, 1024] inb_S1x1152x1024_S1x16x1024_0_560_0, k0_pay17 (F := Ideal)⟩,
    ⟨Rect.unit ![0, 432, 0] ![1, 128, 1024] inb_S1x1152x1024_S1x128x1024_0_432_0, k0_pay16 (k0_pay8 X0 X2)⟩,
    ⟨Rect.unit ![0, 416, 0] ![1, 16, 1024] inb_S1x1152x1024_S1x16x1024_0_416_0, k0_pay15 (F := Ideal)⟩,
    ⟨Rect.unit ![0, 288, 0] ![1, 128, 1024] inb_S1x1152x1024_S1x128x1024_0_288_0, k0_pay14 (k0_pay13 X0 X2)⟩,
    ⟨Rect.unit ![0, 272, 0] ![1, 16, 1024] inb_S1x1152x1024_S1x16x1024_0_272_0, k0_pay12 (F := Ideal)⟩,
    ⟨Rect.unit ![0, 144, 0] ![1, 128, 1024] inb_S1x1152x1024_S1x128x1024_0_144_0, k0_pay11 X0 X2⟩,
    ⟨Rect.unit ![0, 128, 0] ![1, 16, 1024] inb_S1x1152x1024_S1x16x1024_0_128_0, k0_pay10 (F := Ideal)⟩,
    ⟨Rect.unit ![0, 0, 0] ![1, 128, 1024] inb_S1x1152x1024_S1x128x1024_0_0_0, k0_pay9 X0 X2⟩]

/-- The sixteen stores of one block, read as one. -/
theorem vt_block (X0 : Vec Ideal S1024x1024 .f32) (X2 : Vec Ideal S1024x1024 .bf16) (y0 : Fin 1) (y1 : Fin 1152) (y2 : Fin 1024) :
    View.canon (s := S1x1152x1024) (e := .bf16) (Val := Elt Ideal) (pieces X0 X2) (ix3 y0 y1 y2) = vtBlk (k0_pay8 (F := Ideal) X0 X2) y1 y2 := by
  have hcover := View.cover_of_tiledBy (Val := Elt Ideal) (s := S1x1152x1024) (e := .bf16) (pieces X0 X2) ![1, 16, 1024] (by sl_kernel_rfl) (ix3 y0 y1 y2)
  unfold pieces at hcover ⊢
  canon_tiles x h using hcover
  · refine (one5_at x).trans ((vtBlk_one (k0_pay8 (F := Ideal) X0 X2) y1 y2 7 (x 1).val x1_lt ?_))
    have h1' : y1.val = 1136 + (x 1).val := h1
    omega
  · have h1' : y1.val = 1008 + (x 1).val := h1
    have h2' : x 2 = y2 := Fin.ext h2.symm
    rw [eq_ix3 x]
    refine (val4_at (k0_pay8 (F := Ideal) X0 X2) (x 0) (x 1) (x 2)).trans ?_
    rw [h2']
    exact vtBlk_lane _ y1 y2 7 (x 1).val x1_lt (by omega) _ (by rfl)
  · refine (one3_at x).trans ((vtBlk_one (k0_pay8 (F := Ideal) X0 X2) y1 y2 6 (x 1).val x1_lt ?_))
    have h1' : y1.val = 992 + (x 1).val := h1
    omega
  · have h1' : y1.val = 864 + (x 1).val := h1
    have h2' : x 2 = y2 := Fin.ext h2.symm
    rw [eq_ix3 x]
    refine (val2_at (k0_pay8 (F := Ideal) X0 X2) (x 0) (x 1) (x 2)).trans ?_
    rw [h2']
    exact vtBlk_lane _ y1 y2 6 (x 1).val x1_lt (by omega) _ (by rfl)
  · refine (one1_at x).trans ((vtBlk_one (k0_pay8 (F := Ideal) X0 X2) y1 y2 5 (x 1).val x1_lt ?_))
    have h1' : y1.val = 848 + (x 1).val := h1
    omega
  · have h1' : y1.val = 720 + (x 1).val := h1
    have h2' : x 2 = y2 := Fin.ext h2.symm
    rw [eq_ix3 x]
    refine (val20_at (k0_pay8 (F := Ideal) X0 X2) (x 0) (x 1) (x 2)).trans ?_
    rw [h2']
    exact vtBlk_lane _ y1 y2 5 (x 1).val x1_lt (by omega) _ (by rfl)
  · refine (one19_at x).trans ((vtBlk_one (k0_pay8 (F := Ideal) X0 X2) y1 y2 4 (x 1).val x1_lt ?_))
    have h1' : y1.val = 704 + (x 1).val := h1
    omega
  · have h1' : y1.val = 576 + (x 1).val := h1
    have h2' : x 2 = y2 := Fin.ext h2.symm
    rw [eq_ix3 x]
    refine (val18_at (k0_pay8 (F := Ideal) X0 X2) (x 0) (x 1) (x 2)).trans ?_
    rw [h2']
    exact vtBlk_lane _ y1 y2 4 (x 1).val x1_lt (by omega) _ (by rfl)
  · refine (one17_at x).trans ((vtBlk_one (k0_pay8 (F := Ideal) X0 X2) y1 y2 3 (x 1).val x1_lt ?_))
    have h1' : y1.val = 560 + (x 1).val := h1
    omega
  · have h1' : y1.val = 432 + (x 1).val := h1
    have h2' : x 2 = y2 := Fin.ext h2.symm
    rw [eq_ix3 x]
    refine (val16_at (k0_pay8 (F := Ideal) X0 X2) (x 0) (x 1) (x 2)).trans ?_
    rw [h2']
    exact vtBlk_lane _ y1 y2 3 (x 1).val x1_lt (by omega) _ (by rfl)
  · refine (one15_at x).trans ((vtBlk_one (k0_pay8 (F := Ideal) X0 X2) y1 y2 2 (x 1).val x1_lt ?_))
    have h1' : y1.val = 416 + (x 1).val := h1
    omega
  · have h1' : y1.val = 288 + (x 1).val := h1
    have h2' : x 2 = y2 := Fin.ext h2.symm
    rw [eq_ix3 x]
    refine (val14_at X0 X2 (x 0) (x 1) (x 2)).trans ?_
    rw [h2']
    exact vtBlk_lane _ y1 y2 2 (x 1).val x1_lt (by omega) _ (by rfl)
  · refine (one12_at x).trans ((vtBlk_one (k0_pay8 (F := Ideal) X0 X2) y1 y2 1 (x 1).val x1_lt ?_))
    have h1' : y1.val = 272 + (x 1).val := h1
    omega
  · have h1' : y1.val = 144 + (x 1).val := h1
    have h2' : x 2 = y2 := Fin.ext h2.symm
    rw [eq_ix3 x]
    refine (val11_at X0 X2 (x 0) (x 1) (x 2)).trans ?_
    rw [h2']
    exact vtBlk_lane _ y1 y2 1 (x 1).val x1_lt (by omega) _ (by rfl)
  · refine (one10_at x).trans ((vtBlk_one (k0_pay8 (F := Ideal) X0 X2) y1 y2 0 (x 1).val x1_lt ?_))
    have h1' : y1.val = 128 + (x 1).val := h1
    omega
  · have h1' : y1.val = (x 1).val := h1
    have h2' : x 2 = y2 := Fin.ext h2.symm
    rw [eq_ix3 x]
    refine (val9_at X0 X2 (x 0) (x 1) (x 2)).trans ?_
    rw [h2']
    exact vtBlk_lane _ y1 y2 0 (x 1).val x1_lt (by omega) _ (by simp)

/-- A factor that is not negative and not infinite comes out of a sum. -/
theorem sum_scale {n : ℕ} (f : Fin n → EReal) {a : EReal} (h0 : 0 ≤ a) (ht : a ≠ ⊤) : ∑ j, f j * a = (∑ j, f j) * a := by
  refine (Finset.sum_hom_rel (r := fun x y => x = y * a) (by simp) fun j x y hxy => ?_)
  rw [hxy, EReal.right_distrib_of_nonneg_of_ne_top h0 ht]

theorem scale_nonneg : 0 ≤ Ideal.ofBits FTy.f32 0x3E0293EE#32 := by
  simp [Ideal.ofBits, Ideal.ieee, -EReal.coe_mul]

theorem scale_ne_top : Ideal.ofBits FTy.f32 0x3E0293EE#32 ≠ ⊤ := by
  simp [Ideal.ofBits, Ideal.ieee, -EReal.coe_mul]

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0]
    ∧ win0_4.index t = ![t.val / 4, 0, t.val % 4] := by decide +kernel

theorem blk0 (t : Fin cfg0.N) (r : Fin 1024) (j : Fin 1024) :
    iblk m c 0 t (ix2 r j) = m ((c.tc : Thread nD τ).loc main_arg0) (ix2 ⟨t.val * 1024 + r.val, by have : t.val < 16 := t.isLt; omega⟩ j) := by
  blk_point [iblk, V, idx t]
/-- The weight of the queries and keys: the first scaled, the second as it is. -/
def wqkAt (w : S1024x3072.Idx → EReal) (j : Fin 1024) (k : Fin 2048) : EReal :=
  if k.val < 1024 then w (ix2 j ⟨k.val, by omega⟩) * Ideal.ofBits FTy.f32 0x3E0293EE#32 else w (ix2 j ⟨k.val, by omega⟩)

theorem V5_at (r : Fin 1024) (k : Fin 2048) : V m c main_v5 (ix2 r k) = wqkAt (m ((c.tc : Thread nD τ).loc main_arg1)) r k := by
  entry_read
  unfold wqkAt
  pointwise
  by_cases h : k.val < 1024
  · rw [dif_pos h, if_pos h]
  · rw [dif_neg h, if_neg h]
    exact congrArg (fun n => m ((c.tc : Thread nD τ).loc main_arg1) (ix2 r n)) (Fin.ext (by show 1024 + (k.val - 1024) = k.val; omega))

theorem blk1 (t : Fin cfg0.N) (r : Fin 1024) (k : Fin 2048) : iblk m c 1 t (ix2 r k) = wqkAt (m ((c.tc : Thread nD τ).loc main_arg1)) r k := by
  refine Eq.trans ?_ (V5_at m c r k)
  refine congrArg (V m c main_v5) (?_ : ((win0_1.blk t).view.emb (ix2 r k) : S1024x2048.Idx) = ix2 r k)
  blk_ext [idx t]

theorem blk2 (t : Fin cfg0.N) (r : Fin 1024) (j : Fin 1024) :
    iblk m c 2 t (ix2 r j) = m ((c.tc : Thread nD τ).loc main_arg1) (ix2 j ⟨2048 + r.val, by omega⟩) := by
  blk_point [iblk, V, idx t]

theorem final3 : (dats m 0 c).arrAt 3 (cfgs 0).N = fun i : S16384x2048.Idx => qkAt (m ((c.tc : Thread nD τ).loc main_arg0)) (m ((c.tc : Thread nD τ).loc main_arg1)) (i 0) (i 1) := by
  refine (dats m 0 c).arrAt_eq_of_covers 3 _ (by decide +kernel) fun t _ y => ?_
  blk_simp
  rw [after0_3]
  unfold outsAt0
  frame_out
  change S1024x2048.Idx at y
  idx_vars y
  have hrow : (((View.whole main_v9_0).slice (win0_3.rect t)).emb (ix2 y0 y1) : S16384x2048.Idx) = ix2 ⟨t.val * 1024 + y0.val, by have : t.val < 16 := t.isLt; omega⟩ y1 := by
    blk_ext [idx t]
  rw [hrow]
  refine (pay7_at _ _ y0 y1).trans ?_
  show _ = qkAt (m ((c.tc : Thread nD τ).loc main_arg0)) (m ((c.tc : Thread nD τ).loc main_arg1)) ⟨t.val * 1024 + y0.val, by have : t.val < 16 := t.isLt; omega⟩ y1
  unfold qkAt proj
  by_cases h : y1.val < 1024
  · rw [if_pos h, ← sum_scale _ scale_nonneg scale_ne_top]
    refine Finset.sum_congr rfl fun j _ => ?_
    rw [blk0, blk1]
    unfold wqkAt
    rw [if_pos h, mul_assoc]
  · rw [if_neg h]
    refine Finset.sum_congr rfl fun j _ => ?_
    rw [blk0, blk1]
    unfold wqkAt
    rw [if_neg h]

theorem final4 : (dats m 0 c).arrAt 4 (cfgs 0).N = fun i : S4x1152x4096.Idx => vtAt (m ((c.tc : Thread nD τ).loc main_arg0)) (m ((c.tc : Thread nD τ).loc main_arg1)) (i 0) (i 1) (i 2) := by
  refine (dats m 0 c).arrAt_eq_of_covers 4 _ (by decide +kernel) fun t _ y => ?_
  blk_simp
  rw [after0_4]
  unfold outsAt0
  frame_out
  change S1x1152x1024.Idx at y
  idx_vars y
  have hrow : (((View.whole main_v9_1).slice (win0_4.rect t)).emb (ix3 y0 y1 y2) : S4x1152x4096.Idx)
      = ix3 ⟨t.val / 4, by have : t.val < 16 := t.isLt; omega⟩ y1 ⟨t.val % 4 * 1024 + y2.val, by omega⟩ := by
    blk_ext [idx t]
  rw [hrow]
  refine (vt_block (iblk m c 0 t) (iblk m c 2 t) y0 y1 y2).trans ?_
  show _ = vtAt (m ((c.tc : Thread nD τ).loc main_arg0)) (m ((c.tc : Thread nD τ).loc main_arg1)) ⟨t.val / 4, by have : t.val < 16 := t.isLt; omega⟩ y1 ⟨t.val % 4 * 1024 + y2.val, by omega⟩
  unfold vtBlk vtAt
  by_cases h : y1.val % 144 < 128
  · rw [if_pos h, if_pos h, pay8_at]
    unfold proj
    refine Finset.sum_congr rfl fun j _ => ?_
    rw [blk0, blk2, mul_comm]
    refine congrArg (· * _) (congrArg (fun n => m ((c.tc : Thread nD τ).loc main_arg0) (ix2 n j)) (Fin.ext ?_))
    show t.val * 1024 + y2.val = t.val / 4 * 4096 + (t.val % 4 * 1024 + y2.val)
    omega
  · rw [if_neg h, if_neg h]

/-- The kernel's run: its two results, and the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v9_0) = (fun i : S16384x2048.Idx => qkAt (m ((c.tc : Thread nD τ).loc main_arg0)) (m ((c.tc : Thread nD τ).loc main_arg1)) (i 0) (i 1))
      ∧ r.2.mem ((c.tc : Thread nD τ).loc main_v9_1) = (fun i : S4x1152x4096.Idx => vtAt (m ((c.tc : Thread nD τ).loc main_arg0)) (m ((c.tc : Thread nD τ).loc main_arg1)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (final3 m c), (h c).2.1.trans (final4 m c), (h c).2.2⟩) (Value.run_blocks m ρ)

end Cert.QkvIdeal.Hand

end
-- ==== Proof.lean ====
module

public import proofs.«01_k».proof.Proof.Gen.PoolIdeal.Value
public import proofs.«01_k».proof.Proof.Gen.PoolRefIdeal.Run
public import proofs.«01_k».proof.Defs
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.Pre_finite
public import proofs.«01_k».proof.Proof.Gen.Ffn
public import proofs.«01_k».proof.Proof.Gen.FfnIdeal
public import proofs.«01_k».proof.Proof.Gen.FfnIdeal.Frame
public import proofs.«01_k».proof.Proof.Gen.FfnIdeal.Skeleton
public import proofs.«01_k».proof.Proof.Gen.FfnRefIdeal
public import proofs.«01_k».proof.Proof.Gen.FfnRefIdeal.Run
public import proofs.«01_k».proof.Proof.Gen.FfnPre
public import proofs.«01_k».proof.Proof.Gen.FfnPreIdeal
public import proofs.«01_k».proof.Proof.Gen.FfnPreIdeal.Frame
public import proofs.«01_k».proof.Proof.Gen.FfnPreIdeal.Skeleton
public import proofs.«01_k».proof.Proof.Gen.FfnPreRefIdeal
public import proofs.«01_k».proof.Proof.Gen.Qkv
public import proofs.«01_k».proof.Proof.Gen.Qkv.Frame
public import proofs.«01_k».proof.Proof.Gen.QkvIdeal
public import proofs.«01_k».proof.Proof.Gen.QkvIdeal.Value
public import proofs.«01_k».proof.Proof.Gen.QkvRefIdeal
public import proofs.«01_k».proof.Proof.Gen.QkvRefIdeal.Run
public import proofs.«01_k».proof.Proof.PoolRef
public import proofs.«01_k».proof.Proof.FfnBits
public import proofs.«01_k».proof.Proof.FfnIdealFinal
public import proofs.«01_k».proof.Proof.FfnRef
public import proofs.«01_k».proof.Proof.FfnPreBits
public import proofs.«01_k».proof.Proof.FfnPreIdealFinal
public import proofs.«01_k».proof.Proof.FfnPreRef
public import proofs.«01_k».proof.Proof.QkvFinal
public import proofs.«01_k».proof.Proof.QkvRef
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments, and has no semaphore. -/
theorem frame_pool_ref : haveI := Cert.PoolRefIdeal.Gen.facts; Cert.quiescent_PoolRefIdeal := fun m g _ =>
  (θ_run (Cert.PoolRefIdeal.defs (F := Ideal)) _ _).mono
    (fun r h => ⟨fun c => (h c).2, sem_eq_zero_of_no_sems (by decide) r.2⟩) (Cert.PoolRefIdeal.Value.run m g)

/-- The pool mixer layer's kernel computes what its reference does, at finite tokens and a finite projection. -/
theorem pool : haveI := Cert.Pool.Gen.facts; haveI := Cert.PoolIdeal.Gen.facts; haveI := Cert.PoolRefIdeal.Gen.facts; haveI := Cert.Pre_finite.Gen.facts
    Cert.algebraic_PoolIdeal_PoolRefIdeal_pre_finite := by
  intro m g m' g' hpre hag
  refine ⟨fun c => fun i : Cert.PoolIdeal.S16384x1024.Idx => Cert.PoolIdeal.Hand.poolOut (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))
      (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (i 0) (i 1), ?_, ?_⟩
  · refine (θ_run _ _ _).mono (fun r h c => ?_) (Cert.PoolIdeal.Value.run_blocks m g)
    exact ⟨(h c).1.trans (Cert.PoolIdeal.Hand.final m c), (h c).2⟩
  · refine (θ_run _ _ _).mono (fun r h c => ?_) (Cert.PoolRefIdeal.Value.run m' g')
    refine ⟨(h c).1.trans ?_, (h c).2⟩
    obtain ⟨hx, hw⟩ := Cert.PoolRefIdeal.Hand.fin_of_pre _ _ _ _ _ _ _ (hpre c)
    obtain ⟨h0, h1, h2, h3, h4, h5, h6⟩ := hag c
    rw [Cert.PoolRefIdeal.Hand.res_eq, h0, h1, h2, h3, h4, h5, h6]
    exact Cert.PoolRefIdeal.Hand.refOut_at _ _ _ _ _ _ _ hx hw

/-- The feed-forward reference runs, keeps its arguments, and has no semaphore. -/
theorem frame_ffn_ref : haveI := Cert.FfnRefIdeal.Gen.facts; Cert.quiescent_FfnRefIdeal := fun m g _ =>
  (θ_run (Cert.FfnRefIdeal.defs (F := Ideal)) _ _).mono
    (fun r h => ⟨fun c => (h c).2, sem_eq_zero_of_no_sems (by decide) r.2⟩) (Cert.FfnRefIdeal.Value.run m g)

/-- The feed-forward layer's kernel computes what its reference does, at every argument. -/
theorem ffn : haveI := Cert.FfnIdeal.Gen.facts; haveI := Cert.FfnRefIdeal.Gen.facts; Cert.algebraic_FfnIdeal_FfnRefIdeal := by
  intro m g m' g' _ hag
  refine ⟨fun c => fun i : Cert.FfnIdeal.S16384x1024.Idx => Cert.FfnIdeal.Hand.ffnOut (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (i 0) (i 1), Cert.FfnIdeal.Hand.run m g, ?_⟩
  refine (θ_run _ _ _).mono (fun r h c => ?_) (Cert.FfnRefIdeal.Value.run m' g')
  refine ⟨(h c).1.trans ?_, (h c).2⟩
  obtain ⟨h0, h1, h2, h3, h4⟩ := hag c
  rw [Cert.FfnRefIdeal.Hand.res_eq, h0, h1, h2, h3, h4]
  funext i
  obtain ⟨R, k, rfl⟩ : ∃ R k, i = ix2 R k := ⟨i 0, i 1, eq_ix2 i⟩
  exact Cert.FfnRefIdeal.Hand.refOut_at _ _ _ _ _ R k

/-- The reference with the projection in front runs, keeps its arguments, and has no semaphore. -/
theorem frame_pre_ref : haveI := Cert.FfnPreRefIdeal.Gen.facts; Cert.quiescent_FfnPreRefIdeal := fun m g _ =>
  (θ_run (Cert.FfnPreRefIdeal.defs (F := Ideal)) _ _).mono
    (fun r h => ⟨fun c => (h c).2, sem_eq_zero_of_no_sems (by decide) r.2⟩) (Cert.FfnPreRefIdeal.Hand.run m g)

/-- The feed-forward layer's kernel with the projection in front computes what its reference does, at every argument. -/
theorem pre : haveI := Cert.FfnPreIdeal.Gen.facts; haveI := Cert.FfnPreRefIdeal.Gen.facts; Cert.algebraic_FfnPreIdeal_FfnPreRefIdeal := by
  intro m g m' g' _ hag
  refine ⟨fun c => fun i : Cert.FfnPreIdeal.S16384x1024.Idx => Cert.FfnPreIdeal.Hand.preOut (m ((c.tc : Thread Cert.FfnPreIdeal.nD Cert.FfnPreIdeal.τ).loc Cert.FfnPreIdeal.main_arg0)) (m ((c.tc : Thread Cert.FfnPreIdeal.nD Cert.FfnPreIdeal.τ).loc Cert.FfnPreIdeal.main_arg1)) (m ((c.tc : Thread Cert.FfnPreIdeal.nD Cert.FfnPreIdeal.τ).loc Cert.FfnPreIdeal.main_arg2)) (m ((c.tc : Thread Cert.FfnPreIdeal.nD Cert.FfnPreIdeal.τ).loc Cert.FfnPreIdeal.main_arg3)) (m ((c.tc : Thread Cert.FfnPreIdeal.nD Cert.FfnPreIdeal.τ).loc Cert.FfnPreIdeal.main_arg4)) (m ((c.tc : Thread Cert.FfnPreIdeal.nD Cert.FfnPreIdeal.τ).loc Cert.FfnPreIdeal.main_arg5)) (m ((c.tc : Thread Cert.FfnPreIdeal.nD Cert.FfnPreIdeal.τ).loc Cert.FfnPreIdeal.main_arg6)) (m ((c.tc : Thread Cert.FfnPreIdeal.nD Cert.FfnPreIdeal.τ).loc Cert.FfnPreIdeal.main_arg7)) (m ((c.tc : Thread Cert.FfnPreIdeal.nD Cert.FfnPreIdeal.τ).loc Cert.FfnPreIdeal.main_arg8)) (i 0) (i 1), Cert.FfnPreIdeal.Hand.run m g, ?_⟩
  refine (θ_run _ _ _).mono (fun r h c => ?_) (Cert.FfnPreRefIdeal.Hand.run m' g')
  refine ⟨(h c).1.trans ?_, (h c).2⟩
  obtain ⟨h0, h1, h2, h3, h4, h5, h6, h7, h8⟩ := hag c
  rw [h0, h1, h2, h3, h4, h5, h6, h7, h8]
  funext i
  obtain ⟨R, k, rfl⟩ : ∃ R k, i = ix2 R k := ⟨i 0, i 1, eq_ix2 i⟩
  exact Cert.FfnPreRefIdeal.Hand.refOut_at _ _ _ _ _ _ _ _ _ R k

/-- The reference of the attention's input projection runs, keeps its arguments, and has no semaphore. -/
theorem frame_qkv_ref : haveI := Cert.QkvRefIdeal.Gen.facts; Cert.quiescent_QkvRefIdeal := fun m g _ =>
  (θ_run (Cert.QkvRefIdeal.defs (F := Ideal)) _ _).mono
    (fun r h => ⟨fun c => (h c).2.2, sem_eq_zero_of_no_sems (by decide) r.2⟩) (Cert.QkvRefIdeal.Hand.run m g)

/-- The kernel of the attention's input projection computes what its reference does, at every argument. -/
theorem qkv : haveI := Cert.QkvIdeal.Gen.facts; haveI := Cert.QkvRefIdeal.Gen.facts; Cert.algebraic_QkvIdeal_QkvRefIdeal := by
  intro m g m' g' _ hag
  refine ⟨fun c => fun i : Cert.QkvIdeal.S16384x2048.Idx => Cert.QkvRefIdeal.Hand.qkAt (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (i 0) (i 1),
    fun c => fun i : Cert.QkvIdeal.S4x1152x4096.Idx => Cert.QkvRefIdeal.Hand.vtAt (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (i 0) (i 1) (i 2), Cert.QkvIdeal.Hand.run m g, ?_⟩
  refine (θ_run _ _ _).mono (fun r h c => ?_) (Cert.QkvRefIdeal.Hand.run m' g')
  obtain ⟨h0, h1⟩ := hag c
  have hq := (h c).1
  have hv := (h c).2.1
  rw [h0, h1] at hq hv
  exact ⟨hq, hv, (h c).2.2⟩

theorem claim : Cert.Claim := ⟨Cert.Pool.Gen.facts, Cert.PoolIdeal.Gen.facts, Cert.PoolRefIdeal.Gen.facts, Cert.Ffn.Gen.facts, Cert.FfnIdeal.Gen.facts, Cert.FfnRefIdeal.Gen.facts,
  Cert.FfnPre.Gen.facts, Cert.FfnPreIdeal.Gen.facts, Cert.FfnPreRefIdeal.Gen.facts, Cert.Qkv.Gen.facts, Cert.QkvIdeal.Gen.facts, Cert.QkvRefIdeal.Gen.facts, Cert.Pre_finite.Gen.facts,
  fun m g _ => Cert.Pool.Gen.frame m g, fun m g _ => Cert.PoolIdeal.Gen.frame m g, fun m g _ => Cert.PoolIdeal.Gen.frame m g,
  frame_pool_ref, fun m g _ => frame_pool_ref m g trivial,
  Cert.Ffn.Hand.frame, fun m g _ => Cert.FfnIdeal.Hand.frame m g, frame_ffn_ref,
  Cert.FfnPre.Hand.frame, fun m g _ => Cert.FfnPreIdeal.Hand.frame m g, frame_pre_ref,
  fun m g _ => Cert.Qkv.Gen.frame m g, fun m g _ => Cert.QkvIdeal.Gen.frame m g, frame_qkv_ref,
  trivial, pool, trivial, ffn, trivial, pre, trivial, qkv⟩

end Cert.Proof

end
